-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_qk [hPre_finite_qk : Cert.Pre_finite_qk.Facts] (m : (ℓ : Loc Cert.MlaIdeal.nD Cert.MlaIdeal.τ Cert.MlaIdeal.sig) → Buf (Elt Ideal) ℓ) : Prop :=
  ∀ c : Dev Cert.MlaIdeal.nD,
    (Cert.Pre_finite_qk.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_qk [hPre_finite_qk : Cert.Pre_finite_qk.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_qk.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Inf (m : (ℓ : Loc Cert.Inf.nD Cert.Inf.τ Cert.Inf.sig) → Buf (Elt Bits) ℓ) : Prop :=
  True

def Pre_InfIdeal (m : (ℓ : Loc Cert.InfIdeal.nD Cert.InfIdeal.τ Cert.InfIdeal.sig) → Buf (Elt Ideal) ℓ) : Prop :=
  True

def Pre_InfRefIdeal (m : (ℓ : Loc Cert.InfRefIdeal.nD Cert.InfRefIdeal.τ Cert.InfRefIdeal.sig) → Buf (Elt Ideal) ℓ) : Prop :=
  True

def Pre_Fins (m : (ℓ : Loc Cert.Fins.nD Cert.Fins.τ Cert.Fins.sig) → Buf (Elt Bits) ℓ) : Prop :=
  True

def Pre_FinsIdeal (m : (ℓ : Loc Cert.FinsIdeal.nD Cert.FinsIdeal.τ Cert.FinsIdeal.sig) → Buf (Elt Ideal) ℓ) : Prop :=
  True

def Pre_FinsRefIdeal (m : (ℓ : Loc Cert.FinsRefIdeal.nD Cert.FinsRefIdeal.τ Cert.FinsRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_diff [hPre_finite_diff : Cert.Pre_finite_diff.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_diff.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))) = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_qk [hMlaIdeal : Cert.MlaIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_qk m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_qk [hMlaRefIdeal : Cert.MlaRefIdeal.Facts] [hPre_finite_qk : Cert.Pre_finite_qk.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_qk m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1))
      ∧ r.2.sem = fun _ => 0)

def quiescent_Inf [hInf : Cert.Inf.Facts] : Prop :=
  ∀ (m : (ℓ : Loc Cert.Inf.nD Cert.Inf.τ Cert.Inf.sig) → Buf (Elt Bits) ℓ) (g : Dev Cert.Inf.nD → PrngReg), Pre_Inf m →
    θ_run (Cert.Inf.defs (F := Bits)) (onTc (τ := Cert.Inf.τ) (Cert.Inf.main (F := Bits))) ⟨m, fun _ => 0, g⟩ (fun r => (∀ c : Dev Cert.Inf.nD,
      r.2.mem ((c.tc : Thread Cert.Inf.nD Cert.Inf.τ).loc Cert.Inf.main_arg0) = m ((c.tc : Thread Cert.Inf.nD Cert.Inf.τ).loc Cert.Inf.main_arg0)
      ∧ r.2.mem ((c.tc : Thread Cert.Inf.nD Cert.Inf.τ).loc Cert.Inf.main_arg1) = m ((c.tc : Thread Cert.Inf.nD Cert.Inf.τ).loc Cert.Inf.main_arg1)
      ∧ r.2.mem ((c.tc : Thread Cert.Inf.nD Cert.Inf.τ).loc Cert.Inf.main_arg2) = m ((c.tc : Thread Cert.Inf.nD Cert.Inf.τ).loc Cert.Inf.main_arg2))
      ∧ r.2.sem = fun _ => 0)

def quiescent_InfIdeal [hInfIdeal : Cert.InfIdeal.Facts] : Prop :=
  ∀ (m : (ℓ : Loc Cert.InfIdeal.nD Cert.InfIdeal.τ Cert.InfIdeal.sig) → Buf (Elt Ideal) ℓ) (g : Dev Cert.InfIdeal.nD → PrngReg), Pre_InfIdeal m →
    θ_run (Cert.InfIdeal.defs (F := Ideal)) (onTc (τ := Cert.InfIdeal.τ) (Cert.InfIdeal.main (F := Ideal))) ⟨m, fun _ => 0, g⟩ (fun r => (∀ c : Dev Cert.InfIdeal.nD,
      r.2.mem ((c.tc : Thread Cert.InfIdeal.nD Cert.InfIdeal.τ).loc Cert.InfIdeal.main_arg0) = m ((c.tc : Thread Cert.InfIdeal.nD Cert.InfIdeal.τ).loc Cert.InfIdeal.main_arg0)
      ∧ r.2.mem ((c.tc : Thread Cert.InfIdeal.nD Cert.InfIdeal.τ).loc Cert.InfIdeal.main_arg1) = m ((c.tc : Thread Cert.InfIdeal.nD Cert.InfIdeal.τ).loc Cert.InfIdeal.main_arg1)
      ∧ r.2.mem ((c.tc : Thread Cert.InfIdeal.nD Cert.InfIdeal.τ).loc Cert.InfIdeal.main_arg2) = m ((c.tc : Thread Cert.InfIdeal.nD Cert.InfIdeal.τ).loc Cert.InfIdeal.main_arg2))
      ∧ r.2.sem = fun _ => 0)

def quiescent_InfRefIdeal [hInfRefIdeal : Cert.InfRefIdeal.Facts] : Prop :=
  ∀ (m : (ℓ : Loc Cert.InfRefIdeal.nD Cert.InfRefIdeal.τ Cert.InfRefIdeal.sig) → Buf (Elt Ideal) ℓ) (g : Dev Cert.InfRefIdeal.nD → PrngReg), Pre_InfRefIdeal m →
    θ_run (Cert.InfRefIdeal.defs (F := Ideal)) (onTc (τ := Cert.InfRefIdeal.τ) (Cert.InfRefIdeal.main (F := Ideal))) ⟨m, fun _ => 0, g⟩ (fun r => (∀ c : Dev Cert.InfRefIdeal.nD,
      r.2.mem ((c.tc : Thread Cert.InfRefIdeal.nD Cert.InfRefIdeal.τ).loc Cert.InfRefIdeal.main_arg0) = m ((c.tc : Thread Cert.InfRefIdeal.nD Cert.InfRefIdeal.τ).loc Cert.InfRefIdeal.main_arg0)
      ∧ r.2.mem ((c.tc : Thread Cert.InfRefIdeal.nD Cert.InfRefIdeal.τ).loc Cert.InfRefIdeal.main_arg1) = m ((c.tc : Thread Cert.InfRefIdeal.nD Cert.InfRefIdeal.τ).loc Cert.InfRefIdeal.main_arg1)
      ∧ r.2.mem ((c.tc : Thread Cert.InfRefIdeal.nD Cert.InfRefIdeal.τ).loc Cert.InfRefIdeal.main_arg2) = m ((c.tc : Thread Cert.InfRefIdeal.nD Cert.InfRefIdeal.τ).loc Cert.InfRefIdeal.main_arg2))
      ∧ r.2.sem = fun _ => 0)

def quiescent_Fins [hFins : Cert.Fins.Facts] : Prop :=
  ∀ (m : (ℓ : Loc Cert.Fins.nD Cert.Fins.τ Cert.Fins.sig) → Buf (Elt Bits) ℓ) (g : Dev Cert.Fins.nD → PrngReg), Pre_Fins m →
    θ_run (Cert.Fins.defs (F := Bits)) (onTc (τ := Cert.Fins.τ) (Cert.Fins.main (F := Bits))) ⟨m, fun _ => 0, g⟩ (fun r => (∀ c : Dev Cert.Fins.nD,
      r.2.mem ((c.tc : Thread Cert.Fins.nD Cert.Fins.τ).loc Cert.Fins.main_arg0) = m ((c.tc : Thread Cert.Fins.nD Cert.Fins.τ).loc Cert.Fins.main_arg0)
      ∧ r.2.mem ((c.tc : Thread Cert.Fins.nD Cert.Fins.τ).loc Cert.Fins.main_arg1) = m ((c.tc : Thread Cert.Fins.nD Cert.Fins.τ).loc Cert.Fins.main_arg1))
      ∧ r.2.sem = fun _ => 0)

def quiescent_FinsIdeal [hFinsIdeal : Cert.FinsIdeal.Facts] : Prop :=
  ∀ (m : (ℓ : Loc Cert.FinsIdeal.nD Cert.FinsIdeal.τ Cert.FinsIdeal.sig) → Buf (Elt Ideal) ℓ) (g : Dev Cert.FinsIdeal.nD → PrngReg), Pre_FinsIdeal m →
    θ_run (Cert.FinsIdeal.defs (F := Ideal)) (onTc (τ := Cert.FinsIdeal.τ) (Cert.FinsIdeal.main (F := Ideal))) ⟨m, fun _ => 0, g⟩ (fun r => (∀ c : Dev Cert.FinsIdeal.nD,
      r.2.mem ((c.tc : Thread Cert.FinsIdeal.nD Cert.FinsIdeal.τ).loc Cert.FinsIdeal.main_arg0) = m ((c.tc : Thread Cert.FinsIdeal.nD Cert.FinsIdeal.τ).loc Cert.FinsIdeal.main_arg0)
      ∧ r.2.mem ((c.tc : Thread Cert.FinsIdeal.nD Cert.FinsIdeal.τ).loc Cert.FinsIdeal.main_arg1) = m ((c.tc : Thread Cert.FinsIdeal.nD Cert.FinsIdeal.τ).loc Cert.FinsIdeal.main_arg1))
      ∧ r.2.sem = fun _ => 0)

def quiescent_FinsRefIdeal [hFinsRefIdeal : Cert.FinsRefIdeal.Facts] : Prop :=
  ∀ (m : (ℓ : Loc Cert.FinsRefIdeal.nD Cert.FinsRefIdeal.τ Cert.FinsRefIdeal.sig) → Buf (Elt Ideal) ℓ) (g : Dev Cert.FinsRefIdeal.nD → PrngReg), Pre_FinsRefIdeal m →
    θ_run (Cert.FinsRefIdeal.defs (F := Ideal)) (onTc (τ := Cert.FinsRefIdeal.τ) (Cert.FinsRefIdeal.main (F := Ideal))) ⟨m, fun _ => 0, g⟩ (fun r => (∀ c : Dev Cert.FinsRefIdeal.nD,
      r.2.mem ((c.tc : Thread Cert.FinsRefIdeal.nD Cert.FinsRefIdeal.τ).loc Cert.FinsRefIdeal.main_arg0) = m ((c.tc : Thread Cert.FinsRefIdeal.nD Cert.FinsRefIdeal.τ).loc Cert.FinsRefIdeal.main_arg0)
      ∧ r.2.mem ((c.tc : Thread Cert.FinsRefIdeal.nD Cert.FinsRefIdeal.τ).loc Cert.FinsRefIdeal.main_arg1) = m ((c.tc : Thread Cert.FinsRefIdeal.nD Cert.FinsRefIdeal.τ).loc Cert.FinsRefIdeal.main_arg1))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_DiffRefIdeal_pre_finite_diff [hDiffRefIdeal : Cert.DiffRefIdeal.Facts] [hPre_finite_diff : Cert.Pre_finite_diff.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_diff m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def preserves_Mla_MlaIdeal : Prop :=
  IdealRules.named_const.Statement Cert.MlaIdeal.κ "mask" .f32 0xF149F2CA#32 ⊥

def algebraic_MlaIdeal_MlaRefIdeal_pre_finite_qk [hMlaIdeal : Cert.MlaIdeal.Facts] [hMlaRefIdeal : Cert.MlaRefIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_qk m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v24) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v56) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v17) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v22) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)) →
    ∃ (v0 : (c : Dev Cert.FinIdeal.nD) → Buf (Elt Ideal) ((c.tc : Thread Cert.FinIdeal.nD Cert.FinIdeal.τ).loc Cert.FinIdeal.main_v1)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v1) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v12) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1))

def preserves_Inf_InfIdeal : Prop :=
  True

def algebraic_InfIdeal_InfRefIdeal [hInfIdeal : Cert.InfIdeal.Facts] [hInfRefIdeal : Cert.InfRefIdeal.Facts] : Prop :=
  ∀ (m : (ℓ : Loc Cert.InfIdeal.nD Cert.InfIdeal.τ Cert.InfIdeal.sig) → Buf (Elt Ideal) ℓ) (g : Dev Cert.InfIdeal.nD → PrngReg)
    (m' : (ℓ : Loc Cert.InfRefIdeal.nD Cert.InfRefIdeal.τ Cert.InfRefIdeal.sig) → Buf (Elt Ideal) ℓ) (g' : Dev Cert.InfRefIdeal.nD → PrngReg), Pre_InfIdeal m →
    (∀ c : Dev Cert.InfIdeal.nD,
      m' ((c.tc : Thread Cert.InfRefIdeal.nD Cert.InfRefIdeal.τ).loc Cert.InfRefIdeal.main_arg0) = m ((c.tc : Thread Cert.InfIdeal.nD Cert.InfIdeal.τ).loc Cert.InfIdeal.main_arg0)
      ∧ m' ((c.tc : Thread Cert.InfRefIdeal.nD Cert.InfRefIdeal.τ).loc Cert.InfRefIdeal.main_arg1) = m ((c.tc : Thread Cert.InfIdeal.nD Cert.InfIdeal.τ).loc Cert.InfIdeal.main_arg1)
      ∧ m' ((c.tc : Thread Cert.InfRefIdeal.nD Cert.InfRefIdeal.τ).loc Cert.InfRefIdeal.main_arg2) = m ((c.tc : Thread Cert.InfIdeal.nD Cert.InfIdeal.τ).loc Cert.InfIdeal.main_arg2)) →
    ∃ (v0 : (c : Dev Cert.InfIdeal.nD) → Buf (Elt Ideal) ((c.tc : Thread Cert.InfIdeal.nD Cert.InfIdeal.τ).loc Cert.InfIdeal.main_v3)),
      θ_run (Cert.InfIdeal.defs (F := Ideal)) (onTc (τ := Cert.InfIdeal.τ) (Cert.InfIdeal.main (F := Ideal))) ⟨m, fun _ => 0, g⟩ (fun r => ∀ c : Dev Cert.InfIdeal.nD,
          r.2.mem ((c.tc : Thread Cert.InfIdeal.nD Cert.InfIdeal.τ).loc Cert.InfIdeal.main_v3) = v0 c
          ∧ r.2.mem ((c.tc : Thread Cert.InfIdeal.nD Cert.InfIdeal.τ).loc Cert.InfIdeal.main_arg0) = m ((c.tc : Thread Cert.InfIdeal.nD Cert.InfIdeal.τ).loc Cert.InfIdeal.main_arg0)
          ∧ r.2.mem ((c.tc : Thread Cert.InfIdeal.nD Cert.InfIdeal.τ).loc Cert.InfIdeal.main_arg1) = m ((c.tc : Thread Cert.InfIdeal.nD Cert.InfIdeal.τ).loc Cert.InfIdeal.main_arg1)
          ∧ r.2.mem ((c.tc : Thread Cert.InfIdeal.nD Cert.InfIdeal.τ).loc Cert.InfIdeal.main_arg2) = m ((c.tc : Thread Cert.InfIdeal.nD Cert.InfIdeal.τ).loc Cert.InfIdeal.main_arg2))
      ∧ θ_run (Cert.InfRefIdeal.defs (F := Ideal)) (onTc (τ := Cert.InfRefIdeal.τ) (Cert.InfRefIdeal.main (F := Ideal))) ⟨m', fun _ => 0, g'⟩ (fun r => ∀ c : Dev Cert.InfRefIdeal.nD,
          r.2.mem ((c.tc : Thread Cert.InfRefIdeal.nD Cert.InfRefIdeal.τ).loc Cert.InfRefIdeal.main_v13) = v0 c
          ∧ r.2.mem ((c.tc : Thread Cert.InfRefIdeal.nD Cert.InfRefIdeal.τ).loc Cert.InfRefIdeal.main_arg0) = m' ((c.tc : Thread Cert.InfRefIdeal.nD Cert.InfRefIdeal.τ).loc Cert.InfRefIdeal.main_arg0)
          ∧ r.2.mem ((c.tc : Thread Cert.InfRefIdeal.nD Cert.InfRefIdeal.τ).loc Cert.InfRefIdeal.main_arg1) = m' ((c.tc : Thread Cert.InfRefIdeal.nD Cert.InfRefIdeal.τ).loc Cert.InfRefIdeal.main_arg1)
          ∧ r.2.mem ((c.tc : Thread Cert.InfRefIdeal.nD Cert.InfRefIdeal.τ).loc Cert.InfRefIdeal.main_arg2) = m' ((c.tc : Thread Cert.InfRefIdeal.nD Cert.InfRefIdeal.τ).loc Cert.InfRefIdeal.main_arg2))

def preserves_Fins_FinsIdeal : Prop :=
  True

def algebraic_FinsIdeal_FinsRefIdeal [hFinsIdeal : Cert.FinsIdeal.Facts] [hFinsRefIdeal : Cert.FinsRefIdeal.Facts] : Prop :=
  ∀ (m : (ℓ : Loc Cert.FinsIdeal.nD Cert.FinsIdeal.τ Cert.FinsIdeal.sig) → Buf (Elt Ideal) ℓ) (g : Dev Cert.FinsIdeal.nD → PrngReg)
    (m' : (ℓ : Loc Cert.FinsRefIdeal.nD Cert.FinsRefIdeal.τ Cert.FinsRefIdeal.sig) → Buf (Elt Ideal) ℓ) (g' : Dev Cert.FinsRefIdeal.nD → PrngReg), Pre_FinsIdeal m →
    (∀ c : Dev Cert.FinsIdeal.nD,
      m' ((c.tc : Thread Cert.FinsRefIdeal.nD Cert.FinsRefIdeal.τ).loc Cert.FinsRefIdeal.main_arg0) = m ((c.tc : Thread Cert.FinsIdeal.nD Cert.FinsIdeal.τ).loc Cert.FinsIdeal.main_arg0)
      ∧ m' ((c.tc : Thread Cert.FinsRefIdeal.nD Cert.FinsRefIdeal.τ).loc Cert.FinsRefIdeal.main_arg1) = m ((c.tc : Thread Cert.FinsIdeal.nD Cert.FinsIdeal.τ).loc Cert.FinsIdeal.main_arg1)) →
    ∃ (v0 : (c : Dev Cert.FinsIdeal.nD) → Buf (Elt Ideal) ((c.tc : Thread Cert.FinsIdeal.nD Cert.FinsIdeal.τ).loc Cert.FinsIdeal.main_v1)),
      θ_run (Cert.FinsIdeal.defs (F := Ideal)) (onTc (τ := Cert.FinsIdeal.τ) (Cert.FinsIdeal.main (F := Ideal))) ⟨m, fun _ => 0, g⟩ (fun r => ∀ c : Dev Cert.FinsIdeal.nD,
          r.2.mem ((c.tc : Thread Cert.FinsIdeal.nD Cert.FinsIdeal.τ).loc Cert.FinsIdeal.main_v1) = v0 c
          ∧ r.2.mem ((c.tc : Thread Cert.FinsIdeal.nD Cert.FinsIdeal.τ).loc Cert.FinsIdeal.main_arg0) = m ((c.tc : Thread Cert.FinsIdeal.nD Cert.FinsIdeal.τ).loc Cert.FinsIdeal.main_arg0)
          ∧ r.2.mem ((c.tc : Thread Cert.FinsIdeal.nD Cert.FinsIdeal.τ).loc Cert.FinsIdeal.main_arg1) = m ((c.tc : Thread Cert.FinsIdeal.nD Cert.FinsIdeal.τ).loc Cert.FinsIdeal.main_arg1))
      ∧ θ_run (Cert.FinsRefIdeal.defs (F := Ideal)) (onTc (τ := Cert.FinsRefIdeal.τ) (Cert.FinsRefIdeal.main (F := Ideal))) ⟨m', fun _ => 0, g'⟩ (fun r => ∀ c : Dev Cert.FinsRefIdeal.nD,
          r.2.mem ((c.tc : Thread Cert.FinsRefIdeal.nD Cert.FinsRefIdeal.τ).loc Cert.FinsRefIdeal.main_v12) = v0 c
          ∧ r.2.mem ((c.tc : Thread Cert.FinsRefIdeal.nD Cert.FinsRefIdeal.τ).loc Cert.FinsRefIdeal.main_arg0) = m' ((c.tc : Thread Cert.FinsRefIdeal.nD Cert.FinsRefIdeal.τ).loc Cert.FinsRefIdeal.main_arg0)
          ∧ r.2.mem ((c.tc : Thread Cert.FinsRefIdeal.nD Cert.FinsRefIdeal.τ).loc Cert.FinsRefIdeal.main_arg1) = m' ((c.tc : Thread Cert.FinsRefIdeal.nD Cert.FinsRefIdeal.τ).loc Cert.FinsRefIdeal.main_arg1))

def preserves_Diff_DiffIdeal : Prop :=
  IdealRules.named_const.Statement Cert.DiffIdeal.κ "mask" .f32 0xF149F2CA#32 ⊥

def algebraic_DiffIdeal_DiffRefIdeal_pre_finite_diff [hDiffIdeal : Cert.DiffIdeal.Facts] [hDiffRefIdeal : Cert.DiffRefIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_diff m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)) →
    ∃ (v0 : (c : Dev Cert.DiffIdeal.nD) → Buf (Elt Ideal) ((c.tc : Thread Cert.DiffIdeal.nD Cert.DiffIdeal.τ).loc Cert.DiffIdeal.main_v5)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v5) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v95) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6))

def Claim : Prop :=
  ∃ (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hPle : Cert.Ple.Facts) (hPleIdeal : Cert.PleIdeal.Facts) (hPleRefIdeal : Cert.PleRefIdeal.Facts) (hFin : Cert.Fin.Facts) (hFinIdeal : Cert.FinIdeal.Facts) (hFinRefIdeal : Cert.FinRefIdeal.Facts) (hInf : Cert.Inf.Facts) (hInfIdeal : Cert.InfIdeal.Facts) (hInfRefIdeal : Cert.InfRefIdeal.Facts) (hFins : Cert.Fins.Facts) (hFinsIdeal : Cert.FinsIdeal.Facts) (hFinsRefIdeal : Cert.FinsRefIdeal.Facts) (hDiff : Cert.Diff.Facts) (hDiffIdeal : Cert.DiffIdeal.Facts) (hDiffRefIdeal : Cert.DiffRefIdeal.Facts) (hPre_finite_qk : Cert.Pre_finite_qk.Facts) (hPre_finite_diff : Cert.Pre_finite_diff.Facts),
    quiescent_Mla (hMla := hMla)
    ∧ quiescent_MlaIdeal (hMlaIdeal := hMlaIdeal)
    ∧ quiescent_MlaIdeal_pre_finite_qk (hMlaIdeal := hMlaIdeal) (hPre_finite_qk := hPre_finite_qk)
    ∧ quiescent_MlaRefIdeal (hMlaRefIdeal := hMlaRefIdeal)
    ∧ quiescent_MlaRefIdeal_pre_finite_qk (hMlaRefIdeal := hMlaRefIdeal) (hPre_finite_qk := hPre_finite_qk)
    ∧ quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Ple (hPle := hPle)
    ∧ quiescent_PleIdeal (hPleIdeal := hPleIdeal)
    ∧ quiescent_PleRefIdeal (hPleRefIdeal := hPleRefIdeal)
    ∧ quiescent_Fin (hFin := hFin)
    ∧ quiescent_FinIdeal (hFinIdeal := hFinIdeal)
    ∧ quiescent_FinRefIdeal (hFinRefIdeal := hFinRefIdeal)
    ∧ quiescent_Inf (hInf := hInf)
    ∧ quiescent_InfIdeal (hInfIdeal := hInfIdeal)
    ∧ quiescent_InfRefIdeal (hInfRefIdeal := hInfRefIdeal)
    ∧ quiescent_Fins (hFins := hFins)
    ∧ quiescent_FinsIdeal (hFinsIdeal := hFinsIdeal)
    ∧ quiescent_FinsRefIdeal (hFinsRefIdeal := hFinsRefIdeal)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffRefIdeal (hDiffRefIdeal := hDiffRefIdeal)
    ∧ quiescent_DiffRefIdeal_pre_finite_diff (hDiffRefIdeal := hDiffRefIdeal) (hPre_finite_diff := hPre_finite_diff)
    ∧ preserves_Mla_MlaIdeal
    ∧ algebraic_MlaIdeal_MlaRefIdeal_pre_finite_qk (hMlaIdeal := hMlaIdeal) (hMlaRefIdeal := hMlaRefIdeal) (hPre_finite_qk := hPre_finite_qk)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Ple_PleIdeal
    ∧ algebraic_PleIdeal_PleRefIdeal (hPleIdeal := hPleIdeal) (hPleRefIdeal := hPleRefIdeal)
    ∧ preserves_Fin_FinIdeal
    ∧ algebraic_FinIdeal_FinRefIdeal (hFinIdeal := hFinIdeal) (hFinRefIdeal := hFinRefIdeal)
    ∧ preserves_Inf_InfIdeal
    ∧ algebraic_InfIdeal_InfRefIdeal (hInfIdeal := hInfIdeal) (hInfRefIdeal := hInfRefIdeal)
    ∧ preserves_Fins_FinsIdeal
    ∧ algebraic_FinsIdeal_FinsRefIdeal (hFinsIdeal := hFinsIdeal) (hFinsRefIdeal := hFinsRefIdeal)
    ∧ preserves_Diff_DiffIdeal
    ∧ algebraic_DiffIdeal_DiffRefIdeal_pre_finite_diff (hDiffIdeal := hDiffIdeal) (hDiffRefIdeal := hDiffRefIdeal) (hPre_finite_diff := hPre_finite_diff)
-- ==== Pre_finite_diff.lean ====
abbrev S32768x3072 : Shape := ⟨2, ![32768, 3072]⟩
abbrev S4 : Shape := ⟨1, ![4]⟩
abbrev S64 : Shape := ⟨1, ![64]⟩
abbrev S128 : Shape := ⟨1, ![128]⟩
abbrev S32768x1536 : Shape := ⟨2, ![32768, 1536]⟩
abbrev S_ : Shape := ⟨0, ![]⟩

class Facts : Prop where
  slices_S32768x3072_S32768x1536_0_1536 : S32768x3072.Slices ![0, 1536] S32768x1536
  bitsLt_bf16_f32 : FTy.bits .bf16 < FTy.bits .f32
  bcast_S_S32768x1536 : S_.BroadcastsInDim S32768x1536 (![] : Fin 0 → Fin S32768x1536.rank)
  reducesTo_S32768x1536_S_d0_1 : S32768x1536.ReducesTo [0, 1] S_
  h_S_ : 0 < S_.numel
  bcast_S_S4 : S_.BroadcastsInDim S4 (![] : Fin 0 → Fin S4.rank)
  reducesTo_S4_S_d0 : S4.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v15 : IVec S_ 1) (main_v16 : FVec F S64 .f32) (main_cst_4 : FVec F S_ .f32) : IVec S_ 1 :=
  let main_v17 : FVec F S64 .f32 := broadcastInDim S64 ![] bcast_S_S64 main_cst_4
  let main_v18 : IVec S64 1 := cmpf .olt main_v16 main_v17
  let main_c_5 : IVec S_ 1 := constantI S_ 1 1#1
  let main_v19 : IVec S_ 1 := (fun x v => Host.reduce IntOp.andi x v reducesTo_S64_S_d0 h_S_) main_v18 main_c_5
  let main_v20 : IVec S_ 1 := andi main_v15 main_v19
  let main_v21 : FVec F S64 .f32 := Host.absf main_arg4
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_c_7 : IVec S_ 1 := constantI S_ 1 1#1
  let main_v24 : IVec S_ 1 := (fun x v => Host.reduce IntOp.andi x v reducesTo_S64_S_d0 h_S_) main_v23 main_c_7
  let main_v25 : IVec S_ 1 := andi main_v20 main_v24
  let main_v26 : FVec F S64 .f32 := Host.absf main_arg5
  let main_cst_8 : FVec F S_ .f32 := constant S_ .f32 0x7F800000#32
  let main_v27 : FVec F S64 .f32 := broadcastInDim S64 ![] bcast_S_S64 main_cst_8
  let main_v28 : IVec S64 1 := cmpf .olt main_v26 main_v27
  let main_c_9 : IVec S_ 1 := constantI S_ 1 1#1
  let main_v29 : IVec S_ 1 := (fun x v => Host.reduce IntOp.andi x v reducesTo_S64_S_d0 h_S_) main_v28 main_c_9
  let main_v30 : IVec S_ 1 := andi main_v25 main_v29
  main_v30

def fn {F : FTy → Type} [FloatOps F] (main_arg0 : FVec F S32768x3072 .bf16) (main_arg1 : FVec F S4 .f32) (main_arg2 : FVec F S64 .f32) (main_arg3 : FVec F S64 .f32) (main_arg4 : FVec F S64 .f32) (main_arg5 : FVec F S64 .f32) (main_arg6 : FVec F S128 .f32) : IVec S_ 1 :=
  let main_v0 : FVec F S32768x1536 .bf16 := (extractStridedSlice S32768x1536 ![0, 1536] · slices_S32768x3072_S32768x1536_0_1536) main_arg0
  let main_v1 : FVec F S32768x1536 .f32 := (extf .f32 · bitsLt_bf16_f32) main_v0
  let main_v2 : FVec F S32768x1536 .f32 := Host.absf main_v1
  let main_cst : FVec F S_ .f32 := constant S_ .f32 0x7F800000#32
  let main_v3 : FVec F S32768x1536 .f32 := broadcastInDim S32768x1536 ![] bcast_S_S32768x1536 main_cst
  let main_v4 : IVec S32768x1536 1 := cmpf .olt main_v2 main_v3
  let main_c : IVec S_ 1 := constantI S_ 1 1#1
  let main_v5 : IVec S_ 1 := (fun x v => Host.reduce IntOp.andi x v reducesTo_S32768x1536_S_d0_1 h_S_) main_v4 main_c
  let main_v6 : FVec F S4 .f32 := Host.absf main_arg1
  let main_cst_0 : FVec F S_ .f32 := constant S_ .f32 0x7F800000#32
  let main_v7 : FVec F S4 .f32 := broadcastInDim S4 ![] bcast_S_S4 main_cst_0
  let main_v8 : IVec S4 1 := cmpf .olt main_v6 main_v7
  let main_c_1 : IVec S_ 1 := constantI S_ 1 1#1
  let main_v9 : IVec S_ 1 := (fun x v => Host.reduce IntOp.andi x v reducesTo_S4_S_d0 h_S_) main_v8 main_c_1
  let main_v10 : IVec S_ 1 := andi main_v5 main_v9
  let main_v11 : FVec F S64 .f32 := Host.absf main_arg2
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_c_3 : IVec S_ 1 := constantI S_ 1 1#1
  let main_v14 : IVec S_ 1 := (fun x v => Host.reduce IntOp.andi x v reducesTo_S64_S_d0 h_S_) main_v13 main_c_3
  let main_v15 : IVec S_ 1 := andi main_v10 main_v14
  let main_v16 : FVec F S64 .f32 := Host.absf main_arg3
  let main_cst_4 : FVec F S_ .f32 := constant S_ .f32 0x7F800000#32
  fn_part1 (F := F) main_arg4 main_arg5 main_v15 main_v16 main_cst_4
-- ==== Pre_finite_qk.lean ====
abbrev S32768x2048 : Shape := ⟨2, ![32768, 2048]⟩
abbrev S32768x1024 : Shape := ⟨2, ![32768, 1024]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .bf16) (main_arg1 : FVec F S32768x2048 .bf16) (main_arg2 : FVec F S32768x1024 .bf16) : IVec S_ 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_c : IVec S_ 1 := constantI S_ 1 1#1
  let main_v4 : IVec S_ 1 := (fun x v => Host.reduce IntOp.andi x v reducesTo_S32768x2048_S_d0_1 h_S_) main_v3 main_c
  let main_v5 : FVec F S32768x2048 .f32 := (extf .f32 · bitsLt_bf16_f32) main_arg1
  let main_v6 : FVec F S32768x2048 .f32 := Host.absf main_v5
  let main_cst_0 : FVec F S_ .f32 := constant S_ .f32 0x7F800000#32
  let main_v7 : FVec F S32768x2048 .f32 := broadcastInDim S32768x2048 ![] bcast_S_S32768x2048 main_cst_0
  let main_v8 : IVec S32768x2048 1 := cmpf .olt main_v6 main_v7
  let main_c_1 : IVec S_ 1 := constantI S_ 1 1#1
  let main_v9 : IVec S_ 1 := (fun x v => Host.reduce IntOp.andi x v reducesTo_S32768x2048_S_d0_1 h_S_) main_v8 main_c_1
  let main_v10 : IVec S_ 1 := andi main_v4 main_v9
  main_v10
-- ==== Mla.lean ====
abbrev S32768x2048 : Shape := ⟨2, ![32768, 2048]⟩
abbrev S32768x1024 : Shape := ⟨2, ![32768, 1024]⟩
abbrev S1024x256 : Shape := ⟨2, ![1024, 256]⟩
abbrev S2048x256 : Shape := ⟨2, ![2048, 256]⟩
abbrev S2048x128 : Shape := ⟨2, ![2048, 128]⟩
abbrev S1024x128 : Shape := ⟨2, ![1024, 128]⟩
abbrev S512x256 : Shape := ⟨2, ![512, 256]⟩
abbrev S1024x512 : Shape := ⟨2, ![1024, 512]⟩
abbrev S512x128 : Shape := ⟨2, ![512, 128]⟩
abbrev S1024 : Shape := ⟨1, ![1024]⟩
abbrev S1024x1 : Shape := ⟨2, ![1024, 1]⟩

abbrev nBuf : Space → Nat
  | .hbm => 4
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1024, .bf16⟩
  | .hbm, ⟨3, _⟩ => ⟨S32768x1024, .bf16⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 2, 16, 8], ![false, false, false, false]⟩

@[reducible] def k0_t1_loop : Scf.Loop 32 :=
  let c0_i32_2 : BitVec 32 := 0#32
  let c4_i32 : BitVec 32 := 4#32
  let v4 : BitVec 32 := Scalar.addi c0_i32_2 c4_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c512_i32 : BitVec 32 := 512#32
  let v8 : BitVec 32 := Scalar.muli arg11 c512_i32
  v8
def k0_off1 (k0_t1 : Fin k0_t1_loop.trips) : Fin 2 → Nat :=
  let c0_i32_2 : BitVec 32 := 0#32
  let c1_i32 : BitVec 32 := 1#32
  let arg11 : BitVec 32 := Scf.iv c0_i32_2 c1_i32 k0_t1
  let c512_i32 : BitVec 32 := 512#32
  let v8 : BitVec 32 := Scalar.muli arg11 c512_i32
  let v9 : BitVec 32 := v8
  let v10 : Index := Scalar.indexCast v9
  let c0_5 : Index := 0#32
  ![v10.toNat, 0]
def k0_off2 (k0_t1 : Fin k0_t1_loop.trips) : Fin 2 → Nat :=
  let c0_i32_2 : BitVec 32 := 0#32
  let c1_i32 : BitVec 32 := 1#32
  let arg11 : BitVec 32 := Scf.iv c0_i32_2 c1_i32 k0_t1
  let c512_i32 : BitVec 32 := 512#32
  let v8 : BitVec 32 := Scalar.muli arg11 c512_i32
  let v9 : BitVec 32 := v8
  let v13 : Index := Scalar.indexCast v9
  let c0_6 : Index := 0#32
  ![v13.toNat, 0]
def k0_cond2 (i : grid0.Coords) : BitVec 1 :=
  let arg3 : BitVec 32 := BitVec.ofNat 32 (i 3).val
  let c7_i32 : BitVec 32 := 7#32
  let v5 : BitVec 1 := Scalar.cmpi .eq arg3 c7_i32
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c0_i32 : BitVec 32 := 0#32
  ![v1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== MlaIdeal.lean ====
variable {F : FTy → Type} [FloatOps F] [Named F]
def κ : String → Option EReal := fun
  | "mask" => some ⊥
  | _ => none
-- ==== MlaRefIdeal.lean ====
abbrev S32768x2048 : Shape := ⟨2, ![32768, 2048]⟩
abbrev S32768x1024 : Shape := ⟨2, ![32768, 1024]⟩
abbrev S2x16384x8x256 : Shape := ⟨4, ![2, 16384, 8, 256]⟩
abbrev S2x16384x8x128 : Shape := ⟨4, ![2, 16384, 8, 128]⟩
abbrev S2x8x16384x16384 : Shape := ⟨4, ![2, 8, 16384, 16384]⟩
abbrev S_ : Shape := ⟨0, ![]⟩
abbrev S2x8x16384 : Shape := ⟨3, ![2, 8, 16384]⟩
abbrev S2x8x16384x1 : Shape := ⟨4, ![2, 8, 16384, 1]⟩
abbrev S2x8x128x16384 : Shape := ⟨4, ![2, 8, 128, 16384]⟩

abbrev nBuf : Space → Nat
  | .hbm => 32
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1024, .bf16⟩
  | .hbm, ⟨3, _⟩ => ⟨S32768x2048, .f32⟩
  | .hbm, ⟨4, _⟩ => ⟨S2x16384x8x256, .f32⟩
  | .hbm, ⟨5, _⟩ => ⟨S32768x2048, .f32⟩
  | .hbm, ⟨6, _⟩ => ⟨S2x16384x8x256, .f32⟩
  | .hbm, ⟨7, _⟩ => ⟨S32768x1024, .f32⟩
  | .hbm, ⟨8, _⟩ => ⟨S2x16384x8x128, .f32⟩
  | .hbm, ⟨9, _⟩ => ⟨S2x8x16384x16384, .f32⟩
  | .hbm, ⟨10, _⟩ => ⟨S_, .f32⟩
  | .hbm, ⟨11, _⟩ => ⟨S_, .f32⟩
  | .hbm, ⟨12, _⟩ => ⟨S2x8x16384x16384, .f32⟩
  | .hbm, ⟨13, _⟩ => ⟨S2x8x16384x16384, .f32⟩
  | .hbm, ⟨14, _⟩ => ⟨S_, .f32⟩
  | .hbm, ⟨15, _⟩ => ⟨S2x8x16384, .f32⟩
  | .hbm, ⟨16, _⟩ => ⟨S_, .f32⟩
  | .hbm, ⟨17, _⟩ => ⟨S2x8x16384, .f32⟩
  | .hbm, ⟨18, _⟩ => ⟨S2x8x16384, .f32⟩
  | .hbm, ⟨19, _⟩ => ⟨S2x8x16384x1, .f32⟩
  | .hbm, ⟨20, _⟩ => ⟨S2x8x16384x16384, .f32⟩
  | .hbm, ⟨21, _⟩ => ⟨S2x8x16384x16384, .f32⟩
  | .hbm, ⟨22, _⟩ => ⟨S2x8x16384x16384, .f32⟩
  | .hbm, ⟨23, _⟩ => ⟨S_, .f32⟩
  | .hbm, ⟨24, _⟩ => ⟨S2x8x16384, .f32⟩
  | .hbm, ⟨25, _⟩ => ⟨S2x8x16384x1, .f32⟩
  | .hbm, ⟨26, _⟩ => ⟨S2x8x16384x16384, .f32⟩
  | .hbm, ⟨27, _⟩ => ⟨S2x8x16384x16384, .f32⟩
  | .hbm, ⟨28, _⟩ => ⟨S2x8x128x16384, .f32⟩
  | .hbm, ⟨29, _⟩ => ⟨S2x16384x8x128, .f32⟩
  | .hbm, ⟨30, _⟩ => ⟨S32768x1024, .f32⟩
  | .hbm, ⟨31, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Ffn.lean ====
abbrev S2x16384x2048 : Shape := ⟨3, ![2, 16384, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S32768x2048 : Shape := ⟨2, ![32768, 2048]⟩
abbrev S1x2048 : Shape := ⟨2, ![1, 2048]⟩
abbrev S1x5632 : Shape := ⟨2, ![1, 5632]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S528x2048 : Shape := ⟨2, ![528, 2048]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x512 : Shape := ⟨2, ![528, 512]⟩
abbrev S512x512 : Shape := ⟨2, ![512, 512]⟩

abbrev nBuf : Space → Nat
  | .hbm => 12
  | .vmem => 20
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S32768x2048, .f32⟩
  | .hbm, ⟨7, _⟩ => ⟨S1x2048, .f32⟩
  | .hbm, ⟨8, _⟩ => ⟨S2048x11264, .bf16⟩
  | .hbm, ⟨9, _⟩ => ⟨S1x5632, .f32⟩
  | .hbm, ⟨10, _⟩ => ⟨S5632x2048, .bf16⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S512x2048, .bf16⟩
  | .local _ .vmem, ⟨16, _⟩ => ⟨S512x2048, .bf16⟩
  | .local _ .vmem, ⟨17, _⟩ => ⟨S512x2048, .f32⟩
  | .local _ .vmem, ⟨18, _⟩ => ⟨S512x2048, .f32⟩
  | .local _ .vmem, ⟨19, _⟩ => ⟨S528x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnRefIdeal.lean ====
abbrev S2x16384x2048 : Shape := ⟨3, ![2, 16384, 2048]⟩
abbrev S2048 : Shape := ⟨1, ![2048]⟩
abbrev S2048x11264 : Shape := ⟨2, ![2048, 11264]⟩
abbrev S3x5632 : Shape := ⟨2, ![3, 5632]⟩
abbrev S5632 : Shape := ⟨1, ![5632]⟩
abbrev S5632x2048 : Shape := ⟨2, ![5632, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x11264 : Shape := ⟨3, ![2, 16384, 11264]⟩
abbrev S2x16384x5632 : Shape := ⟨3, ![2, 16384, 5632]⟩
abbrev S2x16386x5632 : Shape := ⟨3, ![2, 16386, 5632]⟩
abbrev S1x5632 : Shape := ⟨2, ![1, 5632]⟩
abbrev S1x1x5632 : Shape := ⟨3, ![1, 1, 5632]⟩
abbrev S32768x2048 : Shape := ⟨2, ![32768, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x11264, .f32⟩
  | .hbm, ⟨3, _⟩ => ⟨S3x5632, .f32⟩
  | .hbm, ⟨4, _⟩ => ⟨S5632, .f32⟩
  | .hbm, ⟨5, _⟩ => ⟨S5632x2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2x16384x11264, .f32⟩
  | .hbm, ⟨23, _⟩ => ⟨S2x16384x5632, .f32⟩
  | .hbm, ⟨24, _⟩ => ⟨S2x16384x5632, .f32⟩
  | .hbm, ⟨25, _⟩ => ⟨S_, .i32⟩
  | .hbm, ⟨26, _⟩ => ⟨S_, .f32⟩
  | .hbm, ⟨27, _⟩ => ⟨S2x16386x5632, .f32⟩
  | .hbm, ⟨28, _⟩ => ⟨S2x16384x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S2x16384x5632, .f32⟩
  | .hbm, ⟨33, _⟩ => ⟨S2x16384x5632, .f32⟩
  | .hbm, ⟨34, _⟩ => ⟨S2x16384x5632, .f32⟩
  | .hbm, ⟨35, _⟩ => ⟨S1x5632, .f32⟩
  | .hbm, ⟨36, _⟩ => ⟨S5632, .f32⟩
  | .hbm, ⟨37, _⟩ => ⟨S1x1x5632, .f32⟩
  | .hbm, ⟨38, _⟩ => ⟨S2x16384x5632, .f32⟩
  | .hbm, ⟨39, _⟩ => ⟨S2x16384x5632, .f32⟩
  | .hbm, ⟨40, _⟩ => ⟨S2x16384x5632, .f32⟩
  | .hbm, ⟨41, _⟩ => ⟨S2x16384x5632, .f32⟩
  | .hbm, ⟨42, _⟩ => ⟨S1x5632, .f32⟩
  | .hbm, ⟨43, _⟩ => ⟨S5632, .f32⟩
  | .hbm, ⟨44, _⟩ => ⟨S1x1x5632, .f32⟩
  | .hbm, ⟨45, _⟩ => ⟨S2x16384x5632, .f32⟩
  | .hbm, ⟨46, _⟩ => ⟨S2x16384x5632, .f32⟩
  | .hbm, ⟨47, _⟩ => ⟨S2x16384x5632, .f32⟩
  | .hbm, ⟨48, _⟩ => ⟨S1x1x5632, .f32⟩
  | .hbm, ⟨49, _⟩ => ⟨S2x16384x5632, .f32⟩
  | .hbm, ⟨50, _⟩ => ⟨S2x16384x5632, .f32⟩
  | .hbm, ⟨51, _⟩ => ⟨S2x16384x5632, .f32⟩
  | .hbm, ⟨52, _⟩ => ⟨S2x16384x5632, .f32⟩
  | .hbm, ⟨53, _⟩ => ⟨S_, .f32⟩
  | .hbm, ⟨54, _⟩ => ⟨S2x16384x5632, .f32⟩
  | .hbm, ⟨55, _⟩ => ⟨S2x16384x5632, .f32⟩
  | .hbm, ⟨56, _⟩ => ⟨S2x16384x5632, .f32⟩
  | .hbm, ⟨57, _⟩ => ⟨S_, .f32⟩
  | .hbm, ⟨58, _⟩ => ⟨S2x16384x5632, .f32⟩
  | .hbm, ⟨59, _⟩ => ⟨S2x16384x5632, .f32⟩
  | .hbm, ⟨60, _⟩ => ⟨S2x16384x5632, .f32⟩
  | .hbm, ⟨61, _⟩ => ⟨S_, .f32⟩
  | .hbm, ⟨62, _⟩ => ⟨S2x16384x5632, .f32⟩
  | .hbm, ⟨63, _⟩ => ⟨S2x16384x5632, .f32⟩
  | .hbm, ⟨64, _⟩ => ⟨S_, .f32⟩
  | .hbm, ⟨65, _⟩ => ⟨S2x16384x5632, .f32⟩
  | .hbm, ⟨66, _⟩ => ⟨S2x16384x5632, .f32⟩
  | .hbm, ⟨67, _⟩ => ⟨S2x16384x5632, .f32⟩
  | .hbm, ⟨68, _⟩ => ⟨S2x16384x5632, .f32⟩
  | .hbm, ⟨69, _⟩ => ⟨S2x16384x2048, .f32⟩
  | .hbm, ⟨70, _⟩ => ⟨S2x16384x2048, .f32⟩
  | .hbm, ⟨71, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_2 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_3 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_4 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== In.lean ====
abbrev S32768x2048 : Shape := ⟨2, ![32768, 2048]⟩
abbrev S2048 : Shape := ⟨1, ![2048]⟩
abbrev S2048x3072 : Shape := ⟨2, ![2048, 3072]⟩
abbrev S3072 : Shape := ⟨1, ![3072]⟩
abbrev S1x2048 : Shape := ⟨2, ![1, 2048]⟩
abbrev S1x3072 : Shape := ⟨2, ![1, 3072]⟩
abbrev S32768x3072 : Shape := ⟨2, ![32768, 3072]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x3072, .f32⟩
  | .hbm, ⟨3, _⟩ => ⟨S3072, .f32⟩
  | .hbm, ⟨4, _⟩ => ⟨S1x2048, .f32⟩
  | .hbm, ⟨5, _⟩ => ⟨S2048x3072, .bf16⟩
  | .hbm, ⟨6, _⟩ => ⟨S1x3072, .f32⟩
  | .hbm, ⟨7, _⟩ => ⟨S32768x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InRefIdeal.lean ====
abbrev S32768x2048 : Shape := ⟨2, ![32768, 2048]⟩
abbrev S2048 : Shape := ⟨1, ![2048]⟩
abbrev S2048x3072 : Shape := ⟨2, ![2048, 3072]⟩
abbrev S3072 : Shape := ⟨1, ![3072]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x3072 : Shape := ⟨2, ![32768, 3072]⟩
abbrev S1x3072 : Shape := ⟨2, ![1, 3072]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x3072, .f32⟩
  | .hbm, ⟨3, _⟩ => ⟨S3072, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S32768x3072, .f32⟩
  | .hbm, ⟨21, _⟩ => ⟨S1x3072, .f32⟩
  | .hbm, ⟨22, _⟩ => ⟨S32768x3072, .f32⟩
  | .hbm, ⟨23, _⟩ => ⟨S32768x3072, .f32⟩
  | .hbm, ⟨24, _⟩ => ⟨S32768x3072, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Out.lean ====
abbrev S32768x1024 : Shape := ⟨2, ![32768, 1024]⟩
abbrev S32768x512 : Shape := ⟨2, ![32768, 512]⟩
abbrev S2048x2048 : Shape := ⟨2, ![2048, 2048]⟩
abbrev S32768x2048 : Shape := ⟨2, ![32768, 2048]⟩
abbrev S1024x2048 : Shape := ⟨2, ![1024, 2048]⟩
abbrev S512x2048 : Shape := ⟨2, ![512, 2048]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x512, .bf16⟩
  | .hbm, ⟨3, _⟩ => ⟨S2048x2048, .f32⟩
  | .hbm, ⟨4, _⟩ => ⟨S32768x2048, .f32⟩
  | .hbm, ⟨5, _⟩ => ⟨S1024x2048, .f32⟩
  | .hbm, ⟨6, _⟩ => ⟨S512x2048, .f32⟩
  | .hbm, ⟨7, _⟩ => ⟨S512x2048, .f32⟩
  | .hbm, ⟨8, _⟩ => ⟨S1024x2048, .bf16⟩
  | .hbm, ⟨9, _⟩ => ⟨S512x2048, .bf16⟩
  | .hbm, ⟨10, _⟩ => ⟨S512x2048, .bf16⟩
  | .hbm, ⟨11, _⟩ => ⟨S32768x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutRefIdeal.lean ====
abbrev S32768x1024 : Shape := ⟨2, ![32768, 1024]⟩
abbrev S32768x512 : Shape := ⟨2, ![32768, 512]⟩
abbrev S2048x2048 : Shape := ⟨2, ![2048, 2048]⟩
abbrev S32768x2048 : Shape := ⟨2, ![32768, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x512, .bf16⟩
  | .hbm, ⟨3, _⟩ => ⟨S2048x2048, .f32⟩
  | .hbm, ⟨4, _⟩ => ⟨S32768x2048, .f32⟩
  | .hbm, ⟨5, _⟩ => ⟨S32768x2048, .bf16⟩
  | .hbm, ⟨6, _⟩ => ⟨S32768x2048, .f32⟩
  | .hbm, ⟨7, _⟩ => ⟨S32768x2048, .f32⟩
  | .hbm, ⟨8, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Ple.lean ====
abbrev S32768x2048 : Shape := ⟨2, ![32768, 2048]⟩
abbrev S32768x256 : Shape := ⟨2, ![32768, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S1024x2048 : Shape := ⟨2, ![1024, 2048]⟩
abbrev S1024x512 : Shape := ⟨2, ![1024, 512]⟩
abbrev S1024x256 : Shape := ⟨2, ![1024, 256]⟩
abbrev S2048x512 : Shape := ⟨2, ![2048, 512]⟩
abbrev S256x512 : Shape := ⟨2, ![256, 512]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S1x2048, .f32⟩
  | .hbm, ⟨6, _⟩ => ⟨S2048x2048, .bf16⟩
  | .hbm, ⟨7, _⟩ => ⟨S256x2048, .bf16⟩
  | .hbm, ⟨8, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x512, .f32⟩
  | .local _ .vmem, ⟨3, _⟩ => ⟨S1024x512, .f32⟩
  | .local _ .vmem, ⟨4, _⟩ => ⟨S1024x256, .f32⟩
  | .local _ .vmem, ⟨5, _⟩ => ⟨S1024x256, .f32⟩
  | .local _ .vmem, ⟨6, _⟩ => ⟨S1x2048, .f32⟩
  | .local _ .vmem, ⟨7, _⟩ => ⟨S2048x512, .bf16⟩
  | .local _ .vmem, ⟨8, _⟩ => ⟨S2048x512, .bf16⟩
  | .local _ .vmem, ⟨9, _⟩ => ⟨S256x512, .bf16⟩
  | .local _ .vmem, ⟨10, _⟩ => ⟨S256x512, .bf16⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleRefIdeal.lean ====
abbrev S32768x2048 : Shape := ⟨2, ![32768, 2048]⟩
abbrev S32768x256 : Shape := ⟨2, ![32768, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x256, .f32⟩
  | .hbm, ⟨2, _⟩ => ⟨S2048, .f32⟩
  | .hbm, ⟨3, _⟩ => ⟨S2048x2048, .f32⟩
  | .hbm, ⟨4, _⟩ => ⟨S256x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Fin.lean ====
abbrev S32768x2048 : Shape := ⟨2, ![32768, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinIdeal.lean ====
abbrev S32768x2048 : Shape := ⟨2, ![32768, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Inf.lean ====
abbrev S32768x2048 : Shape := ⟨2, ![32768, 2048]⟩
abbrev S2048 : Shape := ⟨1, ![2048]⟩
abbrev S2048x1024 : Shape := ⟨2, ![2048, 1024]⟩
abbrev S1x2048 : Shape := ⟨2, ![1, 2048]⟩
abbrev S_ : Shape := ⟨0, ![]⟩
abbrev S1x1024 : Shape := ⟨2, ![1, 1024]⟩
abbrev S32768x1024 : Shape := ⟨2, ![32768, 1024]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1024, .f32⟩
  | .hbm, ⟨3, _⟩ => ⟨S1x2048, .f32⟩
  | .hbm, ⟨4, _⟩ => ⟨S2048x1024, .bf16⟩
  | .hbm, ⟨5, _⟩ => ⟨S_, .f32⟩
  | .hbm, ⟨6, _⟩ => ⟨S1x1024, .f32⟩
  | .hbm, ⟨7, _⟩ => ⟨S32768x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InfRefIdeal.lean ====
abbrev S32768x2048 : Shape := ⟨2, ![32768, 2048]⟩
abbrev S2048 : Shape := ⟨1, ![2048]⟩
abbrev S2048x1024 : Shape := ⟨2, ![2048, 1024]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x1024 : Shape := ⟨2, ![32768, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x1024, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x1024, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Fins.lean ====
abbrev S16384x2048 : Shape := ⟨2, ![16384, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinsRefIdeal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Diff.lean ====
abbrev S32768x3072 : Shape := ⟨2, ![32768, 3072]⟩
abbrev S4 : Shape := ⟨1, ![4]⟩
abbrev S64 : Shape := ⟨1, ![64]⟩
abbrev S128 : Shape := ⟨1, ![128]⟩
abbrev S1x64 : Shape := ⟨2, ![1, 64]⟩
abbrev S1x128 : Shape := ⟨2, ![1, 128]⟩
abbrev S32768x512 : Shape := ⟨2, ![32768, 512]⟩
abbrev S512x128 : Shape := ⟨2, ![512, 128]⟩
abbrev S2048x128 : Shape := ⟨2, ![2048, 128]⟩
abbrev S1024x128 : Shape := ⟨2, ![1024, 128]⟩
abbrev S3x1024x512 : Shape := ⟨3, ![3, 1024, 512]⟩
abbrev S1 : Shape := ⟨1, ![1]⟩
abbrev S1024x512 : Shape := ⟨2, ![1024, 512]⟩
abbrev S1x1024x512 : Shape := ⟨3, ![1, 1024, 512]⟩
abbrev S1024 : Shape := ⟨1, ![1024]⟩
abbrev S1024x1 : Shape := ⟨2, ![1024, 1]⟩
abbrev S1x1 : Shape := ⟨2, ![1, 1]⟩
abbrev S512 : Shape := ⟨1, ![512]⟩
abbrev S512x1 : Shape := ⟨2, ![512, 1]⟩

abbrev nBuf : Space → Nat
  | .hbm => 13
  | .vmem => 18
  | .smem => 1
  | _ => 0

abbrev bufTy : (tb : Table) → Fin (tcTables nBuf tb) → BufTy
  | .hbm, ⟨0, _⟩ => ⟨S32768x3072, .bf16⟩
  | .hbm, ⟨1, _⟩ => ⟨S4, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x128, .f32⟩
  | .hbm, ⟨12, _⟩ => ⟨S32768x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S512x128, .bf16⟩
  | .local _ .vmem, ⟨12, _⟩ => ⟨S512x128, .bf16⟩
  | .local _ .vmem, ⟨13, _⟩ => ⟨S1024x128, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S3x1024x512, .f32⟩
  | .local _ .smem, ⟨0, _⟩ => ⟨S4, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨4, ![4, 2, 32, 8], ![false, false, false, false]⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_1 : BitVec 32 := 0#32
  let c4_i32 : BitVec 32 := 4#32
  let v6 : BitVec 32 := Scalar.addi c0_i32_1 c4_i32
  let c1_i32 : BitVec 32 := 1#32
  ⟨c0_i32_1, v6, c1_i32⟩
def k0_mult1 (k0_t1 : Fin k0_t1_loop.trips) : BitVec 32 :=
  let c0_i32_1 : BitVec 32 := 0#32
  let c1_i32 : BitVec 32 := 1#32
  let arg19 : BitVec 32 := Scf.iv c0_i32_1 c1_i32 k0_t1
  let c512_i32_5 : BitVec 32 := 512#32
  let v11 : BitVec 32 := Scalar.muli arg19 c512_i32_5
  v11
def k0_off2 (k0_t1 : Fin k0_t1_loop.trips) : Fin 2 → Nat :=
  let c0_i32_1 : BitVec 32 := 0#32
  let c1_i32 : BitVec 32 := 1#32
  let arg19 : BitVec 32 := Scf.iv c0_i32_1 c1_i32 k0_t1
  let c512_i32_5 : BitVec 32 := 512#32
  let v11 : BitVec 32 := Scalar.muli arg19 c512_i32_5
  let v12 : BitVec 32 := v11
  let v23 : Index := Scalar.indexCast v12
  let c0_8 : Index := 0#32
  ![v23.toNat, 0]
def k0_off3 (i : grid0.Coords) (k0_t1 : Fin k0_t1_loop.trips) : Fin 3 → Nat :=
  let arg3 : BitVec 32 := BitVec.ofNat 32 (i 3).val
  let c2048_i32 : BitVec 32 := 2048#32
  let v13 : BitVec 32 := Scalar.muli arg3 c2048_i32
  let c0_i32_1 : BitVec 32 := 0#32
  let c1_i32 : BitVec 32 := 1#32
  let arg19 : BitVec 32 := Scf.iv c0_i32_1 c1_i32 k0_t1
  let c512_i32_5 : BitVec 32 := 512#32
  let v11 : BitVec 32 := Scalar.muli arg19 c512_i32_5
  let v12 : BitVec 32 := v11
  let v14 : BitVec 32 := Scalar.addi v13 v12
  let arg2 : BitVec 32 := BitVec.ofNat 32 (i 2).val
  let c512_i32 : BitVec 32 := 512#32
  let v5 : BitVec 32 := Scalar.muli arg2 c512_i32
  let v15 : BitVec 1 := Scalar.cmpi .slt v14 v5
  let c0_i32_7 : BitVec 32 := 0#32
  let v16 : BitVec 1 := Scalar.cmpi .eq v14 v5
  let c1_i32_6 : BitVec 32 := 1#32
  let c2_i32 : BitVec 32 := 2#32
  let v17 : BitVec 32 := Scalar.select v16 c1_i32_6 c2_i32
  let v18 : BitVec 32 := Scalar.select v15 c0_i32_7 v17
  let v26 : Index := Scalar.indexCast v18
  let c0_9 : Index := 0#32
  let c0_10 : Index := 0#32
  ![v26.toNat, 0, 0]
def k0_cond2 (i : grid0.Coords) : BitVec 1 :=
  let arg3 : BitVec 32 := BitVec.ofNat 32 (i 3).val
  let c7_i32 : BitVec 32 := 7#32
  let v7 : BitVec 1 := Scalar.cmpi .eq arg3 c7_i32
  let v8 : BitVec 32 := Scalar.extui v7
  let c0_i32_3 : BitVec 32 := 0#32
  let v9 : BitVec 1 := Scalar.cmpi .ne v8 c0_i32_3
  v9

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg1 c32_i32
  let v1 : BitVec 32 := Scalar.addi v0 arg2
  let c12_i32 : BitVec 32 := 12#32
  let v2 : BitVec 32 := Scalar.addi c12_i32 arg0
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c16_i32 : BitVec 32 := 16#32
  let v2 : BitVec 32 := Scalar.addi c16_i32 arg0
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg3
  let c20_i32 : BitVec 32 := 20#32
  let v2 : BitVec 32 := Scalar.addi c20_i32 arg0
  let c0_i32 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c32_i32 : BitVec 32 := 32#32
  let v0 : BitVec 32 := Scalar.muli arg1 c32_i32
  let v1 : BitVec 32 := Scalar.addi v0 arg2
  let c0_i32 : BitVec 32 := 0#32
  ![v1.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true, false]
-- ==== DiffIdeal.lean ====
variable {F : FTy → Type} [FloatOps F] [Named F]
def κ : String → Option EReal := fun
  | "mask" => some ⊥
  | _ => none
-- ==== DiffRefIdeal.lean ====
abbrev S32768x3072 : Shape := ⟨2, ![32768, 3072]⟩
abbrev S4 : Shape := ⟨1, ![4]⟩
abbrev S64 : Shape := ⟨1, ![64]⟩
abbrev S128 : Shape := ⟨1, ![128]⟩
abbrev S32768x1536 : Shape := ⟨2, ![32768, 1536]⟩
abbrev S32768x512 : Shape := ⟨2, ![32768, 512]⟩
abbrev S2x16384x4x2x64 : Shape := ⟨5, ![2, 16384, 4, 2, 64]⟩
abbrev S2x16384x4x128 : Shape := ⟨4, ![2, 16384, 4, 128]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S4x1x1 : Shape := ⟨3, ![4, 1, 1]⟩
abbrev S1x16384x16384 : Shape := ⟨3, ![1, 16384, 16384]⟩
abbrev S4x16384x16384 : Shape := ⟨3, ![4, 16384, 16384]⟩
abbrev S2x16384x4x1x64 : Shape := ⟨5, ![2, 16384, 4, 1, 64]⟩
abbrev S2x16384x4x64 : Shape := ⟨4, ![2, 16384, 4, 64]⟩
abbrev S2x4x16384x16384 : Shape := ⟨4, ![2, 4, 16384, 16384]⟩
abbrev S1x4x16384x16384 : Shape := ⟨4, ![1, 4, 16384, 16384]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩

abbrev nBuf : Space → Nat
  | .hbm => 118
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S4, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S32768x1536, .bf16⟩
  | .hbm, ⟨8, _⟩ => ⟨S32768x1536, .f32⟩
  | .hbm, ⟨9, _⟩ => ⟨S32768x512, .f32⟩
  | .hbm, ⟨10, _⟩ => ⟨S32768x512, .f32⟩
  | .hbm, ⟨11, _⟩ => ⟨S32768x512, .f32⟩
  | .hbm, ⟨12, _⟩ => ⟨S2x16384x4x2x64, .f32⟩
  | .hbm, ⟨13, _⟩ => ⟨S2x16384x4x2x64, .f32⟩
  | .hbm, ⟨14, _⟩ => ⟨S2x16384x4x128, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16384, .i32⟩
  | .hbm, ⟨27, _⟩ => ⟨S16384x1, .i32⟩
  | .hbm, ⟨28, _⟩ => ⟨S1x16384, .i32⟩
  | .hbm, ⟨29, _⟩ => ⟨S16384x16384, .i32⟩
  | .hbm, ⟨30, _⟩ => ⟨S16384x16384, .i32⟩
  | .hbm, ⟨31, _⟩ => ⟨S16384x16384, .i32⟩
  | .hbm, ⟨32, _⟩ => ⟨S16384x16384, .i32⟩
  | .hbm, ⟨33, _⟩ => ⟨S16384x16384, .f32⟩
  | .hbm, ⟨34, _⟩ => ⟨S4x1x1, .f32⟩
  | .hbm, ⟨35, _⟩ => ⟨S4x1x1, .f32⟩
  | .hbm, ⟨36, _⟩ => ⟨S1x16384x16384, .f32⟩
  | .hbm, ⟨37, _⟩ => ⟨S4x16384x16384, .f32⟩
  | .hbm, ⟨38, _⟩ => ⟨S4x16384x16384, .f32⟩
  | .hbm, ⟨39, _⟩ => ⟨S4x16384x16384, .f32⟩
  | .hbm, ⟨40, _⟩ => ⟨S2x16384x4x1x64, .f32⟩
  | .hbm, ⟨41, _⟩ => ⟨S2x16384x4x64, .f32⟩
  | .hbm, ⟨42, _⟩ => ⟨S2x16384x4x1x64, .f32⟩
  | .hbm, ⟨43, _⟩ => ⟨S2x16384x4x64, .f32⟩
  | .hbm, ⟨44, _⟩ => ⟨S2x4x16384x16384, .f32⟩
  | .hbm, ⟨45, _⟩ => ⟨S1x4x16384x16384, .f32⟩
  | .hbm, ⟨46, _⟩ => ⟨S2x4x16384x16384, .f32⟩
  | .hbm, ⟨47, _⟩ => ⟨S2x4x16384x16384, .f32⟩
  | .hbm, ⟨48, _⟩ => ⟨S_, .f32⟩
  | .hbm, ⟨49, _⟩ => ⟨S_, .f32⟩
  | .hbm, ⟨50, _⟩ => ⟨S2x4x16384x16384, .f32⟩
  | .hbm, ⟨51, _⟩ => ⟨S2x4x16384x16384, .f32⟩
  | .hbm, ⟨52, _⟩ => ⟨S2x16384x4x1x64, .f32⟩
  | .hbm, ⟨53, _⟩ => ⟨S2x16384x4x64, .f32⟩
  | .hbm, ⟨54, _⟩ => ⟨S2x16384x4x1x64, .f32⟩
  | .hbm, ⟨55, _⟩ => ⟨S2x16384x4x64, .f32⟩
  | .hbm, ⟨56, _⟩ => ⟨S2x4x16384x16384, .f32⟩
  | .hbm, ⟨57, _⟩ => ⟨S1x4x16384x16384, .f32⟩
  | .hbm, ⟨58, _⟩ => ⟨S2x4x16384x16384, .f32⟩
  | .hbm, ⟨59, _⟩ => ⟨S2x4x16384x16384, .f32⟩
  | .hbm, ⟨60, _⟩ => ⟨S_, .f32⟩
  | .hbm, ⟨61, _⟩ => ⟨S_, .f32⟩
  | .hbm, ⟨62, _⟩ => ⟨S2x4x16384x16384, .f32⟩
  | .hbm, ⟨63, _⟩ => ⟨S2x4x16384x16384, .f32⟩
  | .hbm, ⟨64, _⟩ => ⟨S_, .f32⟩
  | .hbm, ⟨65, _⟩ => ⟨S2x4x16384, .f32⟩
  | .hbm, ⟨66, _⟩ => ⟨S_, .f32⟩
  | .hbm, ⟨67, _⟩ => ⟨S2x4x16384, .f32⟩
  | .hbm, ⟨68, _⟩ => ⟨S2x4x16384, .f32⟩
  | .hbm, ⟨69, _⟩ => ⟨S2x4x16384x1, .f32⟩
  | .hbm, ⟨70, _⟩ => ⟨S2x4x16384x16384, .f32⟩
  | .hbm, ⟨71, _⟩ => ⟨S2x4x16384x16384, .f32⟩
  | .hbm, ⟨72, _⟩ => ⟨S2x4x16384x16384, .f32⟩
  | .hbm, ⟨73, _⟩ => ⟨S_, .f32⟩
  | .hbm, ⟨74, _⟩ => ⟨S2x4x16384, .f32⟩
  | .hbm, ⟨75, _⟩ => ⟨S2x4x16384x1, .f32⟩
  | .hbm, ⟨76, _⟩ => ⟨S2x4x16384x16384, .f32⟩
  | .hbm, ⟨77, _⟩ => ⟨S2x4x16384x16384, .f32⟩
  | .hbm, ⟨78, _⟩ => ⟨S_, .f32⟩
  | .hbm, ⟨79, _⟩ => ⟨S2x4x16384, .f32⟩
  | .hbm, ⟨80, _⟩ => ⟨S_, .f32⟩
  | .hbm, ⟨81, _⟩ => ⟨S2x4x16384, .f32⟩
  | .hbm, ⟨82, _⟩ => ⟨S2x4x16384, .f32⟩
  | .hbm, ⟨83, _⟩ => ⟨S2x4x16384x1, .f32⟩
  | .hbm, ⟨84, _⟩ => ⟨S2x4x16384x16384, .f32⟩
  | .hbm, ⟨85, _⟩ => ⟨S2x4x16384x16384, .f32⟩
  | .hbm, ⟨86, _⟩ => ⟨S2x4x16384x16384, .f32⟩
  | .hbm, ⟨87, _⟩ => ⟨S_, .f32⟩
  | .hbm, ⟨88, _⟩ => ⟨S2x4x16384, .f32⟩
  | .hbm, ⟨89, _⟩ => ⟨S2x4x16384x1, .f32⟩
  | .hbm, ⟨90, _⟩ => ⟨S2x4x16384x16384, .f32⟩
  | .hbm, ⟨91, _⟩ => ⟨S2x4x16384x16384, .f32⟩
  | .hbm, ⟨92, _⟩ => ⟨S2x4x16384x16384, .f32⟩
  | .hbm, ⟨93, _⟩ => ⟨S2x4x16384x16384, .f32⟩
  | .hbm, ⟨94, _⟩ => ⟨S2x4x16384x16384, .f32⟩
  | .hbm, ⟨95, _⟩ => ⟨S2x4x128x16384, .f32⟩
  | .hbm, ⟨96, _⟩ => ⟨S2x16384x4x128, .f32⟩
  | .hbm, ⟨97, _⟩ => ⟨S2x16384x4x128, .f32⟩
  | .hbm, ⟨98, _⟩ => ⟨S_, .f32⟩
  | .hbm, ⟨99, _⟩ => ⟨S2x16384x4, .f32⟩
  | .hbm, ⟨100, _⟩ => ⟨S2x16384x4x1, .f32⟩
  | .hbm, ⟨101, _⟩ => ⟨S_, .f32⟩
  | .hbm, ⟨102, _⟩ => ⟨S2x16384x4x1, .f32⟩
  | .hbm, ⟨103, _⟩ => ⟨S2x16384x4x1, .f32⟩
  | .hbm, ⟨104, _⟩ => ⟨S_, .f32⟩
  | .hbm, ⟨105, _⟩ => ⟨S2x16384x4x1, .f32⟩
  | .hbm, ⟨106, _⟩ => ⟨S2x16384x4x1, .f32⟩
  | .hbm, ⟨107, _⟩ => ⟨S2x16384x4x1, .f32⟩
  | .hbm, ⟨108, _⟩ => ⟨S2x16384x4x128, .f32⟩
  | .hbm, ⟨109, _⟩ => ⟨S2x16384x4x128, .f32⟩
  | .hbm, ⟨110, _⟩ => ⟨S1x1x1x128, .f32⟩
  | .hbm, ⟨111, _⟩ => ⟨S2x16384x4x128, .f32⟩
  | .hbm, ⟨112, _⟩ => ⟨S2x16384x4x128, .f32⟩
  | .hbm, ⟨113, _⟩ => ⟨S_, .f32⟩
  | .hbm, ⟨114, _⟩ => ⟨S2x16384x4x128, .f32⟩
  | .hbm, ⟨115, _⟩ => ⟨S2x16384x4x128, .f32⟩
  | .hbm, ⟨116, _⟩ => ⟨S32768x512, .f32⟩
  | .hbm, ⟨117, _⟩ => ⟨S32768x512, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_3 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_7 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_10 : Ref sig .tc := ⟨.hbm, 98, rfl⟩
abbrev main_v80 : Ref sig .tc := ⟨.hbm, 99, rfl⟩
abbrev main_v81 : Ref sig .tc := ⟨.hbm, 100, rfl⟩
abbrev main_cst_11 : Ref sig .tc := ⟨.hbm, 101, rfl⟩
abbrev main_v82 : Ref sig .tc := ⟨.hbm, 102, rfl⟩
abbrev main_v83 : Ref sig .tc := ⟨.hbm, 103, rfl⟩
abbrev main_cst_12 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_13 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩

abbrev nD : Nat := 1
abbrev τ : Topo := Topo.v7x

variable {F : FTy → Type} [FloatOps F]
-- ==== Proof.MlaFrames.lean ====
module

public import proofs.«01_k».proof.Defs
public import proofs.«01_k».proof.Proof.Gen.Mla.Frame
public import proofs.«01_k».proof.Proof.Gen.MlaIdeal.Frame
public import proofs.«01_k».proof.Proof.Gen.MlaRefIdeal.Run
public import Idealize.ShloMosaic.Lib.Claim

@[expose] public section

/-!
# The attention kernel's frames, and its idealization
-/

set_option maxRecDepth 16384

noncomputable section

open Idealize.ShloMosaic Idealize.SL.Sem

namespace Cert.MlaFrames

theorem frame_P : Cert.quiescent_Mla := fun m g _ => Cert.Mla.Gen.frame m g

theorem frame_PI : Cert.quiescent_MlaIdeal := fun m g _ => Cert.MlaIdeal.Gen.frame m g

theorem frame_RI : Cert.quiescent_MlaRefIdeal := fun m g _ =>
  (θ_run Cert.MlaRefIdeal.defs _ _).mono (fun r h => ⟨fun c => (h c).2, sem_eq_zero_of_no_sems (by decide) r.2⟩)
    (Cert.MlaRefIdeal.Value.run m g)

/-- The named mask is the least extended real. -/
theorem preserves : Cert.preserves_Mla_MlaIdeal :=
  IdealRules.named_const.statement Cert.MlaIdeal.κ "mask" .f32 0xF149F2CA#32 ⊥ rfl

end Cert.MlaFrames
-- ==== Proof.MlaTrip.lean ====
module

public import proofs.«01_k».proof.Proof.Gen.MlaIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.MlaIdeal.Trip

open Cert.MlaIdeal Cert.MlaIdeal.Gen

variable (c : Dev nD) (i : grid0.Coords)
  (arg4 : Memref sig .tc .vmem S1024x256 .bf16) (harg4 : arg4.IsWhole) (arg5 : Memref sig .tc .vmem S2048x256 .bf16) (harg5 : arg5.IsWhole)
  (arg6 : Memref sig .tc .vmem S2048x128 .bf16) (harg6 : arg6.IsWhole) (arg7 : Memref sig .tc .vmem S1024x128 .bf16) (harg7 : arg7.IsWhole)
  (arg8 : Memref sig .tc .vmem S1024x128 .f32) (harg8 : arg8.IsWhole) (arg9 : Memref sig .tc .vmem S1024x128 .f32) (harg9 : arg9.IsWhole)
  (arg10 : Memref sig .tc .vmem S1024x128 .f32) (harg10 : arg10.IsWhole)
  (v3 : Vec Ideal S1024x256 .bf16) (X5 : BufTy.Contents (Elt Ideal) arg5.view.ty) (X6 : BufTy.Contents (Elt Ideal) arg6.view.ty)
  (f8 : BufTy.Contents (Elt Ideal) arg8.view.ty) (f9 : BufTy.Contents (Elt Ideal) arg9.view.ty) (f10 : BufTy.Contents (Elt Ideal) arg10.view.ty)
  (k : Fin k0_t1_loop.trips)

/-- The keys of trip `k`: 512 rows of the block. -/
def keys : Vec Ideal S512x256 .bf16 := View.readAt (Elt Ideal) arg5.view (Rect.unit (s := S2048x256) (k0_off1 k) S512x256.size (k0_off1_inb k)).toLoadRect X5

/-- The values of trip `k`. -/
def vals : Vec Ideal S512x128 .bf16 := View.readAt (Elt Ideal) arg6.view (Rect.unit (s := S2048x128) (k0_off2 k) S512x128.size (k0_off2_inb k)).toLoadRect X6

/-- A carried array as the trip reads it. -/
def whole (a : Memref sig .tc .vmem S1024x128 .f32) (f : BufTy.Contents (Elt Ideal) a.view.ty) : Vec Ideal S1024x128 .f32 :=
  View.readAt (Elt Ideal) a.view (Rect.unit (s := S1024x128) ![0, 0] S1024x128.size inb_S1024x128_S1024x128_0_0).toLoadRect f

theorem trip_eq : tripL_k0_t1 (F := Ideal) Variants.none c none i arg4 harg4 arg5 harg5 arg6 harg6 arg7 harg7 arg8 harg8 arg9 harg9 arg10 harg10 v3 X5 X6 k f8 f9 f10
    = ([⟨Rect.unit (s := S1024x128) ![0, 0] S1024x128.size inb_S1024x128_S1024x128_0_0, k0_pay11 v3 (keys arg5 X5 k) (whole arg8 f8)⟩],
       [⟨Rect.unit (s := S1024x128) ![0, 0] S1024x128.size inb_S1024x128_S1024x128_0_0, k0_pay9 v3 (keys arg5 X5 k) (whole arg8 f8) (whole arg9 f9)⟩],
       [⟨Rect.unit (s := S1024x128) ![0, 0] S1024x128.size inb_S1024x128_S1024x128_0_0, k0_pay10 v3 (keys arg5 X5 k) (vals arg6 X6 k) (whole arg8 f8) (whole arg10 f10)⟩]) := by
  unfold tripL_k0_t1 trip_k0_t1
  rfl

end Cert.MlaIdeal.Trip
-- ==== Proof.MlaFold.lean ====
module

public import proofs.«01_k».proof.Proof.MlaTrip
public import Idealize.ShloMosaic.Lib.VecWindow
public import Idealize.ShloMosaic.Lib.Pipeline.ReadBack

@[expose] public section

/-!
# One grid point of the kernel as four pure steps

The kernel's inner loop writes each of its three carried arrays whole, once per trip. So what the loop leaves is the
trips' pure step applied one after the other to what the arrays held before.
-/

set_option maxRecDepth 16384

noncomputable section

open Idealize.ShloMosaic Idealize.ShloMosaic.TcCoe Idealize.SL.Sem

namespace Cert.MlaIdeal.Trip

open Cert.MlaIdeal Cert.MlaIdeal.Gen

/-- What is carried: the running maxima, sums and weighted sums. -/
abbrev St := FVec Ideal S1024x128 .f32 × FVec Ideal S1024x128 .f32 × FVec Ideal S1024x128 .f32

/-- One trip over a block of 512 keys `K` and values `V`. -/
def pstep (q : FVec Ideal S1024x256 .bf16) (K : FVec Ideal S512x256 .bf16) (V : FVec Ideal S512x128 .bf16) (s : St) : St :=
  (k0_pay11 q K s.1, k0_pay9 q K s.1 s.2.1, k0_pay10 q K V s.1 s.2.2)

/-- The first `n` trips, over the blocks `K k` and `V k`. -/
def fold (q : FVec Ideal S1024x256 .bf16) (K : Fin k0_t1_loop.trips → FVec Ideal S512x256 .bf16) (V : Fin k0_t1_loop.trips → FVec Ideal S512x128 .bf16) (s : St) : ℕ → St
  | 0 => s
  | n + 1 => if h : n < k0_t1_loop.trips then pstep q (K ⟨n, h⟩) (V ⟨n, h⟩) (fold q K V s n) else fold q K V s n

theorem fold_succ (q : FVec Ideal S1024x256 .bf16) (K : Fin k0_t1_loop.trips → FVec Ideal S512x256 .bf16) (V : Fin k0_t1_loop.trips → FVec Ideal S512x128 .bf16)
    (s : St) (n : ℕ) (h : n < k0_t1_loop.trips) : fold q K V s (n + 1) = pstep q (K ⟨n, h⟩) (V ⟨n, h⟩) (fold q K V s n) := by
  rw [fold]; exact dif_pos h

section
variable (c : Dev nD) (i : grid0.Coords)
  (arg4 : Memref sig .tc .vmem S1024x256 .bf16) (harg4 : arg4.IsWhole) (arg5 : Memref sig .tc .vmem S2048x256 .bf16) (harg5 : arg5.IsWhole)
  (arg6 : Memref sig .tc .vmem S2048x128 .bf16) (harg6 : arg6.IsWhole) (arg7 : Memref sig .tc .vmem S1024x128 .bf16) (harg7 : arg7.IsWhole)
  (arg8 : Memref sig .tc .vmem S1024x128 .f32) (harg8 : arg8.IsWhole) (arg9 : Memref sig .tc .vmem S1024x128 .f32) (harg9 : arg9.IsWhole)
  (arg10 : Memref sig .tc .vmem S1024x128 .f32) (harg10 : arg10.IsWhole)
  (v3 : Vec Ideal S1024x256 .bf16) (X5 : BufTy.Contents (Elt Ideal) arg5.view.ty) (X6 : BufTy.Contents (Elt Ideal) arg6.view.ty)
  (G8 : BufTy.Contents (Elt Ideal) arg8.view.ty) (G9 : BufTy.Contents (Elt Ideal) arg9.view.ty) (G10 : BufTy.Contents (Elt Ideal) arg10.view.ty)

theorem whole_eq (a : Memref sig .tc .vmem S1024x128 .f32) (f : BufTy.Contents (Elt Ideal) a.view.ty) : whole a f = a.view.read (Elt Ideal) f :=
  View.readAt_full a.view f _

/-- What is written first in the list is what is read, under anything. -/
theorem read_head (a : Memref sig .tc .vmem S1024x128 .f32) (f : BufTy.Contents (Elt Ideal) a.view.ty) (w : FVec Ideal S1024x128 .f32) (L) :
    a.view.read (Elt Ideal) (a.view.writes (Elt Ideal) f (⟨Rect.unit (s := S1024x128) ![0, 0] S1024x128.size inb_S1024x128_S1024x128_0_0, w⟩ :: L)) = w :=
  View.read_writes_full a.view f _ w L

/-- The pieces after `n` trips. -/
abbrev pcs (n : ℕ) := pb_k0_t1 (F := Ideal) Variants.none c none i arg4 harg4 arg5 harg5 arg6 harg6 arg7 harg7 arg8 harg8 arg9 harg9 arg10 harg10 v3 X5 X6 G8 G9 G10 n

/-- The carried arrays as read after `n` trips. -/
abbrev st (n : ℕ) : St :=
  (arg8.view.read (Elt Ideal) (arg8.view.writes (Elt Ideal) G8 (pcs c i arg4 harg4 arg5 harg5 arg6 harg6 arg7 harg7 arg8 harg8 arg9 harg9 arg10 harg10 v3 X5 X6 G8 G9 G10 n).1),
   arg9.view.read (Elt Ideal) (arg9.view.writes (Elt Ideal) G9 (pcs c i arg4 harg4 arg5 harg5 arg6 harg6 arg7 harg7 arg8 harg8 arg9 harg9 arg10 harg10 v3 X5 X6 G8 G9 G10 n).2.1),
   arg10.view.read (Elt Ideal) (arg10.view.writes (Elt Ideal) G10 (pcs c i arg4 harg4 arg5 harg5 arg6 harg6 arg7 harg7 arg8 harg8 arg9 harg9 arg10 harg10 v3 X5 X6 G8 G9 G10 n).2.2))

abbrev full : Rect S1024x128 := Rect.unit (s := S1024x128) ![0, 0] S1024x128.size inb_S1024x128_S1024x128_0_0

/-- A trip's pieces, by the carried arrays before it. -/
theorem pcs_succ (k : Fin k0_t1_loop.trips) :
    pcs c i arg4 harg4 arg5 harg5 arg6 harg6 arg7 harg7 arg8 harg8 arg9 harg9 arg10 harg10 v3 X5 X6 G8 G9 G10 (k.val + 1)
      = (⟨full, (pstep v3 (keys arg5 X5 k) (vals arg6 X6 k) (st c i arg4 harg4 arg5 harg5 arg6 harg6 arg7 harg7 arg8 harg8 arg9 harg9 arg10 harg10 v3 X5 X6 G8 G9 G10 k.val)).1⟩
          :: (pcs c i arg4 harg4 arg5 harg5 arg6 harg6 arg7 harg7 arg8 harg8 arg9 harg9 arg10 harg10 v3 X5 X6 G8 G9 G10 k.val).1,
         ⟨full, (pstep v3 (keys arg5 X5 k) (vals arg6 X6 k) (st c i arg4 harg4 arg5 harg5 arg6 harg6 arg7 harg7 arg8 harg8 arg9 harg9 arg10 harg10 v3 X5 X6 G8 G9 G10 k.val)).2.1⟩
          :: (pcs c i arg4 harg4 arg5 harg5 arg6 harg6 arg7 harg7 arg8 harg8 arg9 harg9 arg10 harg10 v3 X5 X6 G8 G9 G10 k.val).2.1,
         ⟨full, (pstep v3 (keys arg5 X5 k) (vals arg6 X6 k) (st c i arg4 harg4 arg5 harg5 arg6 harg6 arg7 harg7 arg8 harg8 arg9 harg9 arg10 harg10 v3 X5 X6 G8 G9 G10 k.val)).2.2⟩
          :: (pcs c i arg4 harg4 arg5 harg5 arg6 harg6 arg7 harg7 arg8 harg8 arg9 harg9 arg10 harg10 v3 X5 X6 G8 G9 G10 k.val).2.2) := by
  unfold pcs
  rw [pb_k0_t1_succ, trip_eq, whole_eq, whole_eq, whole_eq]
  rfl

/-- The carried arrays after a trip, under whatever was written before the loop. -/
theorem read_succ (k : Fin k0_t1_loop.trips) (f8 : BufTy.Contents (Elt Ideal) arg8.view.ty) (f9 : BufTy.Contents (Elt Ideal) arg9.view.ty)
    (f10 : BufTy.Contents (Elt Ideal) arg10.view.ty) (L8 L9 L10) :
    ((arg8.view.read (Elt Ideal) (arg8.view.writes (Elt Ideal) f8 ((pcs c i arg4 harg4 arg5 harg5 arg6 harg6 arg7 harg7 arg8 harg8 arg9 harg9 arg10 harg10 v3 X5 X6 G8 G9 G10 (k.val + 1)).1 ++ L8)),
      arg9.view.read (Elt Ideal) (arg9.view.writes (Elt Ideal) f9 ((pcs c i arg4 harg4 arg5 harg5 arg6 harg6 arg7 harg7 arg8 harg8 arg9 harg9 arg10 harg10 v3 X5 X6 G8 G9 G10 (k.val + 1)).2.1 ++ L9)),
      arg10.view.read (Elt Ideal) (arg10.view.writes (Elt Ideal) f10 ((pcs c i arg4 harg4 arg5 harg5 arg6 harg6 arg7 harg7 arg8 harg8 arg9 harg9 arg10 harg10 v3 X5 X6 G8 G9 G10 (k.val + 1)).2.2 ++ L10))) : St)
      = pstep v3 (keys arg5 X5 k) (vals arg6 X6 k) (st c i arg4 harg4 arg5 harg5 arg6 harg6 arg7 harg7 arg8 harg8 arg9 harg9 arg10 harg10 v3 X5 X6 G8 G9 G10 k.val) := by
  rw [pcs_succ]
  generalize pstep v3 (keys arg5 X5 k) (vals arg6 X6 k) _ = w
  exact Prod.ext (read_head arg8 f8 w.1 _) (Prod.ext (read_head arg9 f9 w.2.1 _) (read_head arg10 f10 w.2.2 _))

/-- After `n` trips the carried arrays hold `n` steps from what they held. -/
theorem st_eq (n : ℕ) (hn : n ≤ k0_t1_loop.trips) :
    st c i arg4 harg4 arg5 harg5 arg6 harg6 arg7 harg7 arg8 harg8 arg9 harg9 arg10 harg10 v3 X5 X6 G8 G9 G10 n
      = fold v3 (keys arg5 X5) (vals arg6 X6) (arg8.view.read (Elt Ideal) G8, arg9.view.read (Elt Ideal) G9, arg10.view.read (Elt Ideal) G10) n := by
  induction n with
  | zero => rfl
  | succ n ih =>
    have h := read_succ c i arg4 harg4 arg5 harg5 arg6 harg6 arg7 harg7 arg8 harg8 arg9 harg9 arg10 harg10 v3 X5 X6 G8 G9 G10 ⟨n, hn⟩ G8 G9 G10 [] [] []
    simp only [List.append_nil] at h
    refine h.trans ?_
    rw [ih (Nat.le_of_succ_le hn)]
    exact (fold_succ v3 _ _ _ n hn).symm

theorem trips_eq : k0_t1_loop.trips = 4 := by decide

/-- The loop's four trips, under whatever was written before the loop. -/
theorem read_loop (f8 : BufTy.Contents (Elt Ideal) arg8.view.ty) (f9 : BufTy.Contents (Elt Ideal) arg9.view.ty)
    (f10 : BufTy.Contents (Elt Ideal) arg10.view.ty) (L8 L9 L10) :
    ((arg8.view.read (Elt Ideal) (arg8.view.writes (Elt Ideal) f8 ((pcs c i arg4 harg4 arg5 harg5 arg6 harg6 arg7 harg7 arg8 harg8 arg9 harg9 arg10 harg10 v3 X5 X6 G8 G9 G10 4).1 ++ L8)),
      arg9.view.read (Elt Ideal) (arg9.view.writes (Elt Ideal) f9 ((pcs c i arg4 harg4 arg5 harg5 arg6 harg6 arg7 harg7 arg8 harg8 arg9 harg9 arg10 harg10 v3 X5 X6 G8 G9 G10 4).2.1 ++ L9)),
      arg10.view.read (Elt Ideal) (arg10.view.writes (Elt Ideal) f10 ((pcs c i arg4 harg4 arg5 harg5 arg6 harg6 arg7 harg7 arg8 harg8 arg9 harg9 arg10 harg10 v3 X5 X6 G8 G9 G10 4).2.2 ++ L10))) : St)
      = fold v3 (keys arg5 X5) (vals arg6 X6) (arg8.view.read (Elt Ideal) G8, arg9.view.read (Elt Ideal) G9, arg10.view.read (Elt Ideal) G10) 4 := by
  have h3 : 3 < k0_t1_loop.trips := by rw [trips_eq]; decide
  rw [read_succ c i arg4 harg4 arg5 harg5 arg6 harg6 arg7 harg7 arg8 harg8 arg9 harg9 arg10 harg10 v3 X5 X6 G8 G9 G10 ⟨3, h3⟩, st_eq _ _ _ _ _ _ _ _ _ _ _ _ _ _ _ _ _ _ _ _ _ _ _ h3.le]
  exact (fold_succ v3 _ _ _ 3 h3).symm

/-- The same with nothing written before. -/
theorem read_loop_nil (f8 : BufTy.Contents (Elt Ideal) arg8.view.ty) (f9 : BufTy.Contents (Elt Ideal) arg9.view.ty)
    (f10 : BufTy.Contents (Elt Ideal) arg10.view.ty) :
    ((arg8.view.read (Elt Ideal) (arg8.view.writes (Elt Ideal) f8 (pcs c i arg4 harg4 arg5 harg5 arg6 harg6 arg7 harg7 arg8 harg8 arg9 harg9 arg10 harg10 v3 X5 X6 G8 G9 G10 4).1),
      arg9.view.read (Elt Ideal) (arg9.view.writes (Elt Ideal) f9 (pcs c i arg4 harg4 arg5 harg5 arg6 harg6 arg7 harg7 arg8 harg8 arg9 harg9 arg10 harg10 v3 X5 X6 G8 G9 G10 4).2.1),
      arg10.view.read (Elt Ideal) (arg10.view.writes (Elt Ideal) f10 (pcs c i arg4 harg4 arg5 harg5 arg6 harg6 arg7 harg7 arg8 harg8 arg9 harg9 arg10 harg10 v3 X5 X6 G8 G9 G10 4).2.2)) : St)
      = fold v3 (keys arg5 X5) (vals arg6 X6) (arg8.view.read (Elt Ideal) G8, arg9.view.read (Elt Ideal) G9, arg10.view.read (Elt Ideal) G10) 4 := by
  have h := read_loop c i arg4 harg4 arg5 harg5 arg6 harg6 arg7 harg7 arg8 harg8 arg9 harg9 arg10 harg10 v3 X5 X6 G8 G9 G10 f8 f9 f10 [] [] []
  simp only [List.append_nil] at h
  exact h

end

end Cert.MlaIdeal.Trip
-- ==== Proof.MlaCases.lean ====
module

public import proofs.«01_k».proof.Proof.MlaFold

@[expose] public section

/-!
# What the carried arrays hold after each grid point

At the first point of a query block the four steps start from the empty state, at every other from what the point before left.
The output block is written at the last point.
-/

set_option maxRecDepth 16384

noncomputable section

open Idealize.ShloMosaic Idealize.ShloMosaic.TcCoe Idealize.SL.Sem

namespace Cert.MlaIdeal.Trip

open Cert.MlaIdeal Cert.MlaIdeal.Gen

variable (m : (ℓ : Loc nD τ sig) → Buf (Elt Ideal) ℓ) (c : Dev nD) (t : Fin cfg0.N)

/-- The point's query block, and the keys and values of its trips. -/
abbrev qq : FVec Ideal S1024x256 .bf16 := iblk m c 0 t
abbrev kk (k : Fin k0_t1_loop.trips) : FVec Ideal S512x256 .bf16 := keys (ms0_1 t) ((hs0_1 t).unread (iblk m c 1 t)) k
abbrev vv (k : Fin k0_t1_loop.trips) : FVec Ideal S512x128 .bf16 := vals (ms0_2 t) ((hs0_2 t).unread (iblk m c 2 t)) k

theorem qq_eq : View.readAt (Elt Ideal) (ms0_0 t).view (Rect.unit (s := S1024x256) ![0, 0] ![1024, 256] inb_S1024x256_S1024x256_0_0).toLoadRect ((hs0_0 t).unread (iblk m c 0 t)) = qq m c t :=
  (View.readAt_full (ms0_0 t).view _ _).trans ((hs0_0 t).read_unread _)

theorem case_A (h0 : t.val % 8 = 0) (h1 : ¬ t.val % 8 = 7) :
    (outsAt0 m c t.val t.isLt).2 = fold (qq m c t) (kk m c t) (vv m c t) (k0_pay1, k0_pay2, k0_pay3) 4 := by
  rw [outsAt0_A m c t h0 h1]
  dsimp only
  unfold sout0_A_0 sout0_A_1 sout0_A_2 kernelRun0_A
  dsimp only
  refine (read_loop c (grid0.coords t) (ms0_0 t) _ (ms0_1 t) _ (ms0_2 t) _ (ms0_3 t) _ scM0_0 _ scM0_1 _ scM0_2 _ _ _ _ _ _ _ _ _ _ _ _ _).trans ?_
  unfold kernelRun0_A.sl.HS0_1 kernelRun0_A.sl.HS1_1 kernelRun0_A.sl.HS2_1
  rw [qq_eq]
  exact congrArg (fun s => fold (qq m c t) (kk m c t) (vv m c t) s 4)
    (Prod.ext (read_head scM0_0 _ _ []) (Prod.ext (read_head scM0_1 _ _ []) (read_head scM0_2 _ _ [])))

theorem case_B (h0 : ¬ t.val % 8 = 0) (h1 : ¬ t.val % 8 = 7) :
    (outsAt0 m c t.val t.isLt).2 = fold (qq m c t) (kk m c t) (vv m c t) (outsAt0 m c (t.val - 1) (by have := t.isLt; omega)).2 4 := by
  rw [outsAt0_B m c t h0 h1]
  dsimp only
  unfold sout0_B_0 sout0_B_1 sout0_B_2 kernelRun0_B
  dsimp only
  refine (read_loop_nil c (grid0.coords t) (ms0_0 t) _ (ms0_1 t) _ (ms0_2 t) _ (ms0_3 t) _ scM0_0 _ scM0_1 _ scM0_2 _ _ _ _ _ _ _ _ _ _).trans ?_
  rw [qq_eq]
  refine congrArg (fun s => fold (qq m c t) (kk m c t) (vv m c t) s 4) (Prod.ext ?_ (Prod.ext ?_ ?_)) <;>
  (dsimp only; exact Memref.IsWhole.read_unread _ _)

theorem case_C (h0 : ¬ t.val % 8 = 0) (h1 : t.val % 8 = 7) :
    (outsAt0 m c t.val t.isLt).2 = fold (qq m c t) (kk m c t) (vv m c t) (outsAt0 m c (t.val - 1) (by have := t.isLt; omega)).2 4 := by
  rw [outsAt0_C m c t h0 h1]
  dsimp only
  unfold sout0_C_0 sout0_C_1 sout0_C_2 kernelRun0_C
  dsimp only
  refine (read_loop_nil c (grid0.coords t) (ms0_0 t) _ (ms0_1 t) _ (ms0_2 t) _ (ms0_3 t) _ scM0_0 _ scM0_1 _ scM0_2 _ _ _ _ _ _ _ _ _ _).trans ?_
  rw [qq_eq]
  refine congrArg (fun s => fold (qq m c t) (kk m c t) (vv m c t) s 4) (Prod.ext ?_ (Prod.ext ?_ ?_)) <;>
  (dsimp only; exact Memref.IsWhole.read_unread _ _)

/-- The output block at the last point: the weighted sums divided by the sums. -/
theorem out_C (h0 : ¬ t.val % 8 = 0) (h1 : t.val % 8 = 7) :
    (outsAt0 m c t.val t.isLt).1 = k0_pay4 (F := Ideal) (outsAt0 m c t.val t.isLt).2.2.2 (outsAt0 m c t.val t.isLt).2.2.1 := by
  rw [case_C m c t h0 h1]
  rw [outsAt0_C m c t h0 h1]
  dsimp only
  unfold out0_C_3 kernelRun0_C kernelRun0_C.sl.v8 kernelRun0_C.sl.v9
  dsimp only
  refine (View.read_writes_full VO0_3 _ _ _ []).trans ?_
  refine congrArg₂ (k0_pay4 (F := Ideal)) ?_ ?_
  · refine (View.readAt_full (View.whole cc0_scratch2) _ _).trans ?_
    refine (congrArg (fun s : St => s.2.2) (read_loop_nil c (grid0.coords t) (ms0_0 t) _ (ms0_1 t) _ (ms0_2 t) _ (ms0_3 t) _ scM0_0 _ scM0_1 _ scM0_2 _ _ _ _ _ _ _ scM0_0.view.junk scM0_1.view.junk _)).trans ?_
    rw [qq_eq]
    refine congrArg (fun s => (fold (qq m c t) (kk m c t) (vv m c t) s 4).2.2) (Prod.ext ?_ (Prod.ext ?_ ?_)) <;>
    (dsimp only; exact Memref.IsWhole.read_unread _ _)
  · refine (View.readAt_full (View.whole cc0_scratch1) _ _).trans ?_
    refine (congrArg (fun s : St => s.2.1) (read_loop_nil c (grid0.coords t) (ms0_0 t) _ (ms0_1 t) _ (ms0_2 t) _ (ms0_3 t) _ scM0_0 _ scM0_1 _ scM0_2 _ _ _ _ _ _ _ scM0_0.view.junk _ scM0_2.view.junk)).trans ?_
    rw [qq_eq]
    refine congrArg (fun s => (fold (qq m c t) (kk m c t) (vv m c t) s 4).2.1) (Prod.ext ?_ (Prod.ext ?_ ?_)) <;>
    (dsimp only; exact Memref.IsWhole.read_unread _ _)

end Cert.MlaIdeal.Trip
-- ==== Proof.MlaBlocks.lean ====
module

public import proofs.«01_k».proof.Proof.MlaCases
public import Idealize.ShloMosaic.Lib.Pipeline.ValueKit

@[expose] public section

/-!
# The blocks of queries, keys and values at each grid point

Point `t` works on head `t / 256`, sequence `t / 128 % 2`, query block `t / 8 % 16` and key block `t % 8`.
-/

set_option maxRecDepth 16384

noncomputable section

open Idealize.ShloMosaic Idealize.ShloMosaic.TcCoe Idealize.SL.Sem

namespace Cert.MlaIdeal.Trip

open Cert.MlaIdeal Cert.MlaIdeal.Gen

/-- The blocks the windows are on at each grid point. -/
theorem idx : ∀ t : Fin cfg0.N,
    win0_0.index t = ![t.val / 8 % 32, t.val / 256]
    ∧ win0_1.index t = ![t.val / 128 % 2 * 8 + t.val % 8, t.val / 256]
    ∧ win0_2.index t = ![t.val / 128 % 2 * 8 + t.val % 8, t.val / 256]
    ∧ win0_3.index t = ![t.val / 8 % 32, t.val / 256] :=
  (by decide +kernel : ∀ t : Fin grid0.N, _)

theorem off1 : ∀ k : Fin k0_t1_loop.trips, k0_off1 k = ![512 * k.val, 0] := by decide +kernel
theorem off2 : ∀ k : Fin k0_t1_loop.trips, k0_off2 k = ![512 * k.val, 0] := by decide +kernel

variable (m : (ℓ : Loc nD τ sig) → Buf (Elt Ideal) ℓ) (c : Dev nD) (t : Fin cfg0.N)

abbrev aQ : FVec Ideal S32768x2048 .bf16 := m ((c.tc : Thread nD τ).loc main_arg0)
abbrev aK : FVec Ideal S32768x2048 .bf16 := m ((c.tc : Thread nD τ).loc main_arg1)
abbrev aV : FVec Ideal S32768x1024 .bf16 := m ((c.tc : Thread nD τ).loc main_arg2)

theorem qq_at (r : Fin 1024) (d : Fin 256) :
    qq m c t (ix2 r d) = aQ m c (ix2 ⟨t.val / 8 % 32 * 1024 + r.val, by omega⟩ ⟨t.val / 256 * 256 + d.val, by have := lt_of_lt_of_eq t.isLt N_0; omega⟩) := by
  have ht := lt_of_lt_of_eq t.isLt N_0
  unfold qq
  blk_ext [iblk, V, idx t]

/-- The key block, before a trip takes its rows. -/
theorem ik_at (n : Fin 2048) (d : Fin 256) :
    (iblk m c 1 t : FVec Ideal S2048x256 .bf16) (ix2 n d)
      = aK m c (ix2 ⟨(t.val / 128 % 2 * 8 + t.val % 8) * 2048 + n.val, by omega⟩ ⟨t.val / 256 * 256 + d.val, by have := lt_of_lt_of_eq t.isLt N_0; omega⟩) := by
  have ht := lt_of_lt_of_eq t.isLt N_0
  blk_ext [iblk, V, idx t]

theorem iv_at (n : Fin 2048) (d : Fin 128) :
    (iblk m c 2 t : FVec Ideal S2048x128 .bf16) (ix2 n d)
      = aV m c (ix2 ⟨(t.val / 128 % 2 * 8 + t.val % 8) * 2048 + n.val, by omega⟩ ⟨t.val / 256 * 128 + d.val, by have := lt_of_lt_of_eq t.isLt N_0; omega⟩) := by
  have ht := lt_of_lt_of_eq t.isLt N_0
  blk_ext [iblk, V, idx t]

theorem kk_at (k : Fin k0_t1_loop.trips) (n : Fin 512) (d : Fin 256) :
    kk m c t k (ix2 n d) = (iblk m c 1 t : FVec Ideal S2048x256 .bf16) (ix2 ⟨512 * k.val + n.val, by have := lt_of_lt_of_eq k.isLt trips_eq; omega⟩ d) := by
  have hk := lt_of_lt_of_eq k.isLt trips_eq
  unfold kk keys
  rw [View.readAt_unit (ms0_1 t).view _ _ (off1 k) (by rw [← off1 k]; exact k0_off1_inb k), Memref.IsWhole.read_unread]
  unfold VecWindow.window
  refine congrArg _ ?_
  idx_ext

theorem vv_at (k : Fin k0_t1_loop.trips) (n : Fin 512) (d : Fin 128) :
    vv m c t k (ix2 n d) = (iblk m c 2 t : FVec Ideal S2048x128 .bf16) (ix2 ⟨512 * k.val + n.val, by have := lt_of_lt_of_eq k.isLt trips_eq; omega⟩ d) := by
  have hk := lt_of_lt_of_eq k.isLt trips_eq
  unfold vv vals
  rw [View.readAt_unit (ms0_2 t).view _ _ (off2 k) (by rw [← off2 k]; exact k0_off2_inb k), Memref.IsWhole.read_unread]
  unfold VecWindow.window
  refine congrArg _ ?_
  idx_ext

end Cert.MlaIdeal.Trip
-- ==== Proof.FlashMath.lean ====
module

public import Idealize.ShloMosaic.Lib.Pointwise

@[expose] public section

/-!
# Attention over a row of keys, by blocks of keys

For one query: finite scores `σ k` and any values `v k`. A running state `(m, l, a)` over the first `n` keys holds some real
`m`, the sum `l` of `2 ^ (σ k - m)` and the sum `a` of `2 ^ (σ k - m) * v k`. A block of further keys rescales the state to a
new `m`; at the end `a / l` is the average of the values by the weights `2 ^ σ k / ∑ 2 ^ σ k`, whatever `m` is.
-/

noncomputable section

open Idealize.ShloMosaic

namespace Flash

variable {σ : ℕ → ℝ} {v : ℕ → EReal} {n : ℕ} {m l a : EReal}

/-- A real that is not negative distributes over a sum of extended reals. -/
theorem mul_sum {ι : Type*} (s : Finset ι) {r : ℝ} (hr : 0 ≤ r) (f : ι → EReal) : (r : EReal) * ∑ k ∈ s, f k = ∑ k ∈ s, (r : EReal) * f k := by
  classical
  induction s using Finset.induction_on with
  | empty => simp
  | insert i s hi ih => rw [Finset.sum_insert hi, Finset.sum_insert hi, EReal.left_distrib_of_nonneg_of_ne_top (EReal.coe_nonneg.2 hr) (EReal.coe_ne_top r), ih]

/-- A sum of reals is the real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert i s hi ih => rw [Finset.sum_insert hi, Finset.sum_insert hi, ih, EReal.coe_add]

/-- The greatest of finitely many reals, at least one, is a real. -/
theorem fold_max_coe {C : ℕ} (hC : 0 < C) (x : Fin C → EReal) (s : Fin C → ℝ) (hx : ∀ j, x j = s j) :
    ∃ μ : ℝ, (Finset.univ : Finset (Fin C)).fold max ⊥ x = μ := by
  have e : (Finset.univ : Finset (Fin C)).fold max ⊥ x = Finset.univ.sup x := rfl
  have hne : (Finset.univ : Finset (Fin C)).Nonempty := ⟨⟨0, hC⟩, Finset.mem_univ _⟩
  obtain ⟨j, -, hj⟩ := Finset.exists_mem_eq_sup _ hne x
  exact ⟨s j, by rw [e, hj, hx]⟩

/-- The running state after the first `n` keys. -/
def Inv (σ : ℕ → ℝ) (v : ℕ → EReal) (n : ℕ) (m l a : EReal) : Prop :=
  (n = 0 ∧ m = ⊥ ∧ l = 0 ∧ a = 0) ∨ ∃ μ : ℝ, m = μ ∧ l = ((∑ k ∈ Finset.range n, (2 : ℝ) ^ (σ k - μ) : ℝ) : EReal)
    ∧ a = ∑ k ∈ Finset.range n, (((2 : ℝ) ^ (σ k - μ) : ℝ) : EReal) * v k

theorem inv_zero : Inv σ v 0 ⊥ 0 0 := Or.inl ⟨rfl, rfl, rfl, rfl⟩

/-- A block of `C` further keys. -/
theorem Inv.step {C : ℕ} (hC : 0 < C) (h : Inv σ v n m l a) (x y : Fin C → EReal) (hx : ∀ j : Fin C, x j = σ (n + j.val))
    (hy : ∀ j : Fin C, y j = v (n + j.val)) {m' : EReal} (hm : m' = max m ((Finset.univ : Finset (Fin C)).fold max ⊥ x)) :
    Inv σ v (n + C) m' (Ideal.exp2 (m - m') * l + ∑ j, Ideal.exp2 (x j - m')) (Ideal.exp2 (m - m') * a + ∑ j, Ideal.exp2 (x j - m') * y j) := by
  obtain ⟨b, hb⟩ := fold_max_coe hC x _ hx
  have hp : ∀ μ' : ℝ, ∀ j : Fin C, Ideal.exp2 (x j - (μ' : EReal)) = (((2 : ℝ) ^ (σ (n + j.val) - μ') : ℝ) : EReal) := fun μ' j => by
    rw [hx, ← EReal.coe_sub, Ideal.exp2_coe]; rfl
  right
  rcases h with ⟨rfl, rfl, rfl, rfl⟩ | ⟨μ, rfl, rfl, rfl⟩
  · have hm' : m' = (b : EReal) := by rw [hm, hb]; exact max_eq_right bot_le
    subst hm'
    refine ⟨b, rfl, ?_, ?_⟩
    · simp only [hp, mul_zero, zero_add]
      rw [coe_sum, Finset.sum_range]
    · simp only [hp, hy, mul_zero, zero_add]
      rw [Finset.sum_range]
  · have hm' : m' = ((max μ b : ℝ) : EReal) := by rw [hm, hb]; exact (EReal.coe_strictMono.monotone.map_max).symm
    generalize max μ b = μ' at hm'
    subst hm'
    have ha : Ideal.exp2 ((μ : EReal) - (μ' : EReal)) = (((2 : ℝ) ^ (μ - μ') : ℝ) : EReal) := by rw [← EReal.coe_sub, Ideal.exp2_coe]; rfl
    have hk : ∀ k, (2 : ℝ) ^ (μ - μ') * (2 : ℝ) ^ (σ k - μ) = (2 : ℝ) ^ (σ k - μ') := fun k => by
      rw [← Real.rpow_add (by norm_num)]; congr 1; ring
    refine ⟨μ', rfl, ?_, ?_⟩
    · simp only [hp, ha]
      rw [coe_sum, ← EReal.coe_mul, ← EReal.coe_add, Finset.sum_range_add, Finset.mul_sum, Finset.sum_range (n := C)]
      simp only [hk]
    · simp only [hp, hy, ha]
      rw [mul_sum _ (by positivity), Finset.sum_range_add, Finset.sum_range (n := C)]
      refine congrArg (· + _) (Finset.sum_congr rfl fun k _ => ?_)
      rw [← mul_assoc, ← EReal.coe_mul, hk]

/-- The weight of key `k` among the first `n`. -/
def weight (σ : ℕ → ℝ) (n k : ℕ) : ℝ := (2 : ℝ) ^ σ k / ∑ i ∈ Finset.range n, (2 : ℝ) ^ σ i

theorem weight_shift (hn : 0 < n) (μ : ℝ) (k : ℕ) :
    (2 : ℝ) ^ (σ k - μ) * (1 / ∑ i ∈ Finset.range n, (2 : ℝ) ^ (σ i - μ)) = weight σ n k := by
  have h2 : (0 : ℝ) < 2 := by norm_num
  have e : ∀ i, (2 : ℝ) ^ (σ i - μ) = (2 : ℝ) ^ σ i * (2 : ℝ) ^ (-μ) := fun i => by
    rw [← Real.rpow_add h2]; congr 1
  have hs : ∑ i ∈ Finset.range n, (2 : ℝ) ^ σ i ≠ 0 :=
    (Finset.sum_pos (fun i _ => Real.rpow_pos_of_pos h2 _) ⟨0, Finset.mem_range.2 hn⟩).ne'
  have hμ : (2 : ℝ) ^ (-μ) ≠ 0 := (Real.rpow_pos_of_pos h2 _).ne'
  simp only [e]
  rw [← Finset.sum_mul]
  unfold weight
  field_simp

/-- The quotient at the end is the weighted average of the values. -/
theorem Inv.final (h : Inv σ v n m l a) (hn : 0 < n) :
    Ideal.div a l = ∑ k ∈ Finset.range n, ((weight σ n k : ℝ) : EReal) * v k := by
  rcases h with ⟨rfl, -⟩ | ⟨μ, -, rfl, rfl⟩
  · exact absurd hn (lt_irrefl 0)
  · have h2 : (0 : ℝ) < 2 := by norm_num
    have hs : 0 < ∑ i ∈ Finset.range n, (2 : ℝ) ^ (σ i - μ) :=
      Finset.sum_pos (fun i _ => Real.rpow_pos_of_pos h2 _) ⟨0, Finset.mem_range.2 hn⟩
    rw [Ideal.div_coe hs.ne', mul_comm, mul_sum _ (by positivity)]
    refine Finset.sum_congr rfl fun k _ => ?_
    rw [← mul_assoc, ← EReal.coe_mul, mul_comm (1 / _), weight_shift hn]

/-- The natural exponential of scores times `ln 2`, shifted by any real and divided by the sum of all, is the weight. -/
theorem softmax_at {N : ℕ} (x : Fin N → EReal) (hx : ∀ j : Fin N, x j = ((σ j.val * Real.log 2 : ℝ) : EReal)) (M : ℝ) (j : Fin N) :
    Ideal.div (Ideal.exp (x j - (M : EReal))) (∑ i, Ideal.exp (x i - (M : EReal))) = ((weight σ N j.val : ℝ) : EReal) := by
  have h2 : (0 : ℝ) < 2 := by norm_num
  have hl : Real.log 2 ≠ 0 := (Real.log_pos (by norm_num)).ne'
  have e : ∀ i : Fin N, Ideal.exp (x i - (M : EReal)) = (((2 : ℝ) ^ (σ i.val - M / Real.log 2) : ℝ) : EReal) := fun i => by
    rw [hx, ← EReal.coe_sub, Ideal.exp_coe, Real.rpow_def_of_pos h2]
    congr 2
    field_simp
  have hN : 0 < N := lt_of_le_of_lt (Nat.zero_le _) j.isLt
  simp only [e]
  rw [coe_sum, ← Finset.sum_range (f := fun i => (2 : ℝ) ^ (σ i - M / Real.log 2))]
  have hs : 0 < ∑ i ∈ Finset.range N, (2 : ℝ) ^ (σ i - M / Real.log 2) :=
    Finset.sum_pos (fun i _ => Real.rpow_pos_of_pos h2 _) ⟨0, Finset.mem_range.2 hN⟩
  rw [Ideal.div_coe hs.ne', ← EReal.coe_mul, weight_shift hN]

end Flash
-- ==== Proof.MlaPay.lean ====
module

public import proofs.«01_k».proof.Proof.MlaFold
public import proofs.«01_k».proof.Proof.FlashMath

@[expose] public section

/-!
# The kernel's step read at one row

Each payload of the kernel at one place, and from them: a trip over 512 keys keeps the running state of `Flash.Inv`.
-/

set_option maxRecDepth 16384

noncomputable section

open Idealize.ShloMosaic Idealize.ShloMosaic.TcCoe Idealize.SL.Sem

namespace Cert.MlaIdeal.Trip

open Cert.MlaIdeal Cert.MlaIdeal.Gen

theorem pay1_at (r : Fin 1024) (d : Fin 128) : k0_pay1 (F := Ideal) (ix2 r d) = ⊥ := by
  pointwise [k0_pay1]
  exact IdealRules.named_const.ideal_named_scalar _ _ _ _ rfl

theorem pay2_at (r : Fin 1024) (d : Fin 128) : k0_pay2 (F := Ideal) (ix2 r d) = 0 := by
  pointwise [k0_pay2]

theorem pay3_at (r : Fin 1024) (d : Fin 128) : k0_pay3 (F := Ideal) (ix2 r d) = 0 := by
  pointwise [k0_pay3]

theorem pay4_at (a l : FVec Ideal S1024x128 .f32) (r : Fin 1024) (d : Fin 128) :
    k0_pay4 (F := Ideal) a l (ix2 r d) = Ideal.div (a (ix2 r d)) (l (ix2 r d)) := by
  pointwise [k0_pay4]

/-- The bits of minus infinity. -/
theorem neg_inf : Ideal.ofBits .f32 4286578688#32 = (⊥ : EReal) := by
  simp [Ideal.ofBits, Ideal.ieee]

variable (q : FVec Ideal S1024x256 .bf16) (k : FVec Ideal S512x256 .bf16) (v : FVec Ideal S512x128 .bf16)
  (m l acc : FVec Ideal S1024x128 .f32)

theorem pay5_at (r : Fin 1024) (n : Fin 512) : k0_pay5 (F := Ideal) q k (ix2 r n) = ∑ d : Fin 256, q (ix2 r d) * k (ix2 n d) := by
  pointwise [k0_pay5]

theorem pay6_at (r : Fin 1024) (d : Fin 128) :
    k0_pay6 (F := Ideal) q k m (ix2 r d)
      = max (m (ix2 r d)) ((Finset.univ : Finset (Fin 512)).fold max ⊥ (fun x => k0_pay5 (F := Ideal) q k (ix2 r x))) := by
  pointwise [k0_pay6]
  rw [neg_inf]

/-- The exponentials, once the new maximum of the row is the same in every lane. -/
theorem pay8_at (r : Fin 1024) (M : EReal) (hM : ∀ d : Fin 128, k0_pay6 (F := Ideal) q k m (ix2 r d) = M) (n : Fin 512) :
    k0_pay8 (F := Ideal) q k m (ix2 r n) = Ideal.exp2 (k0_pay5 (F := Ideal) q k (ix2 r n) - M) := by
  pointwise [k0_pay8]
  simp only [hM, dite_eq_ite, ite_self]
  try rfl

theorem pay9_at (r : Fin 1024) (d : Fin 128) :
    k0_pay9 (F := Ideal) q k m l (ix2 r d)
      = Ideal.exp2 (m (ix2 r d) - k0_pay6 (F := Ideal) q k m (ix2 r d)) * l (ix2 r d) + ∑ x : Fin 512, k0_pay8 (F := Ideal) q k m (ix2 r x) := by
  pointwise [k0_pay9, k0_pay7]
  try rfl

theorem pay10_at (r : Fin 1024) (d : Fin 128) :
    k0_pay10 (F := Ideal) q k v m acc (ix2 r d)
      = Ideal.exp2 (m (ix2 r d) - k0_pay6 (F := Ideal) q k m (ix2 r d)) * acc (ix2 r d)
        + ∑ x : Fin 512, k0_pay8 (F := Ideal) q k m (ix2 r x) * v (ix2 x d) := by
  pointwise [k0_pay10, k0_pay7]
  try rfl

theorem pay11_at (r : Fin 1024) (d : Fin 128) : k0_pay11 (F := Ideal) q k m (ix2 r d) = k0_pay6 (F := Ideal) q k m (ix2 r d) := by
  pointwise [k0_pay11]

/-- Row `r` of a carried state after `n` keys, for column `d` of the values: the maximum is the same in every lane, and the
three numbers are the running state. -/
def Row (σ : ℕ → ℝ) (w : ℕ → EReal) (n : ℕ) (s : St) (r : Fin 1024) (d : Fin 128) : Prop :=
  (∀ e : Fin 128, s.1 (ix2 r e) = s.1 (ix2 r d)) ∧ Flash.Inv σ w n (s.1 (ix2 r d)) (s.2.1 (ix2 r d)) (s.2.2 (ix2 r d))

variable {σ : ℕ → ℝ} {w : ℕ → EReal} {n : ℕ} {r : Fin 1024} {d : Fin 128}

theorem row_init : Row σ w 0 (k0_pay1, k0_pay2, k0_pay3) r d := by
  refine ⟨fun e => (pay1_at r e).trans (pay1_at r d).symm, ?_⟩
  show Flash.Inv σ w 0 (k0_pay1 (F := Ideal) (ix2 r d)) (k0_pay2 (F := Ideal) (ix2 r d)) (k0_pay3 (F := Ideal) (ix2 r d))
  rw [pay1_at, pay2_at, pay3_at]
  exact Flash.inv_zero

/-- A trip over the next 512 keys. -/
theorem row_step {s : St} (h : Row σ w n s r d) (hk : ∀ x : Fin 512, (∑ e : Fin 256, q (ix2 r e) * k (ix2 x e)) = (σ (n + x.val) : EReal))
    (hv : ∀ x : Fin 512, v (ix2 x d) = w (n + x.val)) : Row σ w (n + 512) (pstep q k v s) r d := by
  obtain ⟨hm, hI⟩ := h
  have hM : ∀ e : Fin 128, k0_pay6 (F := Ideal) q k s.1 (ix2 r e) = k0_pay6 (F := Ideal) q k s.1 (ix2 r d) := fun e => by
    rw [pay6_at, pay6_at, hm e]
  refine ⟨fun e => ((pay11_at q k s.1 r e).trans (hM e)).trans (pay11_at q k s.1 r d).symm, ?_⟩
  have step := hI.step (C := 512) (by decide) (fun x => k0_pay5 (F := Ideal) q k (ix2 r x)) (fun x => v (ix2 x d))
    (fun x => (pay5_at q k r x).trans (hk x)) hv (pay6_at q k s.1 r d)
  show Flash.Inv σ w (n + 512) (k0_pay11 (F := Ideal) q k s.1 (ix2 r d)) (k0_pay9 (F := Ideal) q k s.1 s.2.1 (ix2 r d)) (k0_pay10 (F := Ideal) q k v s.1 s.2.2 (ix2 r d))
  rw [pay11_at, pay9_at, pay10_at]
  simp only [pay8_at q k s.1 r _ hM]
  exact step

/-- Trips over further blocks of 512 keys. -/
theorem row_fold {s : St} (K : Fin k0_t1_loop.trips → FVec Ideal S512x256 .bf16) (V : Fin k0_t1_loop.trips → FVec Ideal S512x128 .bf16)
    (h : Row σ w n s r d)
    (hk : ∀ (j : Fin k0_t1_loop.trips) (x : Fin 512), (∑ e : Fin 256, q (ix2 r e) * K j (ix2 x e)) = (σ (n + 512 * j.val + x.val) : EReal))
    (hv : ∀ (j : Fin k0_t1_loop.trips) (x : Fin 512), V j (ix2 x d) = w (n + 512 * j.val + x.val)) (j : ℕ) (hj : j ≤ k0_t1_loop.trips) :
    Row σ w (n + 512 * j) (fold q K V s j) r d := by
  induction j with
  | zero => exact h
  | succ j ih =>
    rw [fold_succ q K V s j hj, Nat.mul_succ, ← Nat.add_assoc]
    exact row_step q _ _ (ih (Nat.le_of_succ_le hj)) (hk ⟨j, hj⟩) (hv ⟨j, hj⟩)

end Cert.MlaIdeal.Trip
-- ==== Proof.MlaRefAt.lean ====
module

public import proofs.«01_k».proof.Proof.Gen.MlaRefIdeal.Run
public import Idealize.ShloMosaic.Lib.Pointwise

@[expose] public section

set_option maxRecDepth 16384

noncomputable section

open Idealize.ShloMosaic Idealize.ShloMosaic.TcCoe Idealize.SL.Sem

namespace Cert.MlaRefIdeal.RefAt

open Cert.MlaRefIdeal Cert.MlaRefIdeal.Gen

variable (Q K : FVec Ideal S32768x2048 .bf16) (V : FVec Ideal S32768x1024 .bf16)

/-- The scores, in the exponential's own base. -/
def SC : FVec Ideal S2x8x16384x16384 .f32 :=
  mulf (Host.dotGeneral dot_S2x16384x8x256_S2x16384x8x256_S2x8x16384x16384_3_3_1_1_02_02 none (shapeCast _ (extf .f32 Q bitsLt_bf16_f32) shapeCasts_S32768x2048_S2x16384x8x256) (shapeCast _ (extf .f32 K bitsLt_bf16_f32) shapeCasts_S32768x2048_S2x16384x8x256)) (broadcastInDim S2x8x16384x16384 ![] bcast_S_S2x8x16384x16384 (Host.log (constant S_ .f32 0x40000000#32)))

/-- The largest entry along the last of four axes, not below the format's −∞. -/
def rowMax {a b c n : ℕ} (x : FVec Ideal ⟨4, ![a, b, c, n]⟩ .f32)
    (h : (⟨4, ![a, b, c, n]⟩ : Shape).ReducesTo [3] ⟨3, ![a, b, c]⟩)
    (hb : (⟨0, ![]⟩ : Shape).BroadcastsInDim ⟨3, ![a, b, c]⟩ ![]) : FVec Ideal ⟨3, ![a, b, c]⟩ .f32 :=
  maximumf (broadcastInDim ⟨3, ![a, b, c]⟩ ![] hb (constant ⟨0, ![]⟩ .f32 0xFF800000#32))
    (Host.reduce FloatOps.maximumf x (constant ⟨0, ![]⟩ .f32 0xFF800000#32) h h_S_)

theorem rowMax_at {a b c n : ℕ} (x : FVec Ideal ⟨4, ![a, b, c, n]⟩ .f32)
    (h : (⟨4, ![a, b, c, n]⟩ : Shape).ReducesTo [3] ⟨3, ![a, b, c]⟩)
    (hb : (⟨0, ![]⟩ : Shape).BroadcastsInDim ⟨3, ![a, b, c]⟩ ![]) (i : Fin a) (j : Fin b) (k : Fin c) :
    rowMax x h hb (ix3 i j k)
      = max (Ideal.ofBits .f32 4286578688#32)
          ((Finset.univ : Finset (Fin n)).fold max (Ideal.ofBits .f32 4286578688#32) (fun l => x (ix4 i j k l))) := by
  pointwise [rowMax]

/-- Each query's largest score. -/
def MX : FVec Ideal S2x8x16384 .f32 :=
  rowMax (SC Q K) reducesTo_S2x8x16384x16384_S2x8x16384_d3 bcast_S_S2x8x16384

/-- The exponentials of the scores less the largest. -/
def EX : FVec Ideal S2x8x16384x16384 .f32 :=
  Host.exp (subf (SC Q K) (broadcastInDim S2x8x16384x16384 ![0, 1, 2, 3] bcast_S2x8x16384x1_S2x8x16384x16384_0_1_2_3 (broadcastInDim S2x8x16384x1 ![0, 1, 2] bcast_S2x8x16384_S2x8x16384x1_0_1_2 (MX Q K))))

/-- The attention weights. -/
def WT : FVec Ideal S2x8x16384x16384 .f32 :=
  Host.divf (EX Q K) (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduceAdd (EX Q K) (constant S_ .f32 0x00000000#32) reducesTo_S2x8x16384x16384_S2x8x16384_d3 h_S_)))

/-- The reference's result. -/
def REF : FVec Ideal S32768x1024 .bf16 :=
  truncf .bf16 (shapeCast _ (transpose S2x16384x8x128 [0, 3, 1, 2] (Host.dotGeneral dot_S2x16384x8x128_S2x8x16384x16384_S2x8x128x16384_1_3_3_2_02_01 none (shapeCast _ (extf .f32 V bitsLt_bf16_f32) shapeCasts_S32768x1024_S2x16384x8x128) (WT Q K)) transposes_S2x8x128x16384_S2x16384x8x128_0_3_1_2) shapeCasts_S2x16384x8x128_S32768x1024) bitsLt_bf16_f32

/-- The reference's run: its result array ends at `REF` of its arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
        = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

theorem SC_at (b : Fin 2) (h : Fin 8) (i j : Fin 16384) :
    SC Q K (ix4 b h i j)
      = (∑ d : Fin 256, Q (ix2 ⟨b.val * 16384 + i.val, by omega⟩ ⟨h.val * 256 + d.val, by omega⟩)
          * K (ix2 ⟨b.val * 16384 + j.val, by omega⟩ ⟨h.val * 256 + d.val, by omega⟩))
        * Ideal.log (Ideal.ofBits .f32 1073741824#32) := by
  pointwise [SC]

theorem MX_at (b : Fin 2) (h : Fin 8) (i : Fin 16384) :
    MX Q K (ix3 b h i)
      = max (Ideal.ofBits .f32 4286578688#32)
          ((Finset.univ : Finset (Fin 16384)).fold max (Ideal.ofBits .f32 4286578688#32) (fun j => SC Q K (ix4 b h i j))) := by
  rw [MX, rowMax_at]

theorem EX_at (b : Fin 2) (h : Fin 8) (i j : Fin 16384) :
    EX Q K (ix4 b h i j) = Ideal.exp (SC Q K (ix4 b h i j) - MX Q K (ix3 b h i)) := by
  pointwise [EX]

theorem WT_at (b : Fin 2) (h : Fin 8) (i j : Fin 16384) :
    WT Q K (ix4 b h i j) = Ideal.div (EX Q K (ix4 b h i j)) (∑ l, EX Q K (ix4 b h i l)) := by
  pointwise [WT]

theorem REF_at (i : Fin 32768) (d : Fin 1024) :
    REF Q K V (ix2 i d)
      = ∑ j : Fin 16384, V (ix2 ⟨i.val / 16384 * 16384 + j.val, by omega⟩ d)
          * WT Q K (ix4 ⟨i.val / 16384, by omega⟩ ⟨d.val / 128, by omega⟩ ⟨i.val % 16384, by omega⟩ j) := by
  pointwise [REF]

end Cert.MlaRefIdeal.RefAt
-- ==== Proof.MlaSoftmax.lean ====
module

public import proofs.«01_k».proof.Proof.MlaRefAt
public import proofs.«01_k».proof.Proof.FlashMath

@[expose] public section

/-!
# The reference's result for finite queries and keys

With every query and key finite the reference's attention is, at each place, the average of the column of values by the
weights `Flash.weight` of the row's scores.
-/

set_option maxRecDepth 16384

noncomputable section

open Idealize.ShloMosaic Idealize.ShloMosaic.TcCoe Idealize.SL.Sem

namespace Cert.MlaRefIdeal.RefAt

open Cert.MlaRefIdeal Cert.MlaRefIdeal.Gen

/-- Every element is a real number. -/
def Real' (Q : FVec Ideal S32768x2048 .bf16) : Prop := ∀ x, ∃ r : ℝ, Q x = (r : EReal)

variable (Q K : FVec Ideal S32768x2048 .bf16) (V : FVec Ideal S32768x1024 .bf16)

/-- The score of query `i` of sequence `b` and head `h` with key `j`, as a real number. -/
def score (b : Fin 2) (h : Fin 8) (i : Fin 16384) (j : ℕ) : ℝ :=
  if hj : j < 16384 then
    (∑ d : Fin 256, Q (ix2 ⟨b.val * 16384 + i.val, by omega⟩ ⟨h.val * 256 + d.val, by omega⟩)
      * K (ix2 ⟨b.val * 16384 + j, by omega⟩ ⟨h.val * 256 + d.val, by omega⟩)).toReal
  else 0

/-- Column `d` of the values of sequence `b`. -/
def val (b : Fin 2) (d : Fin 1024) (j : ℕ) : EReal :=
  if hj : j < 16384 then V (ix2 ⟨b.val * 16384 + j, by omega⟩ d) else 0

theorem val_at (b : Fin 2) (d : Fin 1024) (j : ℕ) (hj : j < 16384) : val V b d j = V (ix2 ⟨b.val * 16384 + j, by omega⟩ d) := dif_pos hj

variable {Q K}

theorem score_at (hQ : Real' Q) (hK : Real' K) (b : Fin 2) (h : Fin 8) (i : Fin 16384) (j : ℕ) (hj : j < 16384) :
    (∑ d : Fin 256, Q (ix2 ⟨b.val * 16384 + i.val, by omega⟩ ⟨h.val * 256 + d.val, by omega⟩)
      * K (ix2 ⟨b.val * 16384 + j, by omega⟩ ⟨h.val * 256 + d.val, by omega⟩)) = (score Q K b h i j : EReal) := by
  rw [score, dif_pos hj]
  choose q hq using hQ
  choose k hk using hK
  simp only [hq, hk, ← EReal.coe_mul, Flash.coe_sum, EReal.toReal_coe]

/-- The bits of two and of minus infinity. -/
theorem two_f32 : Ideal.ofBits .f32 1073741824#32 = ((2 : ℝ) : EReal) := by
  simp [Ideal.ofBits, Ideal.ieee]
  rw [← EReal.coe_mul]
  norm_num

theorem neg_inf_f32 : Ideal.ofBits .f32 4286578688#32 = (⊥ : EReal) := by
  simp [Ideal.ofBits, Ideal.ieee]

theorem SC_coe (hQ : Real' Q) (hK : Real' K) (b : Fin 2) (h : Fin 8) (i j : Fin 16384) :
    SC Q K (ix4 b h i j) = ((score Q K b h i j.val * Real.log 2 : ℝ) : EReal) := by
  rw [SC_at, score_at hQ hK b h i j.val j.isLt, two_f32, EReal.coe_mul]
  refine congrArg _ ?_
  rw [Ideal.log_coe, if_neg (by norm_num)]

theorem WT_eq (hQ : Real' Q) (hK : Real' K) (b : Fin 2) (h : Fin 8) (i j : Fin 16384) :
    WT Q K (ix4 b h i j) = ((Flash.weight (score Q K b h i) 16384 j.val : ℝ) : EReal) := by
  obtain ⟨M, hM⟩ := Flash.fold_max_coe (C := 16384) (by decide) (fun j => SC Q K (ix4 b h i j)) _ (SC_coe hQ hK b h i)
  have hX : MX Q K (ix3 b h i) = (M : EReal) := by
    rw [MX_at, neg_inf_f32, hM]
    exact max_eq_right bot_le
  rw [WT_at]
  simp only [EX_at, hX]
  exact Flash.softmax_at (fun j => SC Q K (ix4 b h i j)) (SC_coe hQ hK b h i) M j

/-- The result: the weighted average of the values. -/
theorem REF_eq (hQ : Real' Q) (hK : Real' K) (i : Fin 32768) (d : Fin 1024) (b : Fin 2) (h : Fin 8) (i' : Fin 16384)
    (hi : i.val = b.val * 16384 + i'.val) (hd : d.val / 128 = h.val) :
    REF Q K V (ix2 i d)
      = ∑ k ∈ Finset.range 16384, ((Flash.weight (score Q K b h i') 16384 k : ℝ) : EReal) * val V b d k := by
  have e1 : (⟨i.val / 16384, by omega⟩ : Fin 2) = b := Fin.ext (by simp only []; omega)
  have e2 : (⟨d.val / 128, by omega⟩ : Fin 8) = h := Fin.ext hd
  have e3 : (⟨i.val % 16384, by omega⟩ : Fin 16384) = i' := Fin.ext (by simp only []; omega)
  rw [REF_at, e1, e2, e3, Finset.sum_range]
  refine Finset.sum_congr rfl fun j _ => ?_
  rw [WT_eq hQ hK, val_at V b d j.val j.isLt, mul_comm]
  refine congrArg (_ * ·) (congrArg V (congrArg (fun r => ix2 r d) (Fin.ext ?_)))
  show i.val / 16384 * 16384 + j.val = b.val * 16384 + j.val
  omega

end Cert.MlaRefIdeal.RefAt
-- ==== Proof.MlaValue.lean ====
module

public import proofs.«01_k».proof.Proof.MlaBlocks
public import proofs.«01_k».proof.Proof.MlaPay
public import proofs.«01_k».proof.Proof.MlaSoftmax

@[expose] public section

/-!
# The attention kernel's result

After every grid point the carried arrays hold the running state of the keys met so far; at a query block's last point all
16384 keys are met, and the quotient written out is the reference's result.
-/

set_option maxRecDepth 16384

noncomputable section

open Idealize.ShloMosaic Idealize.ShloMosaic.TcCoe Idealize.SL.Sem

namespace Cert.MlaIdeal.Trip

open Cert.MlaIdeal Cert.MlaIdeal.Gen Cert.MlaRefIdeal.RefAt

variable (m : (ℓ : Loc nD τ sig) → Buf (Elt Ideal) ℓ) (c : Dev nD)

/-- A point's sequence, head and query row. -/
def bat (t : Fin cfg0.N) : Fin 2 := ⟨t.val / 128 % 2, by omega⟩
def head (t : Fin cfg0.N) : Fin 8 := ⟨t.val / 256, by have := lt_of_lt_of_eq t.isLt N_0; omega⟩
def row (t : Fin cfg0.N) (r : Fin 1024) : Fin 16384 := ⟨t.val / 8 % 16 * 1024 + r.val, by omega⟩
def col (t : Fin cfg0.N) (d : Fin 128) : Fin 1024 := ⟨t.val / 256 * 128 + d.val, by have := lt_of_lt_of_eq t.isLt N_0; omega⟩

/-- A row's scores and a column's values at a point. -/
abbrev sc (t : Fin cfg0.N) (r : Fin 1024) : ℕ → ℝ := score (aQ m c) (aK m c) (bat t) (head t) (row t r)
abbrev vl (t : Fin cfg0.N) (d : Fin 128) : ℕ → EReal := val (aV m c) (bat t) (col t d)

variable {m c}

/-- The four trips of a point, from the state before it. -/
theorem row_point (hQ : Real' (aQ m c)) (hK : Real' (aK m c)) (t : Fin cfg0.N) (r : Fin 1024) (d : Fin 128) {s : St}
    (h : Row (sc m c t r) (vl m c t d) (t.val % 8 * 2048) s r d) :
    Row (sc m c t r) (vl m c t d) ((t.val % 8 + 1) * 2048) (fold (qq m c t) (kk m c t) (vv m c t) s 4) r d := by
  have ht := lt_of_lt_of_eq t.isLt N_0
  have e : (t.val % 8 + 1) * 2048 = t.val % 8 * 2048 + 512 * 4 := by omega
  rw [e]
  refine row_fold (qq m c t) (kk m c t) (vv m c t) h ?_ ?_ 4 trips_eq.ge
  · intro j x
    have hj := lt_of_lt_of_eq j.isLt trips_eq
    refine Eq.trans ?_ (score_at hQ hK (bat t) (head t) (row t r) (t.val % 8 * 2048 + 512 * j.val + x.val) (by omega))
    refine Finset.sum_congr rfl fun e _ => ?_
    rw [qq_at, kk_at, ik_at]
    refine congrArg₂ (· * ·) (congrArg _ (congrArg₂ ix2 (Fin.ext ?_) rfl)) (congrArg _ (congrArg₂ ix2 (Fin.ext ?_) rfl))
    · show t.val / 8 % 32 * 1024 + r.val = t.val / 128 % 2 * 16384 + (t.val / 8 % 16 * 1024 + r.val)
      omega
    · show (t.val / 128 % 2 * 8 + t.val % 8) * 2048 + (512 * j.val + x.val) = t.val / 128 % 2 * 16384 + (t.val % 8 * 2048 + 512 * j.val + x.val)
      omega
  · intro j x
    have hj := lt_of_lt_of_eq j.isLt trips_eq
    refine Eq.trans ?_ (val_at (aV m c) (bat t) (col t d) (t.val % 8 * 2048 + 512 * j.val + x.val) (by omega)).symm
    rw [vv_at, iv_at]
    refine congrArg _ (congrArg₂ ix2 (Fin.ext ?_) rfl)
    show (t.val / 128 % 2 * 8 + t.val % 8) * 2048 + (512 * j.val + x.val) = t.val / 128 % 2 * 16384 + (t.val % 8 * 2048 + 512 * j.val + x.val)
    omega

/-- The first point of a query block. -/
theorem row_first (hQ : Real' (aQ m c)) (hK : Real' (aK m c)) (t : Fin cfg0.N) (h0 : t.val % 8 = 0) (r : Fin 1024) (d : Fin 128) :
    Row (sc m c t r) (vl m c t d) ((t.val % 8 + 1) * 2048) (outsAt0 m c t.val t.isLt).2 r d := by
  rw [case_A m c t h0 (by omega)]
  refine row_point hQ hK t r d ?_
  rw [h0]
  exact row_init

/-- Every point: the state of the keys met so far. -/
theorem row_upto (hQ : Real' (aQ m c)) (hK : Real' (aK m c)) (r : Fin 1024) (d : Fin 128) (n : ℕ) : ∀ hn : n < cfg0.N,
    Row (sc m c ⟨n, hn⟩ r) (vl m c ⟨n, hn⟩ d) ((n % 8 + 1) * 2048) (outsAt0 m c n hn).2 r d := by
  induction n with
  | zero => exact fun hn => row_first hQ hK ⟨0, hn⟩ rfl r d
  | succ n ih =>
    intro hn
    by_cases h0 : (n + 1) % 8 = 0
    · exact row_first hQ hK ⟨n + 1, hn⟩ h0 r d
    · have hp := ih (Nat.lt_of_succ_lt hn)
      have e1 : bat ⟨n, Nat.lt_of_succ_lt hn⟩ = bat ⟨n + 1, hn⟩ := Fin.ext (by simp only [bat]; omega)
      have e2 : head ⟨n, Nat.lt_of_succ_lt hn⟩ = head ⟨n + 1, hn⟩ := Fin.ext (by simp only [head]; omega)
      have e3 : row ⟨n, Nat.lt_of_succ_lt hn⟩ r = row ⟨n + 1, hn⟩ r := Fin.ext (by simp only [row]; omega)
      have e4 : col ⟨n, Nat.lt_of_succ_lt hn⟩ d = col ⟨n + 1, hn⟩ d := Fin.ext (by simp only [col]; omega)
      have e5 : n % 8 + 1 = (n + 1) % 8 := by omega
      unfold sc vl at hp
      rw [e1, e2, e3, e4, e5] at hp
      by_cases h1 : (n + 1) % 8 = 7
      · rw [case_C m c ⟨n + 1, hn⟩ h0 h1]
        exact row_point hQ hK ⟨n + 1, hn⟩ r d hp
      · rw [case_B m c ⟨n + 1, hn⟩ h0 h1]
        exact row_point hQ hK ⟨n + 1, hn⟩ r d hp

/-- The result array after the run is the reference's result. -/
theorem arr_eq (hQ : Real' (aQ m c)) (hK : Real' (aK m c)) : (dats m 0 c).arrAt 3 cfg0.N = REF (aQ m c) (aK m c) (aV m c) := by
  refine (dats m 0 c).arrAt_eq_of_covers 3 _ (by decide +kernel) fun t hf y => ?_
  have ht := lt_of_lt_of_eq t.isLt N_0
  have h7 : t.val % 8 = 7 := (flush0_3 t).mp hf
  blk_simp [idx t]
  rw [after0_3]
  obtain ⟨r, d, rfl⟩ : ∃ (r : Fin 1024) (d : Fin 128), y = ix2 r d := ⟨y 0, y 1, eq_ix2 y⟩
  have e : (win0_3.blk t).view.emb (ix2 r d) = ix2 (⟨t.val / 8 % 32 * 1024 + r.val, by omega⟩ : Fin 32768) (col t d) := by
    blk_ext [idx t, col]
  rw [e, REF_eq (aV m c) hQ hK _ _ (bat t) (head t) (row t r)
    (by show t.val / 8 % 32 * 1024 + r.val = t.val / 128 % 2 * 16384 + (t.val / 8 % 16 * 1024 + r.val); omega)
    (by show (t.val / 256 * 128 + d.val) / 128 = t.val / 256; omega)]
  rw [out_C m c t (by omega) h7]
  refine (pay4_at _ _ r d).trans ?_
  have hr := (row_upto hQ hK r d t.val t.isLt).2
  have e8 : (t.val % 8 + 1) * 2048 = 16384 := by omega
  rw [e8] at hr
  exact hr.final (by omega)

end Cert.MlaIdeal.Trip
-- ==== Proof.MlaClaim.lean ====
module

public import proofs.«01_k».proof.Defs
public import proofs.«01_k».proof.Proof.MlaFrames
public import proofs.«01_k».proof.Proof.MlaValue
public import Idealize.ShloMosaic.Lib.ReduceAll
public import Idealize.ShloMosaic.Lib.Claim

@[expose] public section

/-!
# The attention kernel's value claim

Under the precondition that every query and key is finite, the kernel's array is the reference's result.
-/

set_option maxRecDepth 16384

noncomputable section

open Idealize.ShloMosaic Idealize.SL.Sem

namespace Cert.MlaClaim

instance facts : Cert.Pre_finite_qk.Facts where
  bitsLt_bf16_f32 := by decide
  bcast_S_S32768x2048 := by decide
  reducesTo_S32768x2048_S_d0_1 := by decide
  h_S_ := by decide

theorem frame_PI : Cert.quiescent_MlaIdeal_pre_finite_qk := fun m g _ => Cert.MlaIdeal.Gen.frame m g

theorem frame_RI : Cert.quiescent_MlaRefIdeal_pre_finite_qk := fun m g _ =>
  (θ_run Cert.MlaRefIdeal.defs _ _).mono (fun r h => ⟨fun c => (h c).2, sem_eq_zero_of_no_sems (by decide) r.2⟩)
    (Cert.MlaRefIdeal.Value.run m g)

/-- The bits of plus infinity. -/
theorem pos_inf : Ideal.ofBits .f32 0x7F800000#32 = (⊤ : EReal) := by
  simp [Ideal.ofBits, Ideal.ieee]

/-- An extended real whose magnitude compares below infinity is a real. -/
theorem real_of_abs_lt {x : EReal} (h : Ideal.cmp .olt (max x (-x)) (Ideal.ofBits .f32 0x7F800000#32) = 1#1) : ∃ r : ℝ, x = (r : EReal) := by
  rw [pos_inf] at h
  induction x using EReal.rec with
  | bot => simp [Ideal.cmp] at h
  | coe r => exact ⟨r, rfl⟩
  | top => simp [Ideal.cmp] at h

instance : Subsingleton Cert.Pre_finite_qk.S_.Idx := ⟨fun a b => funext fun i => i.elim0⟩

/-- The precondition says that every query and every key is a real number. -/
theorem finite (Q K : FVec Ideal Cert.Pre_finite_qk.S32768x2048 .bf16) (V : FVec Ideal Cert.Pre_finite_qk.S32768x1024 .bf16)
    (h : Cert.Pre_finite_qk.fn (F := Ideal) Q K V = fun _ => 1#1) : Cert.MlaRefIdeal.RefAt.Real' Q ∧ Cert.MlaRefIdeal.RefAt.Real' K := by
  have h0 : Cert.Pre_finite_qk.fn (F := Ideal) Q K V (Shape.Idx.first (by decide)) = 1#1 := congrFun h _
  dsimp only [Cert.Pre_finite_qk.fn] at h0
  obtain ⟨hq, hk⟩ := IntOp.andi_eq_one.1 h0
  exact ⟨fun x => real_of_abs_lt (Host.reduce_andi_all _ _ _ _ _ hq x), fun x => real_of_abs_lt (Host.reduce_andi_all _ _ _ _ _ hk x)⟩

/-- The kernel's array is the reference's result on the same arguments. -/
theorem algebraic : Cert.algebraic_MlaIdeal_MlaRefIdeal_pre_finite_qk := by
  pair_intro
  · run_from Cert.MlaIdeal.Gen.run_main m g
  · refine θ_run_mono (Cert.MlaRefIdeal.RefAt.run m' g') fun r hr c => ?_
    obtain ⟨hc, ha0, ha1, ha2⟩ := hr c
    obtain ⟨h0, h1, h2⟩ := hagree c
    rw [h0, h1, h2] at hc
    exact ⟨hc.trans (Cert.MlaIdeal.Trip.arr_eq (finite _ _ _ (hpre c)).1 (finite _ _ _ (hpre c)).2).symm, ha0, ha1, ha2⟩

end Cert.MlaClaim
-- ==== Proof.FfnMath.lean ====
module

public import Idealize.ShloMosaic.Lib.Pointwise

@[expose] public section

/-!
# The feed-forward block, row by row

The normalized row, the two projections, the depthwise convolution over three neighbouring rows of one sequence,
the activation, and the block's result, written out over the six argument arrays.
A row is numbered `i < 32768`: sequence `i / 16384`, position `i % 16384`.
-/

set_option maxRecDepth 16384

noncomputable section

open Idealize.ShloMosaic

namespace Ffn

/-- A row `x` divided by its root mean square and scaled by `g`. -/
def nrm (x g : Fin 2048 → EReal) (d : Fin 2048) : EReal :=
  x d * Ideal.rsqrt (Ideal.div (∑ e, x e * x e) (Ideal.ofBits .f32 1157627904#32) + Ideal.ofBits .f32 897988541#32) * g d

/-- The tanh form of the Gaussian error linear unit. -/
def gelu (u : EReal) : EReal :=
  u * (Ideal.ofBits .f32 1056964608#32 * (1 + Ideal.tanh (Ideal.ofBits .f32 1061962282#32
    * (u + Ideal.ofBits .f32 1027024659#32 * (u * u * u)))))

variable (H : FVec Ideal ⟨3, ![2, 16384, 2048]⟩ .f32) (G : FVec Ideal ⟨1, ![2048]⟩ .f32)
  (W : FVec Ideal ⟨2, ![2048, 11264]⟩ .f32) (C : FVec Ideal ⟨2, ![3, 5632]⟩ .f32) (B : FVec Ideal ⟨1, ![5632]⟩ .f32)
  (D : FVec Ideal ⟨2, ![5632, 2048]⟩ .f32)

/-- Row `i` of the argument. -/
def row (i : Fin 32768) (d : Fin 2048) : EReal :=
  H (ix3 ⟨i.val / 16384, by omega⟩ ⟨i.val % 16384, Nat.mod_lt _ (by norm_num)⟩ d)

/-- Row `i` normalized. -/
def nrow (i : Fin 32768) : Fin 2048 → EReal := nrm (row H i) (fun d => G (ix1 d))

/-- Column `n` of the projections of a normalized row. -/
def proj (z : Fin 2048 → EReal) (n : Fin 11264) : EReal := ∑ k, z k * W (ix2 k n)

/-- The normalized row before row `i`, zero before the start of a sequence. -/
def before (i : Fin 32768) : Fin 2048 → EReal :=
  if i.val % 16384 = 0 then fun _ => 0 else nrow H G ⟨i.val - 1, by omega⟩

/-- The normalized row after row `i`, zero after the end of a sequence. -/
def after (i : Fin 32768) : Fin 2048 → EReal :=
  if h : i.val % 16384 = 16383 then fun _ => 0 else nrow H G ⟨i.val + 1, by omega⟩

/-- The convolution of column `n`: three taps over the rows before, at and after `i`, and a bias. -/
def conv (i : Fin 32768) (n : Fin 5632) : EReal :=
  proj W (before H G i) ⟨n.val, by omega⟩ * C (ix2 0 n) + proj W (nrow H G i) ⟨n.val, by omega⟩ * C (ix2 1 n)
    + proj W (after H G i) ⟨n.val, by omega⟩ * C (ix2 2 n) + B (ix1 n)

/-- The activated gate times the second projection. -/
def act (i : Fin 32768) (n : Fin 5632) : EReal :=
  gelu (conv H G W C B i n) * proj W (nrow H G i) ⟨5632 + n.val, by omega⟩

/-- The block's result at row `i`, column `d`: the argument plus the down projection. -/
def out (i : Fin 32768) (d : Fin 2048) : EReal :=
  row H i d + ∑ n, act H G W C B i n * D (ix2 n d)

/-- A zero row projects to zero. -/
theorem proj_zero (n : Fin 11264) : proj W (fun _ => 0) n = 0 := by
  simp [proj]

end Ffn
-- ==== Proof.FfnPay.lean ====
module

public import proofs.«01_k».proof.Proof.Gen.FfnIdeal.Skeleton
public import proofs.«01_k».proof.Proof.FfnMath
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.FfnIdeal.Pay

open Cert.FfnIdeal Cert.FfnIdeal.Gen

/-- The normalized block. -/
theorem pay4_at (x : FVec Ideal S512x2048 .f32) (g : FVec Ideal S1x2048 .f32) (r : Fin 512) (d : Fin 2048) :
    k0_pay4 (F := Ideal) x g (ix2 r d) = Ffn.nrm (fun e => x (ix2 r e)) (fun e => g (ix2 0 e)) d := by
  unfold Ffn.nrm
  pointwise [k0_pay4, k0_pay2, k0_pay3]

/-- The first of the sixteen rows under the block: the normalized row before it, or zero. -/
theorem pay7_zero (hp hn : FVec Ideal S16x2048 .f32) (g : FVec Ideal S1x2048 .f32) (v94 : BitVec 32) (v95 : BitVec 1) (d : Fin 2048) :
    k0_pay7 (F := Ideal) (k0_pay3 g) v94 v95 (k0_pay5 hp) (k0_pay6 hp) (Scalar.ofBits .f32 0x358637BD#32) hn (ix2 0 d)
      = if v95 = 1#1 then 0 else Ffn.nrm (fun e => hp (ix2 15 e)) (fun e => g (ix2 0 e)) d := by
  unfold Ffn.nrm
  pointwise [k0_pay7, k0_pay5, k0_pay3, k0_pay6]
  rfl

/-- The second of the sixteen rows under the block: the normalized row after it, or zero. -/
theorem pay7_one (hp hn : FVec Ideal S16x2048 .f32) (g : FVec Ideal S1x2048 .f32) (v94 : BitVec 32) (v95 : BitVec 1) (d : Fin 2048) :
    k0_pay7 (F := Ideal) (k0_pay3 g) v94 v95 (k0_pay5 hp) (k0_pay6 hp) (Scalar.ofBits .f32 0x358637BD#32) hn (ix2 1 d)
      = if v94 = 31#32 then 0 else Ffn.nrm (fun e => hn (ix2 0 e)) (fun e => g (ix2 0 e)) d := by
  unfold Ffn.nrm
  pointwise [k0_pay7, k0_pay5, k0_pay3, k0_pay6]
  have h1 : IntOp.cmpi CmpIPredicate.eq 1#32 0#32 = 0#1 := by decide
  rw [h1]
  show (if Scalar.cmpi CmpIPredicate.eq v94 31#32 = 1#1 then _ else _) = _
  by_cases h : v94 = 31#32
  · subst h; rfl
  · have h2 : Scalar.cmpi CmpIPredicate.eq v94 31#32 = 0#1 := by
      show IntOp.cmpi CmpIPredicate.eq v94 31#32 = 0#1
      rw [WordCmp.cmpi_eq_eq, decide_eq_false h]
      rfl
    rw [h2, if_neg h]
    rfl

/-- The second projection. -/
theorem pay8_at (z : FVec Ideal S512x2048 .bf16) (w : FVec Ideal S2048x512 .bf16) (r : Fin 512) (n : Fin 512) :
    k0_pay8 (F := Ideal) z w (ix2 r n) = ∑ k : Fin 2048, z (ix2 r k) * w (ix2 k n) := by
  pointwise [k0_pay8]

/-- The convolution of the gate projection, before its bias: row `512` of `z` stands for the row before the block, row `513`
for the row after it. -/
theorem pay9_at (z : FVec Ideal S528x2048 .bf16) (w : FVec Ideal S2048x512 .bf16) (cw : FVec Ideal S3x512 .f32) (r : Fin 512) (n : Fin 512) :
    k0_pay9 (F := Ideal) z w cw (ix2 r n)
      = (if r.val = 0 then ∑ k, z (ix2 512 k) * w (ix2 k n) else ∑ k, z (ix2 ⟨r.val - 1, by omega⟩ k) * w (ix2 k n)) * cw (ix2 0 n)
        + (∑ k, z (ix2 ⟨r.val, by omega⟩ k) * w (ix2 k n)) * cw (ix2 1 n)
        + (if r.val = 511 then ∑ k, z (ix2 513 k) * w (ix2 k n) else ∑ k, z (ix2 ⟨r.val + 1, by omega⟩ k) * w (ix2 k n)) * cw (ix2 2 n) := by
  pointwise [k0_pay9]
  have e0 : IntOp.cmpi CmpIPredicate.eq (BitVec.ofNat 32 r.val) 0#32 = if r.val = 0 then 1#1 else 0#1 := by
    rw [WordCmp.cmpi_eq_ofNat (by omega) (by omega)]
    by_cases h : r.val = 0 <;> simp [h]
  have e1 : IntOp.cmpi CmpIPredicate.eq (BitVec.ofNat 32 r.val) 511#32 = if r.val = 511 then 1#1 else 0#1 := by
    rw [WordCmp.cmpi_eq_ofNat (by omega) (by omega)]
    by_cases h : r.val = 511 <;> simp [h]
  rw [e0, e1]
  congr 2
  · congr 1
    by_cases h : r.val = 0
    · simp only [h, if_true]; rfl
    · simp only [h, if_false]
      have : (⟨(r.val + 512 - 1) % 512, by omega⟩ : Fin 528) = ⟨r.val - 1, by omega⟩ := Fin.ext (by simp only; omega)
      rw [this]; rfl
  · by_cases h : r.val = 511
    · simp only [h, if_true]; rfl
    · simp only [h, if_false]
      have : (⟨(r.val + 512 - 511) % 512, by omega⟩ : Fin 528) = ⟨r.val + 1, by omega⟩ := Fin.ext (by simp only; omega)
      rw [this]; rfl

/-- What a grid point adds to the result block. -/
theorem pay1_at (v10 v38 : FVec Ideal S512x512 .f32) (cb : FVec Ideal S1x512 .f32) (acc : FVec Ideal S512x2048 .f32)
    (wd : FVec Ideal S512x2048 .bf16) (r : Fin 512) (d : Fin 2048) :
    k0_pay1 (F := Ideal) v10 v38 cb acc wd (ix2 r d)
      = acc (ix2 r d) + ∑ n, Ffn.gelu (v38 (ix2 r n) + cb (ix2 0 n)) * v10 (ix2 r n) * wd (ix2 n d) := by
  unfold Ffn.gelu
  pointwise [k0_pay1]
  refine congrArg (_ + ·) (Finset.sum_congr rfl fun n _ => ?_)
  generalize v38 (ix2 r n) + cb (ix2 0 n) = u
  ac_nf

end Cert.FfnIdeal.Pay
-- ==== Proof.FfnStep.lean ====
module

public import proofs.«01_k».proof.Proof.FfnPay
public import Idealize.ShloMosaic.Lib.Pointwise

@[expose] public section

/-!
# One grid point of the feed-forward kernel

The kernel keeps the normalized rows of its block in a scratch, with the row before and the row after the block under
them (`Scr`). From such a scratch one grid point's payload adds 512 of the 5632 columns' terms to the result block.
-/

set_option maxRecDepth 16384

noncomputable section

open Idealize.ShloMosaic Idealize.ShloMosaic.TcCoe

namespace Cert.FfnIdeal.Step

open Cert.FfnIdeal Cert.FfnIdeal.Gen Cert.FfnIdeal.Pay

variable (H : FVec Ideal ⟨3, ![2, 16384, 2048]⟩ .f32) (G : FVec Ideal ⟨1, ![2048]⟩ .f32)
  (W : FVec Ideal ⟨2, ![2048, 11264]⟩ .f32) (C : FVec Ideal ⟨2, ![3, 5632]⟩ .f32) (B : FVec Ideal ⟨1, ![5632]⟩ .f32)
  (D : FVec Ideal ⟨2, ![5632, 2048]⟩ .f32)

/-- The scratch holds the normalized rows `512 I … 512 I + 511`, the row before them at 512 and the row after at 513. -/
structure Scr (I : Fin 64) (z : FVec Ideal S528x2048 .bf16) : Prop where
  top : ∀ (r : Fin 512) (k : Fin 2048), z (ix2 ⟨r.val, by omega⟩ k) = Ffn.nrow H G ⟨I.val * 512 + r.val, by omega⟩ k
  pre : ∀ k : Fin 2048, z (ix2 512 k) = Ffn.before H G ⟨I.val * 512, by omega⟩ k
  post : ∀ k : Fin 2048, z (ix2 513 k) = Ffn.after H G ⟨I.val * 512 + 511, by omega⟩ k

variable {H G} {I : Fin 64} {z : FVec Ideal S528x2048 .bf16} (hz : Scr H G I z) (J : Fin 11)

include hz in
/-- The convolution of one column from the scratch. -/
theorem conv_eq (w : FVec Ideal S2048x512 .bf16) (cw : FVec Ideal S3x512 .f32) (cb : FVec Ideal S1x512 .f32)
    (hw : ∀ k (n : Fin 512), w (ix2 k n) = W (ix2 k ⟨J.val * 512 + n.val, by omega⟩))
    (hcw : ∀ a (n : Fin 512), cw (ix2 a n) = C (ix2 a ⟨J.val * 512 + n.val, by omega⟩))
    (hcb : ∀ n : Fin 512, cb (ix2 0 n) = B (ix1 ⟨J.val * 512 + n.val, by omega⟩)) (r n : Fin 512) :
    k0_pay9 (F := Ideal) z w cw (ix2 r n) + cb (ix2 0 n)
      = Ffn.conv H G W C B ⟨I.val * 512 + r.val, by omega⟩ ⟨J.val * 512 + n.val, by omega⟩ := by
  have e0 : (if r.val = 0 then ∑ k, z (ix2 512 k) * w (ix2 k n) else ∑ k, z (ix2 ⟨r.val - 1, by omega⟩ k) * w (ix2 k n))
      = Ffn.proj W (Ffn.before H G ⟨I.val * 512 + r.val, by omega⟩) ⟨J.val * 512 + n.val, by omega⟩ := by
    by_cases h : r.val = 0
    · rw [if_pos h]
      refine Finset.sum_congr rfl fun k _ => ?_
      have : (⟨I.val * 512 + r.val, by omega⟩ : Fin 32768) = ⟨I.val * 512, by omega⟩ := Fin.ext (by simp only; omega)
      rw [hz.pre, hw, this]
    · rw [if_neg h]
      refine Finset.sum_congr rfl fun k _ => ?_
      have e : Ffn.before H G ⟨I.val * 512 + r.val, by omega⟩ = Ffn.nrow H G ⟨I.val * 512 + (r.val - 1), by omega⟩ := by
        unfold Ffn.before
        rw [if_neg (by simp only; omega)]
        congr 1
        exact Fin.ext (by simp only; omega)
      rw [e, hw]
      exact congrArg (· * _) (hz.top ⟨r.val - 1, by omega⟩ k)
  have e1 : ∑ k, z (ix2 ⟨r.val, by omega⟩ k) * w (ix2 k n)
      = Ffn.proj W (Ffn.nrow H G ⟨I.val * 512 + r.val, by omega⟩) ⟨J.val * 512 + n.val, by omega⟩ :=
    Finset.sum_congr rfl fun k _ => by rw [hz.top, hw]
  have e2 : (if r.val = 511 then ∑ k, z (ix2 513 k) * w (ix2 k n) else ∑ k, z (ix2 ⟨r.val + 1, by omega⟩ k) * w (ix2 k n))
      = Ffn.proj W (Ffn.after H G ⟨I.val * 512 + r.val, by omega⟩) ⟨J.val * 512 + n.val, by omega⟩ := by
    by_cases h : r.val = 511
    · rw [if_pos h]
      refine Finset.sum_congr rfl fun k _ => ?_
      have : (⟨I.val * 512 + r.val, by omega⟩ : Fin 32768) = ⟨I.val * 512 + 511, by omega⟩ := Fin.ext (by simp only; omega)
      rw [hz.post, hw, this]
    · rw [if_neg h]
      refine Finset.sum_congr rfl fun k _ => ?_
      have e : Ffn.after H G ⟨I.val * 512 + r.val, by omega⟩ = Ffn.nrow H G ⟨I.val * 512 + (r.val + 1), by omega⟩ := by
        unfold Ffn.after
        rw [dif_neg (by simp only; omega)]
        rfl
      rw [e, hw]
      exact congrArg (· * _) (hz.top ⟨r.val + 1, by omega⟩ k)
  rw [pay9_at, e0, e1, e2, hcw, hcw, hcw, hcb]
  rfl

include hz in
/-- What one grid point leaves in the result block: what was there, and 512 columns' terms. -/
theorem step_eq (zt : FVec Ideal S512x2048 .bf16) (hzt : ∀ (r : Fin 512) k, zt (ix2 r k) = z (ix2 ⟨r.val, by omega⟩ k))
    (w w' : FVec Ideal S2048x512 .bf16) (cw : FVec Ideal S3x512 .f32) (cb : FVec Ideal S1x512 .f32)
    (acc : FVec Ideal S512x2048 .f32) (wd : FVec Ideal S512x2048 .bf16)
    (hw : ∀ k (n : Fin 512), w (ix2 k n) = W (ix2 k ⟨J.val * 512 + n.val, by omega⟩))
    (hw' : ∀ k (n : Fin 512), w' (ix2 k n) = W (ix2 k ⟨5632 + (J.val * 512 + n.val), by omega⟩))
    (hcw : ∀ a (n : Fin 512), cw (ix2 a n) = C (ix2 a ⟨J.val * 512 + n.val, by omega⟩))
    (hcb : ∀ n : Fin 512, cb (ix2 0 n) = B (ix1 ⟨J.val * 512 + n.val, by omega⟩))
    (hwd : ∀ (n : Fin 512) d, wd (ix2 n d) = D (ix2 ⟨J.val * 512 + n.val, by omega⟩ d))
    (r : Fin 512) (d : Fin 2048) :
    k0_pay1 (F := Ideal) (k0_pay8 zt w') (k0_pay9 z w cw) cb acc wd (ix2 r d)
      = acc (ix2 r d) + ∑ n : Fin 512, Ffn.act H G W C B ⟨I.val * 512 + r.val, by omega⟩ ⟨J.val * 512 + n.val, by omega⟩
          * D (ix2 ⟨J.val * 512 + n.val, by omega⟩ d) := by
  rw [pay1_at]
  refine congrArg (_ + ·) (Finset.sum_congr rfl fun n _ => ?_)
  rw [conv_eq W C B hz J w cw cb hw hcw hcb, pay8_at, hwd]
  unfold Ffn.act Ffn.proj
  refine congrArg (_ * · * _) (Finset.sum_congr rfl fun k _ => ?_)
  rw [hzt, hz.top, hw']

end Cert.FfnIdeal.Step
-- ==== Proof.FfnBlocks.lean ====
module

public import proofs.«01_k».proof.Proof.Gen.FfnIdeal.Value
public import proofs.«01_k».proof.Proof.FfnStep
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.FfnIdeal.Val

open Cert.FfnIdeal Cert.FfnIdeal.Gen

variable (m : (ℓ : Loc nD τ sig) → Buf (Elt Ideal) ℓ)

/-- The blocks the windows are on at each grid point. -/
theorem idx : ∀ t : Fin cfg0.N,
    win0_0.index t = ![t.val / 11, 0]
    ∧ win0_1.index t = ![32 * (t.val / 11) - 1, 0]
    ∧ win0_2.index t = ![min (32 * (t.val / 11) + 32) 2047, 0]
    ∧ win0_3.index t = ![0, 0]
    ∧ win0_4.index t = ![0, t.val % 11]
    ∧ win0_5.index t = ![0, 11 + t.val % 11]
    ∧ win0_6.index t = ![0, t.val % 11]
    ∧ win0_7.index t = ![0, t.val % 11]
    ∧ win0_8.index t = ![t.val % 11, 0]
    ∧ win0_9.index t = ![t.val / 11, 0] :=
  (by decide +kernel : ∀ t : Fin grid0.N, _)

/-- The grid's row block at each point. -/
theorem coord : ∀ t : Fin cfg0.N, ((grid0.coords t) 0).val = t.val / 11 :=
  (by decide +kernel : ∀ t : Fin grid0.N, ((grid0.coords t) 0).val = t.val / 11)

/-- The block's place in its sequence, as the kernel computes it. -/
theorem place : ∀ i : Fin 64,
    Scalar.select
      (Scalar.andi (Scalar.xori (Scalar.cmpi .slt (Scalar.remsi (BitVec.ofNat 32 i.val) 32#32) 0#32) 0#1)
        (Scalar.cmpi .ne (Scalar.remsi (BitVec.ofNat 32 i.val) 32#32) 0#32))
      (Scalar.addi (Scalar.remsi (BitVec.ofNat 32 i.val) 32#32) 32#32) (Scalar.remsi (BitVec.ofNat 32 i.val) 32#32)
    = BitVec.ofNat 32 (i.val % 32) := by
  decide +kernel

/-- The row block of a grid point. -/
def rowBlk (t : Fin cfg0.N) : Fin 64 := ⟨t.val / 11, by have := lt_of_lt_of_eq t.isLt N_0; omega⟩

/-- The column block of a grid point. -/
def colBlk (t : Fin cfg0.N) : Fin 11 := ⟨t.val % 11, by omega⟩

section blocks

variable (c : Dev nD) (t : Fin cfg0.N)

/-- The block of rows. -/
theorem blk0 (r : Fin 512) (k : Fin 2048) :
    (iblk m c 0 t : FVec Ideal S512x2048 .f32) (ix2 r k) = Ffn.row (m ((c.tc : Thread nD τ).loc main_arg0)) ⟨t.val / 11 * 512 + r.val, by have := lt_of_lt_of_eq t.isLt N_0; omega⟩ k := by
  have ht := lt_of_lt_of_eq t.isLt N_0
  unfold Ffn.row
  unfold iblk
  entry_read
  blk_simp [idx t]
  pointwise
  blk_ext [idx t]

/-- The row before the block, inside a sequence. -/
theorem blk1 (h : ¬ (t.val / 11) % 32 = 0) (k : Fin 2048) :
    (iblk m c 1 t : FVec Ideal S16x2048 .f32) (ix2 15 k) = Ffn.row (m ((c.tc : Thread nD τ).loc main_arg0)) ⟨t.val / 11 * 512 - 1, by have := lt_of_lt_of_eq t.isLt N_0; omega⟩ k := by
  have ht := lt_of_lt_of_eq t.isLt N_0
  unfold Ffn.row
  unfold iblk
  entry_read
  blk_simp [idx t]
  pointwise
  blk_ext [idx t]

/-- The row after the block, inside a sequence. -/
theorem blk2 (h : ¬ (t.val / 11) % 32 = 31) (k : Fin 2048) :
    (iblk m c 2 t : FVec Ideal S16x2048 .f32) (ix2 0 k) = Ffn.row (m ((c.tc : Thread nD τ).loc main_arg0)) ⟨t.val / 11 * 512 + 512, by have := lt_of_lt_of_eq t.isLt N_0; omega⟩ k := by
  have ht := lt_of_lt_of_eq t.isLt N_0
  unfold Ffn.row
  unfold iblk
  entry_read
  blk_simp [idx t]
  pointwise
  blk_ext [idx t]

/-- The scale of the norm. -/
theorem blk3 (k : Fin 2048) :
    (iblk m c 3 t : FVec Ideal S1x2048 .f32) (ix2 0 k) = m ((c.tc : Thread nD τ).loc main_arg1) (ix1 k) := by
  have ht := lt_of_lt_of_eq t.isLt N_0
  unfold iblk
  entry_read
  blk_simp [idx t]
  pointwise
  blk_ext [idx t]

/-- The gate columns of the weights. -/
theorem blk4 (k : Fin 2048) (n : Fin 512) :
    (iblk m c 4 t : FVec Ideal S2048x512 .bf16) (ix2 k n) = m ((c.tc : Thread nD τ).loc main_arg2) (ix2 k ⟨t.val % 11 * 512 + n.val, by omega⟩) := by
  have ht := lt_of_lt_of_eq t.isLt N_0
  unfold iblk
  entry_read
  blk_simp [idx t]
  pointwise
  blk_ext [idx t]

/-- The other columns of the weights. -/
theorem blk5 (k : Fin 2048) (n : Fin 512) :
    (iblk m c 5 t : FVec Ideal S2048x512 .bf16) (ix2 k n) = m ((c.tc : Thread nD τ).loc main_arg2) (ix2 k ⟨5632 + (t.val % 11 * 512 + n.val), by omega⟩) := by
  have ht := lt_of_lt_of_eq t.isLt N_0
  unfold iblk
  entry_read
  blk_simp [idx t]
  pointwise
  blk_ext [idx t]

/-- The convolution's taps. -/
theorem blk6 (a : Fin 3) (n : Fin 512) :
    (iblk m c 6 t : FVec Ideal S3x512 .f32) (ix2 a n) = m ((c.tc : Thread nD τ).loc main_arg3) (ix2 a ⟨t.val % 11 * 512 + n.val, by omega⟩) := by
  have ht := lt_of_lt_of_eq t.isLt N_0
  unfold iblk
  entry_read
  blk_simp [idx t]
  pointwise
  blk_ext [idx t]

/-- The convolution's bias. -/
theorem blk7 (n : Fin 512) :
    (iblk m c 7 t : FVec Ideal S1x512 .f32) (ix2 0 n) = m ((c.tc : Thread nD τ).loc main_arg4) (ix1 ⟨t.val % 11 * 512 + n.val, by omega⟩) := by
  have ht := lt_of_lt_of_eq t.isLt N_0
  unfold iblk
  entry_read
  blk_simp [idx t]
  pointwise
  blk_ext [idx t]

/-- The rows of the down projection. -/
theorem blk8 (n : Fin 512) (d : Fin 2048) :
    (iblk m c 8 t : FVec Ideal S512x2048 .bf16) (ix2 n d) = m ((c.tc : Thread nD τ).loc main_arg5) (ix2 ⟨t.val % 11 * 512 + n.val, by omega⟩ d) := by
  have ht := lt_of_lt_of_eq t.isLt N_0
  unfold iblk
  entry_read
  blk_simp [idx t]
  pointwise
  blk_ext [idx t]

end blocks

/-- The two stores into the scratch, at one of the first 512 rows. -/
theorem canon_top (a : FVec Ideal S16x2048 .bf16) (b : FVec Ideal S512x2048 .bf16) (r : Fin 528) (k : Fin 2048) (hr : r.val < 512) :
    (View.canon [⟨Rect.unit ![512, 0] ![16, 2048] inb_S528x2048_S16x2048_512_0, a⟩,
        ⟨Rect.unit ![0, 0] ![512, 2048] inb_S528x2048_S512x2048_0_0, b⟩] : Vec Ideal S528x2048 .bf16) (ix2 r k)
      = b (ix2 ⟨r.val, hr⟩ k) := by
  have e : ix2 r k = (Rect.unit ![0, 0] ![512, 2048] inb_S528x2048_S512x2048_0_0).emb (ix2 ⟨r.val, hr⟩ k) := by
    idx_ext
  rw [View.canon_cons_of_not_mem, e, View.canon_cons_emb]
  intro h
  have h' : ix2 r k ∈ (Rect.unit ![512, 0] ![16, 2048] inb_S528x2048_S16x2048_512_0).set := h
  rw [Rect.mem_set_unit] at h'
  have h0 : 512 ≤ r.val := (h' 0).1
  omega

/-- The two stores into the scratch, at one of the last sixteen rows. -/
theorem canon_bot (a : FVec Ideal S16x2048 .bf16) (b : FVec Ideal S512x2048 .bf16) (r : Fin 528) (k : Fin 2048) (hr : 512 ≤ r.val) :
    (View.canon [⟨Rect.unit ![512, 0] ![16, 2048] inb_S528x2048_S16x2048_512_0, a⟩,
        ⟨Rect.unit ![0, 0] ![512, 2048] inb_S528x2048_S512x2048_0_0, b⟩] : Vec Ideal S528x2048 .bf16) (ix2 r k)
      = a (ix2 ⟨r.val - 512, by omega⟩ k) := by
  have e : ix2 r k = (Rect.unit ![512, 0] ![16, 2048] inb_S528x2048_S16x2048_512_0).emb (ix2 ⟨r.val - 512, by omega⟩ k) := by
    idx_ext
  rw [e, View.canon_cons_emb]

end Cert.FfnIdeal.Val
-- ==== Proof.FfnRefAt.lean ====
module

public import proofs.«01_k».proof.Proof.Gen.FfnRefIdeal.Run
public import proofs.«01_k».proof.Proof.FfnMath
public import Idealize.ShloMosaic.Lib.Pointwise

@[expose] public section

set_option maxRecDepth 16384

noncomputable section

open Idealize.ShloMosaic Idealize.ShloMosaic.TcCoe Idealize.SL.Sem

namespace Cert.FfnRefIdeal.RefAt

open Cert.FfnRefIdeal Cert.FfnRefIdeal.Gen

variable (H : FVec Ideal S2x16384x2048 .f32) (G : FVec Ideal S2048 .f32) (W : FVec Ideal S2048x11264 .f32)
  (C : FVec Ideal S3x5632 .f32) (B : FVec Ideal S5632 .f32) (D : FVec Ideal S5632x2048 .f32)

/-- The normalized rows. -/
def NRM : FVec Ideal S2x16384x2048 .f32 :=
  (mulf (mulf H (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf H H) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 G)))

/-- The two projections of the normalized rows, side by side. -/
def GU : FVec Ideal S2x16384x11264 .f32 :=
  Host.dotGeneral dot_S2x16384x2048_S2048x11264_S2x16384x11264_2_0_01_1_n_n none (NRM H G) W

/-- The gate branch with one row of padding on both sides. -/
def PADDED : FVec Ideal S2x16386x5632 .f32 :=
  pad S2x16386x5632 ![0, 1, 0] ![0, 1, 0] ![0, 0, 0] (extractStridedSlice S2x16384x5632 ![0, 0, 0] (GU H G W) slices_S2x16384x11264_S2x16384x5632_0_0_0) (sitofp .f32 (constantI S_ 32 0#32)) pads_S2x16384x5632_S2x16386x5632_000_110_000 h_S_

/-- The depthwise convolution over neighbouring rows. -/
def DW : FVec Ideal S2x16384x5632 .f32 :=
  (addf (addf (addf (mulf (extractStridedSlice S2x16384x5632 ![0, 0, 0] (PADDED H G W) slices_S2x16386x5632_S2x16384x5632_0_0_0) (broadcastInDim S2x16384x5632 ![0, 1, 2] bcast_S1x1x5632_S2x16384x5632_0_1_2 (broadcastInDim S1x1x5632 ![2] bcast_S5632_S1x1x5632_2 (shapeCast _ (extractStridedSlice S1x5632 ![0, 0] C slices_S3x5632_S1x5632_0_0) shapeCasts_S1x5632_S5632)))) (mulf (extractStridedSlice S2x16384x5632 ![0, 1, 0] (PADDED H G W) slices_S2x16386x5632_S2x16384x5632_0_1_0) (broadcastInDim S2x16384x5632 ![0, 1, 2] bcast_S1x1x5632_S2x16384x5632_0_1_2 (broadcastInDim S1x1x5632 ![2] bcast_S5632_S1x1x5632_2 (shapeCast _ (extractStridedSlice S1x5632 ![1, 0] C slices_S3x5632_S1x5632_1_0) shapeCasts_S1x5632_S5632))))) (mulf (extractStridedSlice S2x16384x5632 ![0, 2, 0] (PADDED H G W) slices_S2x16386x5632_S2x16384x5632_0_2_0) (broadcastInDim S2x16384x5632 ![0, 1, 2] bcast_S1x1x5632_S2x16384x5632_0_1_2 (broadcastInDim S1x1x5632 ![2] bcast_S5632_S1x1x5632_2 (shapeCast _ (extractStridedSlice S1x5632 ![2, 0] C slices_S3x5632_S1x5632_2_0) shapeCasts_S1x5632_S5632))))) (broadcastInDim S2x16384x5632 ![0, 1, 2] bcast_S1x1x5632_S2x16384x5632_0_1_2 (broadcastInDim S1x1x5632 ![2] bcast_S5632_S1x1x5632_2 B)))

/-- The activated gate branch times the other branch. -/
def ACT : FVec Ideal S2x16384x5632 .f32 :=
  (mulf (mulf (DW H G W C B) (mulf (broadcastInDim S2x16384x5632 ![] bcast_S_S2x16384x5632 (constant S_ .f32 0x3F000000#32)) (addf (broadcastInDim S2x16384x5632 ![] bcast_S_S2x16384x5632 (constant S_ .f32 0x3F800000#32)) (Host.tanh (mulf (broadcastInDim S2x16384x5632 ![] bcast_S_S2x16384x5632 (constant S_ .f32 0x3F4C422A#32)) (addf (DW H G W C B) (mulf (broadcastInDim S2x16384x5632 ![] bcast_S_S2x16384x5632 (constant S_ .f32 0x3D372713#32)) (mulf (mulf (DW H G W C B) (DW H G W C B)) (DW H G W C B))))))))) (extractStridedSlice S2x16384x5632 ![0, 0, 5632] (GU H G W) slices_S2x16384x11264_S2x16384x5632_0_0_5632))

/-- The reference's result. -/
def REF : FVec Ideal S32768x2048 .f32 :=
  shapeCast _ (addf H (Host.dotGeneral dot_S2x16384x5632_S5632x2048_S2x16384x2048_2_0_01_1_n_n none (ACT H G W C B) D)) shapeCasts_S2x16384x2048_S32768x2048

/-- What the reference's run ends with is `REF` of its arguments. -/
theorem res_eq (m : (ℓ : Loc nD τ sig) → Buf (Elt Ideal) ℓ) (c : Dev nD) :
    Value.res_out0 (F := Ideal) m c
    = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold Value.res_out0 Value.res_main_v56 REF ACT DW PADDED GU NRM
  rfl

theorem NRM_at (b : Fin 2) (s : Fin 16384) (k : Fin 2048) :
    NRM H G (ix3 b s k) = Ffn.nrm (fun d => H (ix3 b s d)) (fun d => G (ix1 d)) k := by
  unfold Ffn.nrm
  pointwise [NRM]

/-- The normalized row at its row number. -/
theorem NRM_row (b : Fin 2) (s : Fin 16384) (k : Fin 2048) (i : Fin 32768) (hb : b.val = i.val / 16384) (hs : s.val = i.val % 16384) :
    NRM H G (ix3 b s k) = Ffn.nrow H G i k := by
  have hb' : b = ⟨i.val / 16384, by omega⟩ := Fin.ext hb
  have hs' : s = ⟨i.val % 16384, Nat.mod_lt _ (by norm_num)⟩ := Fin.ext hs
  rw [NRM_at, hb', hs']
  rfl

theorem GU_at (b : Fin 2) (s : Fin 16384) (n : Fin 11264) :
    GU H G W (ix3 b s n) = ∑ k : Fin 2048, NRM H G (ix3 b s k) * W (ix2 k n) := by
  pointwise [GU]

/-- The projections at a row number. -/
theorem GU_row (b : Fin 2) (s : Fin 16384) (n : Fin 11264) (i : Fin 32768) (hb : b.val = i.val / 16384) (hs : s.val = i.val % 16384) :
    GU H G W (ix3 b s n) = Ffn.proj W (Ffn.nrow H G i) n := by
  rw [GU_at]
  exact Finset.sum_congr rfl fun k _ => by rw [NRM_row H G b s k i hb hs]

theorem PADDED_at (b : Fin 2) (s : Fin 16386) (n : Fin 5632) :
    PADDED H G W (ix3 b s n)
      = if h : 1 ≤ s.val ∧ s.val - 1 < 16384 then GU H G W (ix3 b ⟨s.val - 1, h.2⟩ ⟨n.val, by omega⟩) else 0 := by
  have h0 : (FloatOps.sitofp FTy.f32 0#32 : Ideal .f32) = 0 := by
    show ((((0#32 : BitVec 32).toInt : ℝ)) : EReal) = 0
    simp
  pointwise [PADDED]
  rw [h0]

theorem DW_at (b : Fin 2) (s : Fin 16384) (n : Fin 5632) :
    DW H G W C B (ix3 b s n)
      = PADDED H G W (ix3 b ⟨s.val, by omega⟩ n) * C (ix2 0 n) + PADDED H G W (ix3 b ⟨1 + s.val, by omega⟩ n) * C (ix2 1 n)
        + PADDED H G W (ix3 b ⟨2 + s.val, by omega⟩ n) * C (ix2 2 n) + B (ix1 n) := by
  pointwise [DW]

/-- The convolution at a row number. -/
theorem DW_row (b : Fin 2) (s : Fin 16384) (n : Fin 5632) (i : Fin 32768) (hb : b.val = i.val / 16384) (hs : s.val = i.val % 16384) :
    DW H G W C B (ix3 b s n) = Ffn.conv H G W C B i n := by
  have h1 : PADDED H G W (ix3 b ⟨s.val, by omega⟩ n) = Ffn.proj W (Ffn.before H G i) ⟨n.val, by omega⟩ := by
    rw [PADDED_at]
    unfold Ffn.before
    by_cases h : i.val % 16384 = 0
    · rw [dif_neg (by simp only; omega), if_pos h, Ffn.proj_zero]
    · rw [dif_pos (by simp only; omega), if_neg h]
      exact GU_row H G W _ _ _ _ (by simp only; omega) (by simp only; omega)
  have h2 : PADDED H G W (ix3 b ⟨1 + s.val, by omega⟩ n) = Ffn.proj W (Ffn.nrow H G i) ⟨n.val, by omega⟩ := by
    rw [PADDED_at, dif_pos (by simp only; omega)]
    exact GU_row H G W _ _ _ _ hb (by simp only; omega)
  have h3 : PADDED H G W (ix3 b ⟨2 + s.val, by omega⟩ n) = Ffn.proj W (Ffn.after H G i) ⟨n.val, by omega⟩ := by
    rw [PADDED_at]
    unfold Ffn.after
    by_cases h : i.val % 16384 = 16383
    · rw [dif_neg (by simp only; omega), dif_pos h, Ffn.proj_zero]
    · rw [dif_pos (by simp only; omega), dif_neg h]
      exact GU_row H G W _ _ _ _ (by simp only; omega) (by simp only; omega)
  rw [DW_at, h1, h2, h3]
  rfl

theorem ACT_at (b : Fin 2) (s : Fin 16384) (n : Fin 5632) :
    ACT H G W C B (ix3 b s n) = Ffn.gelu (DW H G W C B (ix3 b s n)) * GU H G W (ix3 b s ⟨5632 + n.val, by omega⟩) := by
  unfold Ffn.gelu
  pointwise [ACT]

/-- What the reference computes at an index. -/
theorem REF_at (i : Fin 32768) (d : Fin 2048) :
    REF H G W C B D (ix2 i d) = Ffn.out H G W C B D i d := by
  pointwise [REF]
  refine congrArg (_ + ·) (Finset.sum_congr rfl fun n _ => ?_)
  rw [ACT_at, DW_row H G W C B _ _ n i rfl rfl, GU_row H G W _ _ _ i rfl rfl]
  rfl

end Cert.FfnRefIdeal.RefAt
-- ==== Proof.FfnValue.lean ====
module

public import proofs.«01_k».proof.Proof.Gen.FfnIdeal.Value
public import proofs.«01_k».proof.Proof.FfnBlocks
public import proofs.«01_k».proof.Proof.FfnRefAt
public import Idealize.ShloMosaic.Lib.Pointwise
public import Idealize.ShloMosaic.Lib.Pipeline.ValueKit
public import Idealize.ShloMosaic.Lib.Pipeline.ReadBack

@[expose] public section

/-!
# The result array of the feed-forward kernel

The scratch after every point holds the normalized rows of the point's row block; the result block after the point with
column block `j` holds the argument's rows plus the terms of the columns up to that block; so the array that the run
leaves is the reference's result.
-/

set_option maxRecDepth 16384

noncomputable section

open Idealize.ShloMosaic Idealize.ShloMosaic.TcCoe Idealize.SL.Sem

namespace Cert.FfnIdeal.Val

open Cert.FfnIdeal Cert.FfnIdeal.Gen

open Cert.FfnIdeal.Pay Cert.FfnIdeal.Step

variable (m : (ℓ : Loc nD τ sig) → Buf (Elt Ideal) ℓ)

/-! The six argument arrays. -/

abbrev aH (c : Dev nD) : FVec Ideal ⟨3, ![2, 16384, 2048]⟩ .f32 := m ((c.tc : Thread nD τ).loc main_arg0)
abbrev aG (c : Dev nD) : FVec Ideal ⟨1, ![2048]⟩ .f32 := m ((c.tc : Thread nD τ).loc main_arg1)
abbrev aW (c : Dev nD) : FVec Ideal ⟨2, ![2048, 11264]⟩ .f32 := m ((c.tc : Thread nD τ).loc main_arg2)
abbrev aC (c : Dev nD) : FVec Ideal ⟨2, ![3, 5632]⟩ .f32 := m ((c.tc : Thread nD τ).loc main_arg3)
abbrev aB (c : Dev nD) : FVec Ideal ⟨1, ![5632]⟩ .f32 := m ((c.tc : Thread nD τ).loc main_arg4)
abbrev aD (c : Dev nD) : FVec Ideal ⟨2, ![5632, 2048]⟩ .f32 := m ((c.tc : Thread nD τ).loc main_arg5)

/-- The scratch stored at the first point of a row block. -/
theorem scr_of_pieces (c : Dev nD) (t : Fin cfg0.N) :
    Scr (aH m c) (aG m c) (rowBlk t) ((View.canon
      [⟨Rect.unit ![512, 0] ![16, 2048] inb_S528x2048_S16x2048_512_0,
          k0_pay7 (k0_pay3 (iblk m c 3 t))
            (Scalar.select
              (Scalar.andi (Scalar.xori (Scalar.cmpi .slt (Scalar.remsi (BitVec.ofNat 32 (grid0.coords t 0).val) 32#32) 0#32) 0#1)
                (Scalar.cmpi .ne (Scalar.remsi (BitVec.ofNat 32 (grid0.coords t 0).val) 32#32) 0#32))
              (Scalar.addi (Scalar.remsi (BitVec.ofNat 32 (grid0.coords t 0).val) 32#32) 32#32) (Scalar.remsi (BitVec.ofNat 32 (grid0.coords t 0).val) 32#32))
            (Scalar.cmpi .eq (Scalar.select
              (Scalar.andi (Scalar.xori (Scalar.cmpi .slt (Scalar.remsi (BitVec.ofNat 32 (grid0.coords t 0).val) 32#32) 0#32) 0#1)
                (Scalar.cmpi .ne (Scalar.remsi (BitVec.ofNat 32 (grid0.coords t 0).val) 32#32) 0#32))
              (Scalar.addi (Scalar.remsi (BitVec.ofNat 32 (grid0.coords t 0).val) 32#32) 32#32) (Scalar.remsi (BitVec.ofNat 32 (grid0.coords t 0).val) 32#32)) 0#32)
            (k0_pay5 (iblk m c 1 t)) (k0_pay6 (iblk m c 1 t)) (FloatOps.ofBits (F := Ideal) .f32 897988541#32) (iblk m c 2 t)⟩,
        ⟨Rect.unit ![0, 0] ![512, 2048] inb_S528x2048_S512x2048_0_0, k0_pay4 (iblk m c 0 t) (iblk m c 3 t)⟩] : Vec Ideal S528x2048 .bf16)) := by
  have ht := lt_of_lt_of_eq t.isLt N_0
  have hp := place (rowBlk t)
  rw [show (rowBlk t).val = (grid0.coords t 0).val from (coord t).symm] at hp
  rw [hp, coord t]
  have hg : (fun e => (iblk m c 3 t : FVec Ideal S1x2048 .f32) (ix2 0 e)) = fun e => (aG m c) (ix1 e) := funext fun e => blk3 m c t e
  constructor
  · intro r k
    refine (canon_top _ _ _ k r.isLt).trans ?_
    refine (pay4_at _ _ r k).trans ?_
    rw [hg]
    unfold Ffn.nrow
    exact congrArg (fun f => Ffn.nrm f _ k) (funext fun e => blk0 m c t r e)
  · intro k
    refine (canon_bot _ _ 512 k (by decide)).trans ?_
    refine (pay7_zero _ _ _ _ _ k).trans ?_
    rw [hg]
    unfold Ffn.before
    by_cases h : t.val / 11 % 32 = 0
    · rw [if_pos (by rw [h]; rfl), if_pos (by simp only [rowBlk]; omega)]
    · rw [if_neg ?_, if_neg (by simp only [rowBlk]; omega)]
      · unfold Ffn.nrow
        exact congrArg (fun f => Ffn.nrm f _ k) (funext fun e => blk1 m c t h e)
      · show ¬ IntOp.cmpi .eq (BitVec.ofNat 32 (t.val / 11 % 32)) (BitVec.ofNat 32 0) = 1#1
        rw [WordCmp.cmpi_eq_ofNat (by omega) (by omega), decide_eq_false h]
        decide
  · intro k
    refine (canon_bot _ _ 513 k (by decide)).trans ?_
    refine (pay7_one _ _ _ _ _ k).trans ?_
    rw [hg]
    unfold Ffn.after
    by_cases h : t.val / 11 % 32 = 31
    · rw [if_pos (by rw [h]), dif_pos (by simp only [rowBlk]; omega)]
    · rw [if_neg ?_, dif_neg (by simp only [rowBlk]; omega)]
      · unfold Ffn.nrow
        exact congrArg (fun f => Ffn.nrm f _ k) (funext fun e => blk2 m c t h e)
      · intro e
        have := congrArg BitVec.toNat e
        simp only [BitVec.toNat_ofNat] at this
        omega

/-- The scratch after every point. -/
theorem scr (c : Dev nD) (n : ℕ) : ∀ hn : n < cfg0.N, Scr (aH m c) (aG m c) (rowBlk ⟨n, hn⟩) (outsAt0 m c n hn).2 := by
  induction n with
  | zero =>
    intro hn
    rw [outsAt0_A m c ⟨0, hn⟩ rfl]
    frame_out
    exact scr_of_pieces m c ⟨0, hn⟩
  | succ n ih =>
    intro hn
    by_cases h : (n + 1) % 11 = 0
    · rw [outsAt0_A m c ⟨n + 1, hn⟩ h]
      frame_out
      exact scr_of_pieces m c ⟨n + 1, hn⟩
    · rw [outsAt0_B m c ⟨n + 1, hn⟩ h]
      have e : rowBlk ⟨n + 1, hn⟩ = rowBlk ⟨n, Nat.lt_of_succ_lt hn⟩ := Fin.ext (by simp only [rowBlk]; omega)
      rw [e]
      exact ih (Nat.lt_of_succ_lt hn)

/-- A row of the block of a grid point. -/
def rowOf (t : Fin cfg0.N) (r : Fin 512) : Fin 32768 := ⟨(rowBlk t).val * 512 + r.val, by have := (rowBlk t).isLt; omega⟩

/-- A column of the block of a grid point. -/
def colOf (j : Fin 11) (n : Fin 512) : Fin 5632 := ⟨j.val * 512 + n.val, by omega⟩

/-- What one point adds to the result block: the terms of its 512 columns. -/
def part (c : Dev nD) (i : Fin 32768) (j : Fin 11) (d : Fin 2048) : EReal :=
  ∑ n : Fin 512, Ffn.act (aH m c) (aG m c) (aW m c) (aC m c) (aB m c) i (colOf j n) * (aD m c) (ix2 (colOf j n) d)

theorem out_A (c : Dev nD) (t : Fin cfg0.N) (h : t.val % 11 = 0) (r : Fin 512) (d : Fin 2048) :
    (outsAt0 m c t.val t.isLt).1 (ix2 r d) = Ffn.row (aH m c) (rowOf t r) d + part m c (rowOf t r) (colBlk t) d := by
  rw [outsAt0_A m c t h]
  frame_out
  rw [View.readCov_eq_canon', View.readCov_eq_canon']
  refine (congrArg (fun z => k0_pay1 (F := Ideal) _ (k0_pay9 z _ _) _ _ _ (ix2 r d)) ?_).trans
    ((step_eq (aW m c) (aC m c) (aB m c) (aD m c) (scr_of_pieces m c t) (colBlk t) _ ?_ _ _ _ _ _ _
      (blk4 m c t) (blk5 m c t) (blk6 m c t) (blk7 m c t) (blk8 m c t) r d).trans ?_)
  · funext y
    refine congrArg _ ?_
    idx_vars y
    idx_ext
  · intro r k
    refine congrArg _ ?_
    idx_ext
  · refine congrArg (· + _) ?_
    refine Eq.trans ?_ (blk0 m c t r d)
    pointwise [k0_pay2]

theorem out_B (c : Dev nD) (t : Fin cfg0.N) (h : ¬ t.val % 11 = 0) (r : Fin 512) (d : Fin 2048) :
    (outsAt0 m c t.val t.isLt).1 (ix2 r d)
      = (outsAt0 m c (t.val - 1) (Nat.lt_of_le_of_lt (Nat.sub_le _ _) t.isLt)).1 (ix2 r d) + part m c (rowOf t r) (colBlk t) d := by
  have hs := scr m c (t.val - 1) (Nat.lt_of_le_of_lt (Nat.sub_le _ _) t.isLt)
  have e : rowBlk ⟨t.val - 1, Nat.lt_of_le_of_lt (Nat.sub_le _ _) t.isLt⟩ = rowBlk t := Fin.ext (by simp only [rowBlk]; omega)
  rw [e] at hs
  rw [outsAt0_B m c t h]
  frame_out
  rw [read_unread_whole]
  refine (step_eq (aW m c) (aC m c) (aB m c) (aD m c) hs (colBlk t) _ ?_ _ _ _ _ _ _
      (blk4 m c t) (blk5 m c t) (blk6 m c t) (blk7 m c t) (blk8 m c t) r d).trans rfl
  intro r k
  unfold View.ld
  refine congrArg _ ?_
  idx_ext

/-- The result block after every point: the rows of the argument and the column blocks up to the point's. -/
theorem out_upto (c : Dev nD) (r : Fin 512) (d : Fin 2048) (n : ℕ) : ∀ hn : n < cfg0.N,
    (outsAt0 m c n hn).1 (ix2 r d) = Ffn.row (aH m c) (rowOf ⟨n, hn⟩ r) d
      + ∑ j ∈ Finset.range (n % 11 + 1), if h : j < 11 then part m c (rowOf ⟨n, hn⟩ r) ⟨j, h⟩ d else 0 := by
  have last : ∀ hn : n < cfg0.N, (if h : n % 11 < 11 then part m c (rowOf ⟨n, hn⟩ r) ⟨n % 11, h⟩ d else 0)
      = part m c (rowOf ⟨n, hn⟩ r) (colBlk ⟨n, hn⟩) d := fun hn => dif_pos (Nat.mod_lt _ (by decide))
  induction n with
  | zero =>
    intro hn
    refine (out_A m c ⟨0, hn⟩ rfl r d).trans (congrArg (_ + ·) ?_)
    rw [Finset.sum_range_succ, last hn]
    simp
  | succ n ih =>
    intro hn
    rw [Finset.sum_range_succ, last hn]
    by_cases h : (n + 1) % 11 = 0
    · refine (out_A m c ⟨n + 1, hn⟩ h r d).trans (congrArg (_ + ·) ?_)
      rw [h, Finset.range_zero, Finset.sum_empty, zero_add]
    · refine (out_B m c ⟨n + 1, hn⟩ h r d).trans ?_
      have e : rowOf ⟨n + 1, hn⟩ r = rowOf ⟨n, Nat.lt_of_succ_lt hn⟩ r := Fin.ext (by simp only [rowOf, rowBlk]; omega)
      have e' : (n + 1) % 11 = n % 11 + 1 := by omega
      rw [← add_assoc, e']
      refine congrArg₂ (· + ·) ?_ rfl
      rw [e]
      refine (ih (fun _ => dif_pos (Nat.mod_lt _ (by decide))) (Nat.lt_of_succ_lt hn)).trans rfl

/-- The result array after the run is the reference's result. -/
theorem arr_eq (c : Dev nD) : (dats m 0 c).arrAt 9 cfg0.N
    = FfnRefIdeal.RefAt.REF (aH m c) (aG m c) (aW m c) (aC m c) (aB m c) (aD m c) := by
  refine (dats m 0 c).arrAt_eq_of_covers 9 _ (by decide +kernel) fun t hf y => ?_
  have ht := lt_of_lt_of_eq t.isLt N_0
  have h10 : t.val % 11 = 10 := (flush0_9 t).mp hf
  blk_simp [idx t]
  rw [after0_9]
  obtain ⟨r, d, rfl⟩ : ∃ (r : Fin 512) (d : Fin 2048), y = ix2 r d := ⟨y 0, y 1, eq_ix2 y⟩
  have e : (win0_9.blk t).view.emb (ix2 r d) = ix2 (rowOf t r) d := by
    blk_ext [idx t, rowOf, rowBlk]
  rw [e, FfnRefIdeal.RefAt.REF_at]
  refine (out_upto m c r d t.val t.isLt).trans (congrArg (_ + ·) ?_)
  rw [h10, Finset.sum_range, Fin.sum_univ_tiles 11 512 rfl]
  exact Finset.sum_congr rfl fun j _ => dif_pos j.isLt

end Cert.FfnIdeal.Val
-- ==== Proof.FfnClaim.lean ====
module

public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.FfnValue
public import Idealize.ShloMosaic.Lib.Claim

@[expose] public section

/-!
# The claims about the feed-forward kernel
-/

set_option maxRecDepth 16384

noncomputable section

open Idealize.ShloMosaic Idealize.SL.Sem

namespace Cert.FfnClaim

theorem frame_P : Cert.quiescent_Ffn := fun m g _ => Cert.Ffn.Gen.frame m g

theorem frame_PI : Cert.quiescent_FfnIdeal := fun m g _ => Cert.FfnIdeal.Gen.frame m g

theorem frame_RI : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run m g)

/-- The kernel's array is the reference's result on the same arguments. -/
theorem algebraic : Cert.algebraic_FfnIdeal_FfnRefIdeal := by
  pair_intro
  · run_from Cert.FfnIdeal.Gen.run_main m g
  · run_from Cert.FfnRefIdeal.Value.run m' g'
    refine (Cert.FfnRefIdeal.RefAt.res_eq m' c).trans (Eq.trans ?_ (Cert.FfnIdeal.Val.arr_eq m c).symm)
    obtain ⟨h0, h1, h2, h3, h4, h5⟩ := hagree c
    rw [h0, h1, h2, h3, h4, h5]

end Cert.FfnClaim
-- ==== Proof.InRefAt.lean ====
module

public import proofs.«01_k».proof.Proof.Gen.InRefIdeal.Run
public import proofs.«01_k».proof.Proof.FfnMath
public import Idealize.ShloMosaic.Lib.Pointwise

@[expose] public section

/-!
# The reference of the input projection, entry by entry
-/

set_option maxRecDepth 16384

noncomputable section

open Idealize.ShloMosaic Idealize.ShloMosaic.TcCoe Idealize.SL.Sem

namespace Cert.InRefIdeal.RefAt

open Cert.InRefIdeal Cert.InRefIdeal.Gen

variable (H : FVec Ideal S32768x2048 .f32) (G : FVec Ideal S2048 .f32) (W : FVec Ideal S2048x3072 .f32) (S : FVec Ideal S3072 .f32)

/-- The reference's result. -/
def REF : FVec Ideal S32768x3072 .bf16 :=
  truncf .bf16 (mulf (Host.dotGeneral dot_S32768x2048_S2048x3072_S32768x3072_1_0_0_1_n_n none (mulf (mulf H (broadcastInDim S32768x2048 ![0, 1] bcast_S32768x1_S32768x2048_0_1 (Host.rsqrt (addf (Host.divf (broadcastInDim S32768x1 ![0] bcast_S32768_S32768x1_0 (Host.reduceAdd (mulf H H) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 G))) W) (broadcastInDim S32768x3072 ![0, 1] bcast_S1x3072_S32768x3072_0_1 (broadcastInDim S1x3072 ![1] bcast_S3072_S1x3072_1 S))) bitsLt_bf16_f32

/-- What the reference computes at an index. -/
theorem REF_at (i : Fin 32768) (d : Fin 3072) :
    REF H G W S (ix2 i d) = (∑ k : Fin 2048, Ffn.nrm (fun e => H (ix2 i e)) (fun e => G (ix1 e)) k * W (ix2 k d)) * S (ix1 d) := by
  unfold Ffn.nrm
  pointwise [REF]

end Cert.InRefIdeal.RefAt
-- ==== Proof.InValue.lean ====
module

public import proofs.«01_k».proof.Proof.Gen.InIdeal.Value
public import proofs.«01_k».proof.Proof.InRefAt
public import Idealize.ShloMosaic.Lib.Pointwise
public import Idealize.ShloMosaic.Lib.Pipeline.ValueKit
public import Idealize.ShloMosaic.Lib.Pipeline.ReadBack

@[expose] public section

/-!
# The result array of the input projection

Point `t` works on row block `t / 6` and column block `t % 6`; the normalized rows of the row block are kept in a scratch.
-/

set_option maxRecDepth 16384

noncomputable section

open Idealize.ShloMosaic Idealize.ShloMosaic.TcCoe Idealize.SL.Sem

namespace Cert.InIdeal.Val

open Cert.InIdeal Cert.InIdeal.Gen

/-- The normalized block. -/
theorem pay1_at (x : FVec Ideal S1024x2048 .f32) (g : FVec Ideal S1x2048 .f32) (r : Fin 1024) (d : Fin 2048) :
    k0_pay1 (F := Ideal) x g (ix2 r d) = Ffn.nrm (fun e => x (ix2 r e)) (fun e => g (ix2 0 e)) d := by
  unfold Ffn.nrm
  pointwise [k0_pay1]

/-- The block that a point stores. -/
theorem pay2_at (z : FVec Ideal S1024x2048 .bf16) (w : FVec Ideal S2048x512 .bf16) (s : FVec Ideal S1x512 .f32) (r : Fin 1024) (d : Fin 512) :
    k0_pay2 (F := Ideal) z w s (ix2 r d) = (∑ k, z (ix2 r k) * w (ix2 k d)) * s (ix2 0 d) := by
  pointwise [k0_pay2]

/-- The blocks the windows are on at each grid point. -/
theorem idx : ∀ t : Fin cfg0.N, win0_0.index t = ![t.val / 6, 0] ∧ win0_1.index t = ![0, 0] ∧ win0_2.index t = ![0, t.val % 6]
    ∧ win0_3.index t = ![0, t.val % 6] ∧ win0_4.index t = ![t.val / 6, t.val % 6] :=
  (by decide +kernel : ∀ t : Fin grid0.N, _)

variable (m : (ℓ : Loc nD τ sig) → Buf (Elt Ideal) ℓ) (c : Dev nD)

abbrev aH : FVec Ideal ⟨2, ![32768, 2048]⟩ .f32 := m ((c.tc : Thread nD τ).loc main_arg0)
abbrev aG : FVec Ideal ⟨1, ![2048]⟩ .f32 := m ((c.tc : Thread nD τ).loc main_arg1)
abbrev aW : FVec Ideal ⟨2, ![2048, 3072]⟩ .f32 := m ((c.tc : Thread nD τ).loc main_arg2)
abbrev aS : FVec Ideal ⟨1, ![3072]⟩ .f32 := m ((c.tc : Thread nD τ).loc main_arg3)

section blocks

variable (t : Fin cfg0.N)

/-- The row of the arrays that a row of the point's block is. -/
def rowOf (r : Fin 1024) : Fin 32768 := ⟨t.val / 6 * 1024 + r.val, by have := lt_of_lt_of_eq t.isLt N_0; omega⟩

/-- The column of the arrays that a column of the point's block is. -/
def colOf (d : Fin 512) : Fin 3072 := ⟨t.val % 6 * 512 + d.val, by omega⟩

/-- The block of rows. -/
theorem blk0 (r : Fin 1024) (k : Fin 2048) :
    (iblk m c 0 t : FVec Ideal S1024x2048 .f32) (ix2 r k) = aH m c (ix2 (rowOf t r) k) := by
  have ht := lt_of_lt_of_eq t.isLt N_0
  blk_ext [iblk, V, idx t, rowOf, colOf]

/-- The scale of the norm. -/
theorem blk1 (k : Fin 2048) :
    (iblk m c 1 t : FVec Ideal S1x2048 .f32) (ix2 0 k) = aG m c (ix1 k) := by
  have ht := lt_of_lt_of_eq t.isLt N_0
  unfold iblk
  entry_read
  blk_simp [idx t, rowOf, colOf]
  pointwise
  blk_ext [idx t, rowOf, colOf]

/-- The columns of the weights. -/
theorem blk2 (k : Fin 2048) (d : Fin 512) :
    (iblk m c 2 t : FVec Ideal S2048x512 .bf16) (ix2 k d) = aW m c (ix2 k (colOf t d)) := by
  have ht := lt_of_lt_of_eq t.isLt N_0
  unfold iblk
  entry_read
  blk_simp [idx t, rowOf, colOf]
  pointwise
  blk_ext [idx t, rowOf, colOf]

/-- The scales of the columns. -/
theorem blk3 (d : Fin 512) :
    (iblk m c 3 t : FVec Ideal S1x512 .f32) (ix2 0 d) = aS m c (ix1 (colOf t d)) := by
  have ht := lt_of_lt_of_eq t.isLt N_0
  unfold iblk
  entry_read
  blk_simp [idx t, rowOf, colOf]
  pointwise
  blk_ext [idx t, rowOf, colOf]

end blocks

/-- The scratch after every point: the normalized rows of the point's row block. -/
theorem scr (n : ℕ) : ∀ hn : n < cfg0.N, ∀ (r : Fin 1024) (k : Fin 2048),
    (outsAt0 m c n hn).2 (ix2 r k) = Ffn.nrm (fun e => aH m c (ix2 (rowOf ⟨n, hn⟩ r) e)) (fun e => aG m c (ix1 e)) k := by
  have first : ∀ t : Fin cfg0.N, t.val % 6 = 0 → ∀ (r : Fin 1024) (k : Fin 2048),
      (outsAt0 m c t.val t.isLt).2 (ix2 r k) = Ffn.nrm (fun e => aH m c (ix2 (rowOf t r) e)) (fun e => aG m c (ix1 e)) k := by
    intro t h r k
    rw [outsAt0_A m c t h]
    frame_out
    refine (pay1_at _ _ r k).trans ?_
    exact congrArg₂ (fun f g => Ffn.nrm f g k) (funext fun e => blk0 m c t r e) (funext fun e => blk1 m c t e)
  induction n with
  | zero => exact fun hn => first ⟨0, hn⟩ rfl
  | succ n ih =>
    intro hn r k
    by_cases h : (n + 1) % 6 = 0
    · exact first ⟨n + 1, hn⟩ h r k
    · rw [outsAt0_B m c ⟨n + 1, hn⟩ h]
      have e : rowOf ⟨n + 1, hn⟩ r = rowOf ⟨n, Nat.lt_of_succ_lt hn⟩ r := Fin.ext (by simp only [rowOf]; omega)
      rw [e]
      exact ih (Nat.lt_of_succ_lt hn) r k

/-- The result block after every point. -/
theorem out_eq (t : Fin cfg0.N) (r : Fin 1024) (d : Fin 512) : (outsAt0 m c t.val t.isLt).1 (ix2 r d)
    = (∑ k : Fin 2048, Ffn.nrm (fun e => aH m c (ix2 (rowOf t r) e)) (fun e => aG m c (ix1 e)) k * aW m c (ix2 k (colOf t d)))
      * aS m c (ix1 (colOf t d)) := by
  have key : ∀ z : FVec Ideal S1024x2048 .bf16, (∀ k : Fin 2048, z (ix2 r k) = (outsAt0 m c t.val t.isLt).2 (ix2 r k)) →
      k0_pay2 (F := Ideal) z (iblk m c 2 t) (iblk m c 3 t) (ix2 r d)
      = (∑ k : Fin 2048, Ffn.nrm (fun e => aH m c (ix2 (rowOf t r) e)) (fun e => aG m c (ix1 e)) k * aW m c (ix2 k (colOf t d)))
        * aS m c (ix1 (colOf t d)) := fun z hz =>
    (pay2_at _ _ _ r d).trans (congrArg₂ (· * ·)
      (Finset.sum_congr rfl fun k _ => congrArg₂ (· * ·) ((hz k).trans (scr m c t.val t.isLt r k)) (blk2 m c t k d)) (blk3 m c t d))
  by_cases h : t.val % 6 = 0
  · have hs := congrArg Prod.snd (outsAt0_A m c t h)
    rw [outsAt0_A m c t h]
    refine Eq.trans ?_ (key _ fun k => (congrFun hs (ix2 r k)).symm)
    frame_out
  · have hs := congrArg Prod.snd (outsAt0_B m c t h)
    rw [outsAt0_B m c t h]
    refine Eq.trans ?_ (key _ fun k => (congrFun hs (ix2 r k)).symm)
    frame_out
    rw [read_unread_whole]
    rfl

/-- The result array after the run is the reference's result. -/
theorem arr_eq : (dats m 0 c).arrAt 4 cfg0.N = InRefIdeal.RefAt.REF (aH m c) (aG m c) (aW m c) (aS m c) := by
  refine (dats m 0 c).arrAt_eq_of_covers 4 _ (by decide +kernel) fun t hf y => ?_
  have ht := lt_of_lt_of_eq t.isLt N_0
  blk_simp [idx t]
  rw [after0_4]
  obtain ⟨r, d, rfl⟩ : ∃ (r : Fin 1024) (d : Fin 512), y = ix2 r d := ⟨y 0, y 1, eq_ix2 y⟩
  have e : (win0_4.blk t).view.emb (ix2 r d) = ix2 (rowOf t r) (colOf t d) := by
    blk_ext [idx t, rowOf, colOf]
  rw [e, InRefIdeal.RefAt.REF_at]
  exact out_eq m c t r d

end Cert.InIdeal.Val
-- ==== Proof.InClaim.lean ====
module

public import proofs.«01_k».proof.Defs
public import proofs.«01_k».proof.Proof.Gen.In.Frame
public import proofs.«01_k».proof.Proof.Gen.InIdeal.Frame
public import proofs.«01_k».proof.Proof.Gen.InRefIdeal.Run
public import proofs.«01_k».proof.Proof.InValue
public import Idealize.ShloMosaic.Lib.Claim

@[expose] public section

/-!
# The claims about the input projection
-/

set_option maxRecDepth 16384

noncomputable section

open Idealize.ShloMosaic Idealize.SL.Sem

namespace Cert.InClaim

theorem frame_P : Cert.quiescent_In := fun m g _ => Cert.In.Gen.frame m g

theorem frame_PI : Cert.quiescent_InIdeal := fun m g _ => Cert.InIdeal.Gen.frame m g

theorem frame_RI : Cert.quiescent_InRefIdeal := fun m g _ =>
  (θ_run Cert.InRefIdeal.defs _ _).mono (fun r h => ⟨fun c => (h c).2, sem_eq_zero_of_no_sems (by decide) r.2⟩)
    (Cert.InRefIdeal.Value.run m g)

/-- The kernel's array is the reference's result on the same arguments. -/
theorem algebraic : Cert.algebraic_InIdeal_InRefIdeal := by
  pair_intro
  · run_from Cert.InIdeal.Gen.run_main m g
  · run_from Cert.InRefIdeal.Value.run m' g'
    refine Eq.trans ?_ (Cert.InIdeal.Val.arr_eq m c).symm
    rfl

end Cert.InClaim
-- ==== Proof.OutRefAt.lean ====
module

public import proofs.«01_k».proof.Proof.Gen.OutRefIdeal.Run
public import proofs.«01_k».proof.Proof.FfnMath
public import Idealize.ShloMosaic.Lib.Pointwise

@[expose] public section

/-!
# The reference of the output projection, entry by entry
-/

set_option maxRecDepth 16384

noncomputable section

open Idealize.ShloMosaic Idealize.ShloMosaic.TcCoe Idealize.SL.Sem

namespace Cert.OutRefIdeal.RefAt

open Cert.OutRefIdeal Cert.OutRefIdeal.Gen

variable (A : FVec Ideal S32768x1024 .bf16) (B : FVec Ideal S32768x512 .bf16) (C : FVec Ideal S32768x512 .bf16) (W : FVec Ideal S2048x2048 .f32) (H : FVec Ideal S32768x2048 .f32)

/-- The reference's result. -/
def REF : FVec Ideal S32768x2048 .f32 :=
  addf H (Host.dotGeneral dot_S32768x2048_S2048x2048_S32768x2048_1_0_0_1_n_n none (extf .f32 ((concatenate S32768x2048 1 [⟨S32768x1024, A⟩, ⟨S32768x512, B⟩, ⟨S32768x512, C⟩] concatenates_S32768x1024_S32768x512_S32768x512_S32768x2048_d1)) bitsLt_bf16_f32) W)

/-- A sum over 2048 indices as three sums, over the first 1024, the next 512 and the last 512. -/
theorem sum_parts (f : Fin 2048 → EReal) :
    ∑ x, f x = (∑ k : Fin 1024, f ⟨k.val, by omega⟩) + (∑ k : Fin 512, f ⟨1024 + k.val, by omega⟩)
      + ∑ k : Fin 512, f ⟨1536 + k.val, by omega⟩ :=
  (Fin.sum_univ_add (a := 1536) (b := 512) f).trans
    (congrArg (· + _) (Fin.sum_univ_add (a := 1024) (b := 512) fun k : Fin 1536 => f ⟨k.val, by omega⟩))

/-- What the reference computes at an index. -/
theorem REF_at (i : Fin 32768) (d : Fin 2048) :
    REF A B C W H (ix2 i d) = H (ix2 i d) + ((∑ k : Fin 1024, A (ix2 i k) * W (ix2 ⟨k.val, by omega⟩ d)) + (∑ k : Fin 512, B (ix2 i k) * W (ix2 ⟨1024 + k.val, by omega⟩ d))
        + ∑ k : Fin 512, C (ix2 i k) * W (ix2 ⟨1536 + k.val, by omega⟩ d)) := by
  pointwise [REF]
  refine congrArg (_ + ·) ?_
  rw [sum_parts]
  refine congrArg₂ (· + ·) (congrArg₂ (· + ·) ?_ ?_) ?_ <;> refine Finset.sum_congr rfl fun k _ => ?_
  · rw [dif_pos k.isLt]
  · rw [dif_neg (by simp only; omega), dif_pos (by simp only; omega)]
    simp only [Nat.add_sub_cancel_left]
  · rw [dif_neg (by simp only; omega), dif_neg (by simp only; omega)]
    have e : (1536 + k.val) - 1024 - 512 = k.val := by omega
    simp only [e]

end Cert.OutRefIdeal.RefAt
-- ==== Proof.OutValue.lean ====
module

public import proofs.«01_k».proof.Proof.Gen.OutIdeal.Value
public import proofs.«01_k».proof.Proof.OutRefAt
public import Idealize.ShloMosaic.Lib.Pointwise
public import Idealize.ShloMosaic.Lib.Pipeline.ValueKit

@[expose] public section

/-!
# The result array of the output projection

Point `t` works on row block `t / 4` and column block `t % 4`.
-/

set_option maxRecDepth 16384

noncomputable section

open Idealize.ShloMosaic Idealize.ShloMosaic.TcCoe Idealize.SL.Sem

namespace Cert.OutIdeal.Val

open Cert.OutIdeal Cert.OutIdeal.Gen

/-- The block that a point stores. -/
theorem pay_at (a : FVec Ideal S1024x1024 .bf16) (wa : FVec Ideal S1024x512 .bf16) (b : FVec Ideal S1024x512 .bf16) (wb : FVec Ideal S512x512 .bf16)
    (z : FVec Ideal S1024x512 .bf16) (wc : FVec Ideal S512x512 .bf16) (h : FVec Ideal S1024x512 .f32) (r : Fin 1024) (d : Fin 512) :
    k0_pay1 (F := Ideal) a wa b wb z wc h (ix2 r d)
      = h (ix2 r d) + ((∑ k, a (ix2 r k) * wa (ix2 k d)) + (∑ k, b (ix2 r k) * wb (ix2 k d)) + ∑ k, z (ix2 r k) * wc (ix2 k d)) := by
  pointwise [k0_pay1]

/-- The blocks the windows are on at each grid point. -/
theorem idx : ∀ t : Fin cfg0.N, win0_0.index t = ![t.val / 4, 0] ∧ win0_1.index t = ![t.val / 4, 0] ∧ win0_2.index t = ![t.val / 4, 0]
    ∧ win0_3.index t = ![0, t.val % 4] ∧ win0_4.index t = ![0, t.val % 4] ∧ win0_5.index t = ![0, t.val % 4]
    ∧ win0_6.index t = ![t.val / 4, t.val % 4] ∧ win0_7.index t = ![t.val / 4, t.val % 4] :=
  (by decide +kernel : ∀ t : Fin grid0.N, _)

variable (m : (ℓ : Loc nD τ sig) → Buf (Elt Ideal) ℓ) (c : Dev nD) (t : Fin cfg0.N)

abbrev aA : FVec Ideal ⟨2, ![32768, 1024]⟩ .bf16 := m ((c.tc : Thread nD τ).loc main_arg0)
abbrev aB : FVec Ideal ⟨2, ![32768, 512]⟩ .bf16 := m ((c.tc : Thread nD τ).loc main_arg1)
abbrev aC : FVec Ideal ⟨2, ![32768, 512]⟩ .bf16 := m ((c.tc : Thread nD τ).loc main_arg2)
abbrev aW : FVec Ideal ⟨2, ![2048, 2048]⟩ .f32 := m ((c.tc : Thread nD τ).loc main_arg3)
abbrev aH : FVec Ideal ⟨2, ![32768, 2048]⟩ .f32 := m ((c.tc : Thread nD τ).loc main_arg4)

/-- The row of the arrays that a row of the point's block is. -/
def rowOf (r : Fin 1024) : Fin 32768 := ⟨t.val / 4 * 1024 + r.val, by have := lt_of_lt_of_eq t.isLt N_0; omega⟩

/-- The column of the arrays that a column of the point's block is. -/
def colOf (d : Fin 512) : Fin 2048 := ⟨t.val % 4 * 512 + d.val, by omega⟩

/-- The first head group. -/
theorem blk0 (r : Fin 1024) (k : Fin 1024) :
    (iblk m c 0 t : FVec Ideal S1024x1024 .bf16) (ix2 r k) = aA m c (ix2 (rowOf t r) k) := by
  have ht := lt_of_lt_of_eq t.isLt N_0
  blk_ext [iblk, V, idx t, rowOf, colOf]

/-- The second head group. -/
theorem blk1 (r : Fin 1024) (k : Fin 512) :
    (iblk m c 1 t : FVec Ideal S1024x512 .bf16) (ix2 r k) = aB m c (ix2 (rowOf t r) k) := by
  have ht := lt_of_lt_of_eq t.isLt N_0
  blk_ext [iblk, V, idx t, rowOf, colOf]

/-- The third head group. -/
theorem blk2 (r : Fin 1024) (k : Fin 512) :
    (iblk m c 2 t : FVec Ideal S1024x512 .bf16) (ix2 r k) = aC m c (ix2 (rowOf t r) k) := by
  have ht := lt_of_lt_of_eq t.isLt N_0
  blk_ext [iblk, V, idx t, rowOf, colOf]

/-- The first head group's weights. -/
theorem blk3 (k : Fin 1024) (d : Fin 512) :
    (iblk m c 3 t : FVec Ideal S1024x512 .bf16) (ix2 k d) = aW m c (ix2 ⟨k.val, by omega⟩ (colOf t d)) := by
  have ht := lt_of_lt_of_eq t.isLt N_0
  unfold iblk
  entry_read
  blk_simp [idx t, rowOf, colOf]
  pointwise
  blk_ext [idx t, rowOf, colOf]

/-- The second head group's weights. -/
theorem blk4 (k : Fin 512) (d : Fin 512) :
    (iblk m c 4 t : FVec Ideal S512x512 .bf16) (ix2 k d) = aW m c (ix2 ⟨1024 + k.val, by omega⟩ (colOf t d)) := by
  have ht := lt_of_lt_of_eq t.isLt N_0
  unfold iblk
  entry_read
  blk_simp [idx t, rowOf, colOf]
  pointwise
  blk_ext [idx t, rowOf, colOf]

/-- The third head group's weights. -/
theorem blk5 (k : Fin 512) (d : Fin 512) :
    (iblk m c 5 t : FVec Ideal S512x512 .bf16) (ix2 k d) = aW m c (ix2 ⟨1536 + k.val, by omega⟩ (colOf t d)) := by
  have ht := lt_of_lt_of_eq t.isLt N_0
  unfold iblk
  entry_read
  blk_simp [idx t, rowOf, colOf]
  pointwise
  blk_ext [idx t, rowOf, colOf]

/-- The hidden state. -/
theorem blk6 (r : Fin 1024) (d : Fin 512) :
    (iblk m c 6 t : FVec Ideal S1024x512 .f32) (ix2 r d) = aH m c (ix2 (rowOf t r) (colOf t d)) := by
  have ht := lt_of_lt_of_eq t.isLt N_0
  blk_ext [iblk, V, idx t, rowOf, colOf]

/-- The result array after the run is the reference's result. -/
theorem arr_eq : (dats m 0 c).arrAt 7 cfg0.N = OutRefIdeal.RefAt.REF (aA m c) (aB m c) (aC m c) (aW m c) (aH m c) := by
  refine (dats m 0 c).arrAt_eq_of_covers 7 _ (by decide +kernel) fun t hf y => ?_
  have ht := lt_of_lt_of_eq t.isLt N_0
  blk_simp [idx t]
  rw [after0_7]
  obtain ⟨r, d, rfl⟩ : ∃ (r : Fin 1024) (d : Fin 512), y = ix2 r d := ⟨y 0, y 1, eq_ix2 y⟩
  have e : (win0_7.blk t).view.emb (ix2 r d) = ix2 (rowOf t r) (colOf t d) := by
    blk_ext [idx t, rowOf, colOf]
  rw [e, OutRefIdeal.RefAt.REF_at]
  unfold out0_7
  frame_out
  refine (pay_at _ _ _ _ _ _ _ r d).trans ?_
  refine congrArg₂ (· + ·) (blk6 m c t r d) (congrArg₂ (· + ·) (congrArg₂ (· + ·) ?_ ?_) ?_) <;> refine Finset.sum_congr rfl fun k _ => ?_
  · exact congrArg₂ (· * ·) (blk0 m c t r k) (blk3 m c t k d)
  · exact congrArg₂ (· * ·) (blk1 m c t r k) (blk4 m c t k d)
  · exact congrArg₂ (· * ·) (blk2 m c t r k) (blk5 m c t k d)

end Cert.OutIdeal.Val
-- ==== Proof.OutClaim.lean ====
module

public import proofs.«01_k».proof.Defs
public import proofs.«01_k».proof.Proof.Gen.Out.Frame
public import proofs.«01_k».proof.Proof.Gen.OutIdeal.Frame
public import proofs.«01_k».proof.Proof.Gen.OutRefIdeal.Run
public import proofs.«01_k».proof.Proof.OutValue
public import Idealize.ShloMosaic.Lib.Claim

@[expose] public section

/-!
# The claims about the output projection
-/

set_option maxRecDepth 16384

noncomputable section

open Idealize.ShloMosaic Idealize.SL.Sem

namespace Cert.OutClaim

theorem frame_P : Cert.quiescent_Out := fun m g _ => Cert.Out.Gen.frame m g

theorem frame_PI : Cert.quiescent_OutIdeal := fun m g _ => Cert.OutIdeal.Gen.frame m g

theorem frame_RI : Cert.quiescent_OutRefIdeal := fun m g _ =>
  (θ_run Cert.OutRefIdeal.defs _ _).mono (fun r h => ⟨fun c => (h c).2, sem_eq_zero_of_no_sems (by decide) r.2⟩)
    (Cert.OutRefIdeal.Value.run m g)

/-- The kernel's array is the reference's result on the same arguments. -/
theorem algebraic : Cert.algebraic_OutIdeal_OutRefIdeal := by
  pair_intro
  · run_from Cert.OutIdeal.Gen.run_main m g
  · run_from Cert.OutRefIdeal.Value.run m' g'
    refine Eq.trans ?_ (Cert.OutIdeal.Val.arr_eq m c).symm
    rfl

end Cert.OutClaim
-- ==== Proof.PleRefAt.lean ====
module

public import proofs.«01_k».proof.Proof.Gen.PleRefIdeal.Run
public import proofs.«01_k».proof.Proof.FfnMath
public import Idealize.ShloMosaic.Lib.Pointwise

@[expose] public section

/-!
# The reference of the per-layer embedding block, entry by entry
-/

set_option maxRecDepth 16384

noncomputable section

open Idealize.ShloMosaic Idealize.ShloMosaic.TcCoe Idealize.SL.Sem

namespace Cert.PleRefIdeal.RefAt

open Cert.PleRefIdeal Cert.PleRefIdeal.Gen

variable (H : FVec Ideal S32768x2048 .f32) (P : FVec Ideal S32768x256 .f32) (G : FVec Ideal S2048 .f32) (W : FVec Ideal S2048x2048 .f32) (E : FVec Ideal S256x2048 .f32)

/-- The reference's result. -/
def REF : FVec Ideal S32768x2048 .f32 :=
  addf H (mulf (Host.dotGeneral dot_S32768x256_S256x2048_S32768x2048_1_0_0_1_n_n none P E) (Host.divf (broadcastInDim S32768x2048 ![] bcast_S_S32768x2048 (constant S_ .f32 0x3F800000#32)) (addf (broadcastInDim S32768x2048 ![] bcast_S_S32768x2048 (constant S_ .f32 0x3F800000#32)) (Host.exp (Host.negf (Host.dotGeneral dot_S32768x2048_S2048x2048_S32768x2048_1_0_0_1_n_n none (mulf (mulf H (broadcastInDim S32768x2048 ![0, 1] bcast_S32768x1_S32768x2048_0_1 (Host.rsqrt (addf (Host.divf (broadcastInDim S32768x1 ![0] bcast_S32768_S32768x1_0 (Host.reduceAdd (mulf H H) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 G))) W))))))

/-- What the reference computes at an index. -/
theorem REF_at (i : Fin 32768) (d : Fin 2048) :
    REF H P G W E (ix2 i d) = H (ix2 i d) + (∑ k : Fin 256, P (ix2 i k) * E (ix2 k d))
        * Ideal.logistic (∑ k : Fin 2048, Ffn.nrm (fun e => H (ix2 i e)) (fun e => G (ix1 e)) k * W (ix2 k d)) := by
  unfold Ffn.nrm
  pointwise [REF]
  rfl

end Cert.PleRefIdeal.RefAt
-- ==== Proof.PleValue.lean ====
module

public import proofs.«01_k».proof.Proof.Gen.PleIdeal.Value
public import proofs.«01_k».proof.Proof.PleRefAt
public import Idealize.ShloMosaic.Lib.Pointwise
public import Idealize.ShloMosaic.Lib.Pipeline.ValueKit
public import Idealize.ShloMosaic.Lib.Pipeline.ReadBack

@[expose] public section

/-!
# The result array of the per-layer embedding block

Point `t` works on row block `t / 4` and column block `t % 4`; the normalized rows of the row block are kept in a scratch.
-/

set_option maxRecDepth 16384

noncomputable section

open Idealize.ShloMosaic Idealize.ShloMosaic.TcCoe Idealize.SL.Sem

namespace Cert.PleIdeal.Val

open Cert.PleIdeal Cert.PleIdeal.Gen

/-- The normalized block. -/
theorem pay1_at (x : FVec Ideal S1024x2048 .f32) (g : FVec Ideal S1x2048 .f32) (r : Fin 1024) (d : Fin 2048) :
    k0_pay1 (F := Ideal) x g (ix2 r d) = Ffn.nrm (fun e => x (ix2 r e)) (fun e => g (ix2 0 e)) d := by
  unfold Ffn.nrm
  pointwise [k0_pay1]

/-- The block that a point stores. -/
theorem pay2_at (z : FVec Ideal S1024x2048 .bf16) (w : FVec Ideal S2048x512 .bf16) (p : FVec Ideal S1024x256 .f32) (e : FVec Ideal S256x512 .bf16)
    (h : FVec Ideal S1024x512 .f32) (r : Fin 1024) (d : Fin 512) :
    k0_pay2 (F := Ideal) z w p e h (ix2 r d)
      = h (ix2 r d) + (∑ k, p (ix2 r k) * e (ix2 k d)) * Ideal.logistic (∑ k, z (ix2 r k) * w (ix2 k d)) := by
  pointwise [k0_pay2]

/-- The blocks the windows are on at each grid point. -/
theorem idx : ∀ t : Fin cfg0.N, win0_0.index t = ![t.val / 4, 0] ∧ win0_1.index t = ![t.val / 4, t.val % 4] ∧ win0_2.index t = ![t.val / 4, 0]
    ∧ win0_3.index t = ![0, 0] ∧ win0_4.index t = ![0, t.val % 4] ∧ win0_5.index t = ![0, t.val % 4] ∧ win0_6.index t = ![t.val / 4, t.val % 4] :=
  (by decide +kernel : ∀ t : Fin grid0.N, _)

variable (m : (ℓ : Loc nD τ sig) → Buf (Elt Ideal) ℓ) (c : Dev nD)

abbrev aH : FVec Ideal ⟨2, ![32768, 2048]⟩ .f32 := m ((c.tc : Thread nD τ).loc main_arg0)
abbrev aP : FVec Ideal ⟨2, ![32768, 256]⟩ .f32 := m ((c.tc : Thread nD τ).loc main_arg1)
abbrev aG : FVec Ideal ⟨1, ![2048]⟩ .f32 := m ((c.tc : Thread nD τ).loc main_arg2)
abbrev aW : FVec Ideal ⟨2, ![2048, 2048]⟩ .f32 := m ((c.tc : Thread nD τ).loc main_arg3)
abbrev aE : FVec Ideal ⟨2, ![256, 2048]⟩ .f32 := m ((c.tc : Thread nD τ).loc main_arg4)

section blocks

variable (t : Fin cfg0.N)

/-- The row of the arrays that a row of the point's block is. -/
def rowOf (r : Fin 1024) : Fin 32768 := ⟨t.val / 4 * 1024 + r.val, by have := lt_of_lt_of_eq t.isLt N_0; omega⟩

/-- The column of the arrays that a column of the point's block is. -/
def colOf (d : Fin 512) : Fin 2048 := ⟨t.val % 4 * 512 + d.val, by omega⟩

/-- The block of rows. -/
theorem blk0 (r : Fin 1024) (k : Fin 2048) :
    (iblk m c 0 t : FVec Ideal S1024x2048 .f32) (ix2 r k) = aH m c (ix2 (rowOf t r) k) := by
  have ht := lt_of_lt_of_eq t.isLt N_0
  blk_ext [iblk, V, idx t, rowOf, colOf]

/-- The point's part of the rows. -/
theorem blk1 (r : Fin 1024) (d : Fin 512) :
    (iblk m c 1 t : FVec Ideal S1024x512 .f32) (ix2 r d) = aH m c (ix2 (rowOf t r) (colOf t d)) := by
  have ht := lt_of_lt_of_eq t.isLt N_0
  blk_ext [iblk, V, idx t, rowOf, colOf]

/-- The embeddings of the rows. -/
theorem blk2 (r : Fin 1024) (k : Fin 256) :
    (iblk m c 2 t : FVec Ideal S1024x256 .f32) (ix2 r k) = aP m c (ix2 (rowOf t r) k) := by
  have ht := lt_of_lt_of_eq t.isLt N_0
  blk_ext [iblk, V, idx t, rowOf, colOf]

/-- The scale of the norm. -/
theorem blk3 (k : Fin 2048) :
    (iblk m c 3 t : FVec Ideal S1x2048 .f32) (ix2 0 k) = aG m c (ix1 k) := by
  have ht := lt_of_lt_of_eq t.isLt N_0
  unfold iblk
  entry_read
  blk_simp [idx t, rowOf, colOf]
  pointwise
  blk_ext [idx t, rowOf, colOf]

/-- The columns of the gate's weights. -/
theorem blk4 (k : Fin 2048) (d : Fin 512) :
    (iblk m c 4 t : FVec Ideal S2048x512 .bf16) (ix2 k d) = aW m c (ix2 k (colOf t d)) := by
  have ht := lt_of_lt_of_eq t.isLt N_0
  unfold iblk
  entry_read
  blk_simp [idx t, rowOf, colOf]
  pointwise
  blk_ext [idx t, rowOf, colOf]

/-- The columns of the embedding's weights. -/
theorem blk5 (k : Fin 256) (d : Fin 512) :
    (iblk m c 5 t : FVec Ideal S256x512 .bf16) (ix2 k d) = aE m c (ix2 k (colOf t d)) := by
  have ht := lt_of_lt_of_eq t.isLt N_0
  unfold iblk
  entry_read
  blk_simp [idx t, rowOf, colOf]
  pointwise
  blk_ext [idx t, rowOf, colOf]

end blocks

/-- The scratch after every point: the normalized rows of the point's row block. -/
theorem scr (n : ℕ) : ∀ hn : n < cfg0.N, ∀ (r : Fin 1024) (k : Fin 2048),
    (outsAt0 m c n hn).2 (ix2 r k) = Ffn.nrm (fun e => aH m c (ix2 (rowOf ⟨n, hn⟩ r) e)) (fun e => aG m c (ix1 e)) k := by
  have first : ∀ t : Fin cfg0.N, t.val % 4 = 0 → ∀ (r : Fin 1024) (k : Fin 2048),
      (outsAt0 m c t.val t.isLt).2 (ix2 r k) = Ffn.nrm (fun e => aH m c (ix2 (rowOf t r) e)) (fun e => aG m c (ix1 e)) k := by
    intro t h r k
    rw [outsAt0_A m c t h]
    frame_out
    refine (pay1_at _ _ r k).trans ?_
    exact congrArg₂ (fun f g => Ffn.nrm f g k) (funext fun e => blk0 m c t r e) (funext fun e => blk3 m c t e)
  induction n with
  | zero => exact fun hn => first ⟨0, hn⟩ rfl
  | succ n ih =>
    intro hn r k
    by_cases h : (n + 1) % 4 = 0
    · exact first ⟨n + 1, hn⟩ h r k
    · rw [outsAt0_B m c ⟨n + 1, hn⟩ h]
      have e : rowOf ⟨n + 1, hn⟩ r = rowOf ⟨n, Nat.lt_of_succ_lt hn⟩ r := Fin.ext (by simp only [rowOf]; omega)
      rw [e]
      exact ih (Nat.lt_of_succ_lt hn) r k

/-- The result block after every point. -/
theorem out_eq (t : Fin cfg0.N) (r : Fin 1024) (d : Fin 512) : (outsAt0 m c t.val t.isLt).1 (ix2 r d)
    = aH m c (ix2 (rowOf t r) (colOf t d)) + (∑ k : Fin 256, aP m c (ix2 (rowOf t r) k) * aE m c (ix2 k (colOf t d)))
        * Ideal.logistic (∑ k : Fin 2048, Ffn.nrm (fun e => aH m c (ix2 (rowOf t r) e)) (fun e => aG m c (ix1 e)) k * aW m c (ix2 k (colOf t d))) := by
  have key : ∀ z : FVec Ideal S1024x2048 .bf16, (∀ k : Fin 2048, z (ix2 r k) = (outsAt0 m c t.val t.isLt).2 (ix2 r k)) →
      k0_pay2 (F := Ideal) z (iblk m c 4 t) (iblk m c 2 t) (iblk m c 5 t) (iblk m c 1 t) (ix2 r d)
      = aH m c (ix2 (rowOf t r) (colOf t d)) + (∑ k : Fin 256, aP m c (ix2 (rowOf t r) k) * aE m c (ix2 k (colOf t d)))
        * Ideal.logistic (∑ k : Fin 2048, Ffn.nrm (fun e => aH m c (ix2 (rowOf t r) e)) (fun e => aG m c (ix1 e)) k * aW m c (ix2 k (colOf t d))) := fun z hz =>
    (pay2_at _ _ _ _ _ r d).trans (congrArg₂ (· + ·) (blk1 m c t r d) (congrArg₂ (· * ·)
      (Finset.sum_congr rfl fun k _ => congrArg₂ (· * ·) (blk2 m c t r k) (blk5 m c t k d))
      (congrArg Ideal.logistic
        (Finset.sum_congr rfl fun k _ => congrArg₂ (· * ·) ((hz k).trans (scr m c t.val t.isLt r k)) (blk4 m c t k d)))))
  by_cases h : t.val % 4 = 0
  · have hs := congrArg Prod.snd (outsAt0_A m c t h)
    rw [outsAt0_A m c t h]
    refine Eq.trans ?_ (key _ fun k => (congrFun hs (ix2 r k)).symm)
    frame_out
  · have hs := congrArg Prod.snd (outsAt0_B m c t h)
    rw [outsAt0_B m c t h]
    refine Eq.trans ?_ (key _ fun k => (congrFun hs (ix2 r k)).symm)
    frame_out
    rw [read_unread_whole]
    rfl

/-- The result array after the run is the reference's result. -/
theorem arr_eq : (dats m 0 c).arrAt 6 cfg0.N = PleRefIdeal.RefAt.REF (aH m c) (aP m c) (aG m c) (aW m c) (aE m c) := by
  refine (dats m 0 c).arrAt_eq_of_covers 6 _ (by decide +kernel) fun t hf y => ?_
  have ht := lt_of_lt_of_eq t.isLt N_0
  blk_simp [idx t]
  rw [after0_6]
  obtain ⟨r, d, rfl⟩ : ∃ (r : Fin 1024) (d : Fin 512), y = ix2 r d := ⟨y 0, y 1, eq_ix2 y⟩
  have e : (win0_6.blk t).view.emb (ix2 r d) = ix2 (rowOf t r) (colOf t d) := by
    blk_ext [idx t, rowOf, colOf]
  rw [e, PleRefIdeal.RefAt.REF_at]
  exact out_eq m c t r d

end Cert.PleIdeal.Val
-- ==== Proof.PleClaim.lean ====
module

public import proofs.«01_k».proof.Defs
public import proofs.«01_k».proof.Proof.Gen.Ple.Frame
public import proofs.«01_k».proof.Proof.Gen.PleIdeal.Frame
public import proofs.«01_k».proof.Proof.Gen.PleRefIdeal.Run
public import proofs.«01_k».proof.Proof.PleValue
public import Idealize.ShloMosaic.Lib.Claim

@[expose] public section

/-!
# The claims about the per-layer embedding block
-/

set_option maxRecDepth 16384

noncomputable section

open Idealize.ShloMosaic Idealize.SL.Sem

namespace Cert.PleClaim

theorem frame_P : Cert.quiescent_Ple := fun m g _ => Cert.Ple.Gen.frame m g

theorem frame_PI : Cert.quiescent_PleIdeal := fun m g _ => Cert.PleIdeal.Gen.frame m g

theorem frame_RI : Cert.quiescent_PleRefIdeal := fun m g _ =>
  (θ_run Cert.PleRefIdeal.defs _ _).mono (fun r h => ⟨fun c => (h c).2, sem_eq_zero_of_no_sems (by decide) r.2⟩)
    (Cert.PleRefIdeal.Value.run m g)

/-- The kernel's array is the reference's result on the same arguments. -/
theorem algebraic : Cert.algebraic_PleIdeal_PleRefIdeal := by
  pair_intro
  · run_from Cert.PleIdeal.Gen.run_main m g
  · run_from Cert.PleRefIdeal.Value.run m' g'
    refine Eq.trans ?_ (Cert.PleIdeal.Val.arr_eq m c).symm
    rfl

end Cert.PleClaim
-- ==== Proof.FinRefAt.lean ====
module

public import proofs.«01_k».proof.Proof.Gen.FinRefIdeal.Run
public import proofs.«01_k».proof.Proof.FfnMath
public import Idealize.ShloMosaic.Lib.Pointwise

@[expose] public section

/-!
# The reference of the final norm, entry by entry
-/

set_option maxRecDepth 16384

noncomputable section

open Idealize.ShloMosaic Idealize.ShloMosaic.TcCoe Idealize.SL.Sem

namespace Cert.FinRefIdeal.RefAt

open Cert.FinRefIdeal Cert.FinRefIdeal.Gen

variable (H : FVec Ideal S32768x2048 .f32) (G : FVec Ideal S2048 .f32)

/-- The reference's result. -/
def REF : FVec Ideal S32768x2048 .f32 :=
  mulf (mulf H (broadcastInDim S32768x2048 ![0, 1] bcast_S32768x1_S32768x2048_0_1 (Host.rsqrt (addf (Host.divf (broadcastInDim S32768x1 ![0] bcast_S32768_S32768x1_0 (Host.reduceAdd (mulf H H) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 G))

/-- What the reference computes at an index. -/
theorem REF_at (i : Fin 32768) (d : Fin 2048) :
    REF H G (ix2 i d) = Ffn.nrm (fun e => H (ix2 i e)) (fun e => G (ix1 e)) d := by
  unfold Ffn.nrm
  pointwise [REF]

end Cert.FinRefIdeal.RefAt
-- ==== Proof.FinValue.lean ====
module

public import proofs.«01_k».proof.Proof.Gen.FinIdeal.Value
public import proofs.«01_k».proof.Proof.FinRefAt
public import Idealize.ShloMosaic.Lib.Pointwise
public import Idealize.ShloMosaic.Lib.Pipeline.ValueKit

@[expose] public section

/-!
# The result array of the final norm

Point `t` works on rows `1024 t … 1024 t + 1023`.
-/

set_option maxRecDepth 16384

noncomputable section

open Idealize.ShloMosaic Idealize.ShloMosaic.TcCoe Idealize.SL.Sem

namespace Cert.FinIdeal.Val

open Cert.FinIdeal Cert.FinIdeal.Gen

/-- The normalized block. -/
theorem pay_at (x : FVec Ideal S1024x2048 .f32) (g : FVec Ideal S1x2048 .f32) (r : Fin 1024) (d : Fin 2048) :
    k0_pay1 (F := Ideal) x g (ix2 r d) = Ffn.nrm (fun e => x (ix2 r e)) (fun e => g (ix2 0 e)) d := by
  unfold Ffn.nrm
  pointwise [k0_pay1]

/-- The blocks the windows are on at each grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD) (t : Fin cfg0.N)

abbrev aH : FVec Ideal ⟨2, ![32768, 2048]⟩ .f32 := m ((c.tc : Thread nD τ).loc main_arg0)
abbrev aG : FVec Ideal ⟨1, ![2048]⟩ .f32 := m ((c.tc : Thread nD τ).loc main_arg1)

/-- The row of the arrays that a row of the point's block is. -/
def rowOf (r : Fin 1024) : Fin 32768 := ⟨t.val * 1024 + r.val, by have := lt_of_lt_of_eq t.isLt N_0; omega⟩

/-- The block of rows. -/
theorem blk0 (r : Fin 1024) (k : Fin 2048) :
    (iblk m c 0 t : FVec Ideal S1024x2048 .f32) (ix2 r k) = aH m c (ix2 (rowOf t r) k) := by
  have ht := lt_of_lt_of_eq t.isLt N_0
  blk_ext [iblk, V, idx t, rowOf]

/-- The scale of the norm. -/
theorem blk1 (k : Fin 2048) :
    (iblk m c 1 t : FVec Ideal S1x2048 .f32) (ix2 0 k) = aG m c (ix1 k) := by
  have ht := lt_of_lt_of_eq t.isLt N_0
  unfold iblk
  entry_read
  blk_simp [idx t]
  pointwise
  blk_ext [idx t]

/-- The result array after the run is the reference's result. -/
theorem arr_eq : (dats m 0 c).arrAt 2 cfg0.N = FinRefIdeal.RefAt.REF (aH m c) (aG m c) := by
  refine (dats m 0 c).arrAt_eq_of_covers 2 _ (by decide +kernel) fun t hf y => ?_
  have ht := lt_of_lt_of_eq t.isLt N_0
  blk_simp [idx t]
  rw [after0_2]
  obtain ⟨r, d, rfl⟩ : ∃ (r : Fin 1024) (d : Fin 2048), y = ix2 r d := ⟨y 0, y 1, eq_ix2 y⟩
  have e : (win0_2.blk t).view.emb (ix2 r d) = ix2 (rowOf t r) d := by
    blk_ext [idx t, rowOf]
  rw [e, FinRefIdeal.RefAt.REF_at]
  unfold out0_2
  frame_out
  refine (pay_at _ _ r d).trans ?_
  exact congrArg₂ (fun f g => Ffn.nrm f g d) (funext fun k => blk0 m c t r k) (funext fun k => blk1 m c t k)

end Cert.FinIdeal.Val
-- ==== Proof.FinClaim.lean ====
module

public import proofs.«01_k».proof.Defs
public import proofs.«01_k».proof.Proof.Gen.Fin.Frame
public import proofs.«01_k».proof.Proof.Gen.FinIdeal.Frame
public import proofs.«01_k».proof.Proof.Gen.FinRefIdeal.Run
public import proofs.«01_k».proof.Proof.FinValue
public import Idealize.ShloMosaic.Lib.Claim

@[expose] public section

/-!
# The claims about the final norm
-/

set_option maxRecDepth 16384

noncomputable section

open Idealize.ShloMosaic Idealize.SL.Sem

namespace Cert.FinClaim

theorem frame_P : Cert.quiescent_Fin := fun m g _ => Cert.Fin.Gen.frame m g

theorem frame_PI : Cert.quiescent_FinIdeal := fun m g _ => Cert.FinIdeal.Gen.frame m g

theorem frame_RI : Cert.quiescent_FinRefIdeal := fun m g _ =>
  (θ_run Cert.FinRefIdeal.defs _ _).mono (fun r h => ⟨fun c => (h c).2, sem_eq_zero_of_no_sems (by decide) r.2⟩)
    (Cert.FinRefIdeal.Value.run m g)

/-- The kernel's array is the reference's result on the same arguments. -/
theorem algebraic : Cert.algebraic_FinIdeal_FinRefIdeal := by
  pair_intro
  · run_from Cert.FinIdeal.Gen.run_main m g
  · run_from Cert.FinRefIdeal.Value.run m' g'
    refine Eq.trans ?_ (Cert.FinIdeal.Val.arr_eq m c).symm
    rfl

end Cert.FinClaim
-- ==== Proof.InfRefAt.lean ====
module

public import proofs.«01_k».proof.Proof.Gen.InfRefIdeal.Run
public import proofs.«01_k».proof.Proof.FfnMath
public import Idealize.ShloMosaic.Lib.Pointwise

@[expose] public section

/-!
# The reference of the input projection to the columns of the latent attention, entry by entry
-/

set_option maxRecDepth 16384

noncomputable section

open Idealize.ShloMosaic Idealize.ShloMosaic.TcCoe Idealize.SL.Sem

namespace Cert.InfRefIdeal.RefAt

open Cert.InfRefIdeal Cert.InfRefIdeal.Gen

variable (H : FVec Ideal S32768x2048 .f32) (G : FVec Ideal S2048 .f32) (W : FVec Ideal S2048x1024 .f32)

/-- The reference's result. -/
def REF : FVec Ideal S32768x1024 .f32 :=
  Host.dotGeneral dot_S32768x2048_S2048x1024_S32768x1024_1_0_0_1_n_n none (mulf (mulf H (broadcastInDim S32768x2048 ![0, 1] bcast_S32768x1_S32768x2048_0_1 (Host.rsqrt (addf (Host.divf (broadcastInDim S32768x1 ![0] bcast_S32768_S32768x1_0 (Host.reduceAdd (mulf H H) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 G))) W

/-- What the reference computes at an index. -/
theorem REF_at (i : Fin 32768) (d : Fin 1024) :
    REF H G W (ix2 i d) = ∑ k : Fin 2048, Ffn.nrm (fun e => H (ix2 i e)) (fun e => G (ix1 e)) k * W (ix2 k d) := by
  unfold Ffn.nrm
  pointwise [REF]

end Cert.InfRefIdeal.RefAt
-- ==== Proof.InfValue.lean ====
module

public import proofs.«01_k».proof.Proof.Gen.InfIdeal.Value
public import proofs.«01_k».proof.Proof.InfRefAt
public import Idealize.ShloMosaic.Lib.Pointwise
public import Idealize.ShloMosaic.Lib.Pipeline.ValueKit
public import Idealize.ShloMosaic.Lib.Pipeline.ReadBack

@[expose] public section

/-!
# The result array of the input projection, columns of the latent attention

Point `t` works on row block `t / 2` and column block `t % 2`; the normalized rows of the row block are kept in a scratch.
-/

set_option maxRecDepth 16384

noncomputable section

open Idealize.ShloMosaic Idealize.ShloMosaic.TcCoe Idealize.SL.Sem

namespace Cert.InfIdeal.Val

open Cert.InfIdeal Cert.InfIdeal.Gen

/-- The normalized block. -/
theorem pay1_at (x : FVec Ideal S1024x2048 .f32) (g : FVec Ideal S1x2048 .f32) (r : Fin 1024) (d : Fin 2048) :
    k0_pay1 (F := Ideal) x g (ix2 r d) = Ffn.nrm (fun e => x (ix2 r e)) (fun e => g (ix2 0 e)) d := by
  unfold Ffn.nrm
  pointwise [k0_pay1]

/-- The block that a point stores. -/
theorem pay2_at (z : FVec Ideal S1024x2048 .bf16) (w : FVec Ideal S2048x512 .bf16) (s : FVec Ideal S1x512 .f32) (r : Fin 1024) (d : Fin 512) :
    k0_pay2 (F := Ideal) z w s (ix2 r d) = (∑ k, z (ix2 r k) * w (ix2 k d)) * s (ix2 0 d) := by
  pointwise [k0_pay2]

/-- The blocks the windows are on at each grid point. -/
theorem idx : ∀ t : Fin cfg0.N, win0_0.index t = ![t.val / 2, 0] ∧ win0_1.index t = ![0, 0] ∧ win0_2.index t = ![0, t.val % 2]
    ∧ win0_3.index t = ![0, t.val % 2] ∧ win0_4.index t = ![t.val / 2, t.val % 2] :=
  (by decide +kernel : ∀ t : Fin grid0.N, _)

variable (m : (ℓ : Loc nD τ sig) → Buf (Elt Ideal) ℓ) (c : Dev nD)

abbrev aH : FVec Ideal ⟨2, ![32768, 2048]⟩ .f32 := m ((c.tc : Thread nD τ).loc main_arg0)
abbrev aG : FVec Ideal ⟨1, ![2048]⟩ .f32 := m ((c.tc : Thread nD τ).loc main_arg1)
abbrev aW : FVec Ideal ⟨2, ![2048, 1024]⟩ .f32 := m ((c.tc : Thread nD τ).loc main_arg2)

section blocks

variable (t : Fin cfg0.N)

/-- The row of the arrays that a row of the point's block is. -/
def rowOf (r : Fin 1024) : Fin 32768 := ⟨t.val / 2 * 1024 + r.val, by have := lt_of_lt_of_eq t.isLt N_0; omega⟩

/-- The column of the arrays that a column of the point's block is. -/
def colOf (d : Fin 512) : Fin 1024 := ⟨t.val % 2 * 512 + d.val, by omega⟩

/-- The block of rows. -/
theorem blk0 (r : Fin 1024) (k : Fin 2048) :
    (iblk m c 0 t : FVec Ideal S1024x2048 .f32) (ix2 r k) = aH m c (ix2 (rowOf t r) k) := by
  have ht := lt_of_lt_of_eq t.isLt N_0
  blk_ext [iblk, V, idx t, rowOf, colOf]

/-- The scale of the norm. -/
theorem blk1 (k : Fin 2048) :
    (iblk m c 1 t : FVec Ideal S1x2048 .f32) (ix2 0 k) = aG m c (ix1 k) := by
  have ht := lt_of_lt_of_eq t.isLt N_0
  unfold iblk
  entry_read
  blk_simp [idx t, rowOf, colOf]
  pointwise
  blk_ext [idx t, rowOf, colOf]

/-- The columns of the weights. -/
theorem blk2 (k : Fin 2048) (d : Fin 512) :
    (iblk m c 2 t : FVec Ideal S2048x512 .bf16) (ix2 k d) = aW m c (ix2 k (colOf t d)) := by
  have ht := lt_of_lt_of_eq t.isLt N_0
  unfold iblk
  entry_read
  blk_simp [idx t, rowOf, colOf]
  pointwise
  blk_ext [idx t, rowOf, colOf]

/-- The scales of the columns are all one. -/
theorem blk3 (d : Fin 512) :
    (iblk m c 3 t : FVec Ideal S1x512 .f32) (ix2 0 d) = (1 : EReal) := by
  have ht := lt_of_lt_of_eq t.isLt N_0
  unfold iblk
  entry_read
  blk_simp [idx t]
  pointwise

end blocks

/-- The scratch after every point: the normalized rows of the point's row block. -/
theorem scr (n : ℕ) : ∀ hn : n < cfg0.N, ∀ (r : Fin 1024) (k : Fin 2048),
    (outsAt0 m c n hn).2 (ix2 r k) = Ffn.nrm (fun e => aH m c (ix2 (rowOf ⟨n, hn⟩ r) e)) (fun e => aG m c (ix1 e)) k := by
  have first : ∀ t : Fin cfg0.N, t.val % 2 = 0 → ∀ (r : Fin 1024) (k : Fin 2048),
      (outsAt0 m c t.val t.isLt).2 (ix2 r k) = Ffn.nrm (fun e => aH m c (ix2 (rowOf t r) e)) (fun e => aG m c (ix1 e)) k := by
    intro t h r k
    rw [outsAt0_A m c t h]
    frame_out
    refine (pay1_at _ _ r k).trans ?_
    exact congrArg₂ (fun f g => Ffn.nrm f g k) (funext fun e => blk0 m c t r e) (funext fun e => blk1 m c t e)
  induction n with
  | zero => exact fun hn => first ⟨0, hn⟩ rfl
  | succ n ih =>
    intro hn r k
    by_cases h : (n + 1) % 2 = 0
    · exact first ⟨n + 1, hn⟩ h r k
    · rw [outsAt0_B m c ⟨n + 1, hn⟩ h]
      have e : rowOf ⟨n + 1, hn⟩ r = rowOf ⟨n, Nat.lt_of_succ_lt hn⟩ r := Fin.ext (by simp only [rowOf]; omega)
      rw [e]
      exact ih (Nat.lt_of_succ_lt hn) r k

/-- The result block after every point. -/
theorem out_eq (t : Fin cfg0.N) (r : Fin 1024) (d : Fin 512) : (outsAt0 m c t.val t.isLt).1 (ix2 r d)
    = (∑ k : Fin 2048, Ffn.nrm (fun e => aH m c (ix2 (rowOf t r) e)) (fun e => aG m c (ix1 e)) k * aW m c (ix2 k (colOf t d))) := by
  have key : ∀ z : FVec Ideal S1024x2048 .bf16, (∀ k : Fin 2048, z (ix2 r k) = (outsAt0 m c t.val t.isLt).2 (ix2 r k)) →
      k0_pay2 (F := Ideal) z (iblk m c 2 t) (iblk m c 3 t) (ix2 r d)
      = (∑ k : Fin 2048, Ffn.nrm (fun e => aH m c (ix2 (rowOf t r) e)) (fun e => aG m c (ix1 e)) k * aW m c (ix2 k (colOf t d))) := fun z hz =>
    (pay2_at _ _ _ r d).trans (congrArg₂ (· * ·)
      (Finset.sum_congr rfl fun k _ => congrArg₂ (· * ·) ((hz k).trans (scr m c t.val t.isLt r k)) (blk2 m c t k d)) (blk3 m c t d) |>.trans (mul_one _))
  by_cases h : t.val % 2 = 0
  · have hs := congrArg Prod.snd (outsAt0_A m c t h)
    rw [outsAt0_A m c t h]
    refine Eq.trans ?_ (key _ fun k => (congrFun hs (ix2 r k)).symm)
    frame_out
  · have hs := congrArg Prod.snd (outsAt0_B m c t h)
    rw [outsAt0_B m c t h]
    refine Eq.trans ?_ (key _ fun k => (congrFun hs (ix2 r k)).symm)
    frame_out
    rw [read_unread_whole]
    rfl

/-- The result array after the run is the reference's result. -/
theorem arr_eq : (dats m 0 c).arrAt 4 cfg0.N = InfRefIdeal.RefAt.REF (aH m c) (aG m c) (aW m c) := by
  refine (dats m 0 c).arrAt_eq_of_covers 4 _ (by decide +kernel) fun t hf y => ?_
  have ht := lt_of_lt_of_eq t.isLt N_0
  blk_simp [idx t]
  rw [after0_4]
  obtain ⟨r, d, rfl⟩ : ∃ (r : Fin 1024) (d : Fin 512), y = ix2 r d := ⟨y 0, y 1, eq_ix2 y⟩
  have e : (win0_4.blk t).view.emb (ix2 r d) = ix2 (rowOf t r) (colOf t d) := by
    blk_ext [idx t, rowOf, colOf]
  rw [e, InfRefIdeal.RefAt.REF_at]
  exact out_eq m c t r d

end Cert.InfIdeal.Val
-- ==== Proof.InfClaim.lean ====
module

public import proofs.«01_k».proof.Defs
public import proofs.«01_k».proof.Proof.Gen.Inf.Frame
public import proofs.«01_k».proof.Proof.Gen.InfIdeal.Frame
public import proofs.«01_k».proof.Proof.Gen.InfRefIdeal.Run
public import proofs.«01_k».proof.Proof.InfValue
public import Idealize.ShloMosaic.Lib.Claim

@[expose] public section

/-!
# The claims about the input projection, columns of the latent attention
-/

set_option maxRecDepth 16384

noncomputable section

open Idealize.ShloMosaic Idealize.SL.Sem

namespace Cert.InfClaim

theorem frame_P : Cert.quiescent_Inf := fun m g _ => Cert.Inf.Gen.frame m g

theorem frame_PI : Cert.quiescent_InfIdeal := fun m g _ => Cert.InfIdeal.Gen.frame m g

theorem frame_RI : Cert.quiescent_InfRefIdeal := fun m g _ =>
  (θ_run Cert.InfRefIdeal.defs _ _).mono (fun r h => ⟨fun c => (h c).2, sem_eq_zero_of_no_sems (by decide) r.2⟩)
    (Cert.InfRefIdeal.Value.run m g)

/-- The kernel's array is the reference's result on the same arguments. -/
theorem algebraic : Cert.algebraic_InfIdeal_InfRefIdeal := by
  pair_intro
  · run_from Cert.InfIdeal.Gen.run_main m g
  · run_from Cert.InfRefIdeal.Value.run m' g'
    refine Eq.trans ?_ (Cert.InfIdeal.Val.arr_eq m c).symm
    rfl

end Cert.InfClaim
-- ==== Proof.FinsRefAt.lean ====
module

public import proofs.«01_k».proof.Proof.Gen.FinsRefIdeal.Run
public import proofs.«01_k».proof.Proof.FfnMath
public import Idealize.ShloMosaic.Lib.Pointwise

@[expose] public section

/-!
# The reference of the final norm of the second request group, entry by entry
-/

set_option maxRecDepth 16384

noncomputable section

open Idealize.ShloMosaic Idealize.ShloMosaic.TcCoe Idealize.SL.Sem

namespace Cert.FinsRefIdeal.RefAt

open Cert.FinsRefIdeal Cert.FinsRefIdeal.Gen

variable (H : FVec Ideal S16384x2048 .f32) (G : FVec Ideal S2048 .f32)

/-- The reference's result. -/
def REF : FVec Ideal S16384x2048 .f32 :=
  mulf (mulf H (broadcastInDim S16384x2048 ![0, 1] bcast_S16384x1_S16384x2048_0_1 (Host.rsqrt (addf (Host.divf (broadcastInDim S16384x1 ![0] bcast_S16384_S16384x1_0 (Host.reduceAdd (mulf H H) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 G))

/-- What the reference computes at an index. -/
theorem REF_at (i : Fin 16384) (d : Fin 2048) :
    REF H G (ix2 i d) = Ffn.nrm (fun e => H (ix2 i e)) (fun e => G (ix1 e)) d := by
  unfold Ffn.nrm
  pointwise [REF]

end Cert.FinsRefIdeal.RefAt
-- ==== Proof.FinsValue.lean ====
module

public import proofs.«01_k».proof.Proof.Gen.FinsIdeal.Value
public import proofs.«01_k».proof.Proof.FinsRefAt
public import Idealize.ShloMosaic.Lib.Pointwise
public import Idealize.ShloMosaic.Lib.Pipeline.ValueKit

@[expose] public section

/-!
# The result array of the final norm of the second request group

Point `t` works on rows `1024 t … 1024 t + 1023`.
-/

set_option maxRecDepth 16384

noncomputable section

open Idealize.ShloMosaic Idealize.ShloMosaic.TcCoe Idealize.SL.Sem

namespace Cert.FinsIdeal.Val

open Cert.FinsIdeal Cert.FinsIdeal.Gen

/-- The normalized block. -/
theorem pay_at (x : FVec Ideal S1024x2048 .f32) (g : FVec Ideal S1x2048 .f32) (r : Fin 1024) (d : Fin 2048) :
    k0_pay1 (F := Ideal) x g (ix2 r d) = Ffn.nrm (fun e => x (ix2 r e)) (fun e => g (ix2 0 e)) d := by
  unfold Ffn.nrm
  pointwise [k0_pay1]

/-- The blocks the windows are on at each grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD) (t : Fin cfg0.N)

abbrev aH : FVec Ideal ⟨2, ![16384, 2048]⟩ .f32 := m ((c.tc : Thread nD τ).loc main_arg0)
abbrev aG : FVec Ideal ⟨1, ![2048]⟩ .f32 := m ((c.tc : Thread nD τ).loc main_arg1)

/-- The row of the arrays that a row of the point's block is. -/
def rowOf (r : Fin 1024) : Fin 16384 := ⟨t.val * 1024 + r.val, by have := lt_of_lt_of_eq t.isLt N_0; omega⟩

/-- The block of rows. -/
theorem blk0 (r : Fin 1024) (k : Fin 2048) :
    (iblk m c 0 t : FVec Ideal S1024x2048 .f32) (ix2 r k) = aH m c (ix2 (rowOf t r) k) := by
  have ht := lt_of_lt_of_eq t.isLt N_0
  blk_ext [iblk, V, idx t, rowOf]

/-- The scale of the norm. -/
theorem blk1 (k : Fin 2048) :
    (iblk m c 1 t : FVec Ideal S1x2048 .f32) (ix2 0 k) = aG m c (ix1 k) := by
  have ht := lt_of_lt_of_eq t.isLt N_0
  unfold iblk
  entry_read
  blk_simp [idx t]
  pointwise
  blk_ext [idx t]

/-- The result array after the run is the reference's result. -/
theorem arr_eq : (dats m 0 c).arrAt 2 cfg0.N = FinsRefIdeal.RefAt.REF (aH m c) (aG m c) := by
  refine (dats m 0 c).arrAt_eq_of_covers 2 _ (by decide +kernel) fun t hf y => ?_
  have ht := lt_of_lt_of_eq t.isLt N_0
  blk_simp [idx t]
  rw [after0_2]
  obtain ⟨r, d, rfl⟩ : ∃ (r : Fin 1024) (d : Fin 2048), y = ix2 r d := ⟨y 0, y 1, eq_ix2 y⟩
  have e : (win0_2.blk t).view.emb (ix2 r d) = ix2 (rowOf t r) d := by
    blk_ext [idx t, rowOf]
  rw [e, FinsRefIdeal.RefAt.REF_at]
  unfold out0_2
  frame_out
  refine (pay_at _ _ r d).trans ?_
  exact congrArg₂ (fun f g => Ffn.nrm f g d) (funext fun k => blk0 m c t r k) (funext fun k => blk1 m c t k)

end Cert.FinsIdeal.Val
-- ==== Proof.FinsClaim.lean ====
module

public import proofs.«01_k».proof.Defs
public import proofs.«01_k».proof.Proof.Gen.Fins.Frame
public import proofs.«01_k».proof.Proof.Gen.FinsIdeal.Frame
public import proofs.«01_k».proof.Proof.Gen.FinsRefIdeal.Run
public import proofs.«01_k».proof.Proof.FinsValue
public import Idealize.ShloMosaic.Lib.Claim

@[expose] public section

/-!
# The claims about the final norm of the second request group
-/

set_option maxRecDepth 16384

noncomputable section

open Idealize.ShloMosaic Idealize.SL.Sem

namespace Cert.FinsClaim

theorem frame_P : Cert.quiescent_Fins := fun m g _ => Cert.Fins.Gen.frame m g

theorem frame_PI : Cert.quiescent_FinsIdeal := fun m g _ => Cert.FinsIdeal.Gen.frame m g

theorem frame_RI : Cert.quiescent_FinsRefIdeal := fun m g _ =>
  (θ_run Cert.FinsRefIdeal.defs _ _).mono (fun r h => ⟨fun c => (h c).2, sem_eq_zero_of_no_sems (by decide) r.2⟩)
    (Cert.FinsRefIdeal.Value.run m g)

/-- The kernel's array is the reference's result on the same arguments. -/
theorem algebraic : Cert.algebraic_FinsIdeal_FinsRefIdeal := by
  pair_intro
  · run_from Cert.FinsIdeal.Gen.run_main m g
  · run_from Cert.FinsRefIdeal.Value.run m' g'
    refine Eq.trans ?_ (Cert.FinsIdeal.Val.arr_eq m c).symm
    rfl

end Cert.FinsClaim
-- ==== Proof.DiffFold.lean ====
module

public import proofs.«01_k».proof.Proof.Gen.DiffIdeal.Value
public import Idealize.ShloMosaic.Lib.Pointwise
public import Idealize.ShloMosaic.Lib.Pipeline.ValueKit
public import Idealize.ShloMosaic.Lib.VecWindow
public import Idealize.ShloMosaic.Lib.Pipeline.ReadBack

@[expose] public section

/-!
# One trip of the differential attention's loop

The trip writes each of its three carried arrays whole. What the loop leaves is the trips' pure step applied one after the
other to what the arrays held before.
-/

set_option maxRecDepth 16384

noncomputable section

open Idealize.ShloMosaic Idealize.ShloMosaic.TcCoe Idealize.SL.Sem

namespace Cert.DiffIdeal.Trip

open Cert.DiffIdeal Cert.DiffIdeal.Gen

/-- What the loop carries: the running maxima, sums and weighted sums. -/
abbrev St := FVec Ideal S1024x128 .f32 × FVec Ideal S1024x128 .f32 × FVec Ideal S1024x128 .f32

/-- What a trip reads besides: the keys, the values and the plane of the biases. -/
abbrev In := FVec Ideal S512x128 .bf16 × FVec Ideal S512x128 .bf16 × FVec Ideal S1x1024x512 .f32

/-- One trip: trip `k` of key block `w3`, the slope `sl`, the first query `w5` and the masked queries `q`. -/
def pstep (w3 : BitVec 32) (sl : Elt Ideal .f32) (w5 : BitVec 32) (q : FVec Ideal S1024x128 .bf16) (k : Fin k0_t1_loop.trips) (x : In) (s : St) : St :=
  (k0_pay7 (k0_pay17 w3 sl w5 0#32 1#32 k q x.1 x.2.2 s.1),
   k0_pay5 (k0_pay19 w3 sl w5 0#32 1#32 k q x.1 x.2.2 s.1) (k0_pay20 w3 sl w5 0#32 1#32 k q x.1 x.2.2 s.1 s.2.1),
   k0_pay6 x.2.1 (k0_pay18 w3 sl w5 0#32 1#32 k q x.1 x.2.2 s.1) (k0_pay19 w3 sl w5 0#32 1#32 k q x.1 x.2.2 s.1) s.2.2)

/-- The first `n` trips. -/
def fold (w3 : BitVec 32) (sl : Elt Ideal .f32) (w5 : BitVec 32) (q : FVec Ideal S1024x128 .bf16) (x : Fin k0_t1_loop.trips → In) (s : St) : ℕ → St
  | 0 => s
  | n + 1 => if h : n < k0_t1_loop.trips then pstep w3 sl w5 q ⟨n, h⟩ (x ⟨n, h⟩) (fold w3 sl w5 q x s n) else fold w3 sl w5 q x s n

theorem fold_succ (w3 : BitVec 32) (sl : Elt Ideal .f32) (w5 : BitVec 32) (q : FVec Ideal S1024x128 .bf16) (x : Fin k0_t1_loop.trips → In) (s : St) (n : ℕ) (h : n < k0_t1_loop.trips) :
    fold w3 sl w5 q x s (n + 1) = pstep w3 sl w5 q ⟨n, h⟩ (x ⟨n, h⟩) (fold w3 sl w5 q x s n) := by
  rw [fold]; exact dif_pos h

theorem trips_eq : k0_t1_loop.trips = 4 := by decide

section
variable (c : Dev nD) (i : grid0.Coords)
  (arg4 : Memref sig .tc .smem S4 .f32) (harg4 : arg4.IsWhole) (arg5 : Memref sig .tc .vmem S1x64 .f32) (harg5 : arg5.IsWhole) (arg6 : Memref sig .tc .vmem S1x64 .f32) (harg6 : arg6.IsWhole)
  (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole)
  (arg10 : Memref sig .tc .vmem S512x128 .bf16) (harg10 : arg10.IsWhole) (arg11 : Memref sig .tc .vmem S2048x128 .bf16) (harg11 : arg11.IsWhole) (arg12 : Memref sig .tc .vmem S2048x128 .bf16) (harg12 : arg12.IsWhole)
  (arg13 : Memref sig .tc .vmem S512x128 .bf16) (harg13 : arg13.IsWhole) (arg14 : Memref sig .tc .vmem S1024x128 .bf16) (harg14 : arg14.IsWhole) (arg15 : Memref sig .tc .vmem S1024x128 .f32) (harg15 : arg15.IsWhole)
  (arg16 : Memref sig .tc .vmem S1024x128 .f32) (harg16 : arg16.IsWhole) (arg17 : Memref sig .tc .vmem S1024x128 .f32) (harg17 : arg17.IsWhole) (arg18 : Memref sig .tc .vmem S3x1024x512 .f32) (harg18 : arg18.IsWhole)
  (w3 : BitVec 32) (sl : Elt Ideal .f32) (w5 : BitVec 32)
  (X11 : BufTy.Contents (Elt Ideal) arg11.view.ty) (X12 : BufTy.Contents (Elt Ideal) arg12.view.ty) (X14 : BufTy.Contents (Elt Ideal) arg14.view.ty) (X18 : BufTy.Contents (Elt Ideal) arg18.view.ty)
  (G15 : BufTy.Contents (Elt Ideal) arg15.view.ty) (G16 : BufTy.Contents (Elt Ideal) arg16.view.ty) (G17 : BufTy.Contents (Elt Ideal) arg17.view.ty)

/-- What trip `k` reads of the key block, of the value block and of the biases. -/
def ins (k : Fin k0_t1_loop.trips) : In :=
  (View.readAt (Elt Ideal) arg11.view (Rect.unit (s := S2048x128) (k0_off2 k) S512x128.size (k0_off2_inb k)).toLoadRect X11,
   View.readAt (Elt Ideal) arg12.view (Rect.unit (s := S2048x128) (k0_off2 k) S512x128.size (k0_off2_inb k)).toLoadRect X12,
   View.readAt (Elt Ideal) arg18.view (Rect.unit (s := S3x1024x512) (k0_off3 i k) S1x1024x512.size (k0_off3_inb i k)).toLoadRect X18)

abbrev full : Rect S1024x128 := Rect.unit (s := S1024x128) ![0, 0] S1024x128.size inb_S1024x128_S1024x128_0_0

theorem whole_eq {e : EltTy} (a : Memref sig .tc .vmem S1024x128 e) (f : BufTy.Contents (Elt Ideal) a.view.ty) :
    View.readAt (Elt Ideal) a.view (Rect.unit (s := S1024x128) ![0, 0] S1024x128.size inb_S1024x128_S1024x128_0_0).toLoadRect f = a.view.read (Elt Ideal) f :=
  View.readAt_full a.view f _

/-- What is written first in the list is what is read, under anything. -/
theorem read_head (a : Memref sig .tc .vmem S1024x128 .f32) (f : BufTy.Contents (Elt Ideal) a.view.ty) (w : FVec Ideal S1024x128 .f32) (L) :
    a.view.read (Elt Ideal) (a.view.writes (Elt Ideal) f (⟨Rect.unit (s := S1024x128) ![0, 0] S1024x128.size inb_S1024x128_S1024x128_0_0, w⟩ :: L)) = w :=
  View.read_writes_full a.view f _ w L

theorem trip_eq (k : Fin k0_t1_loop.trips) (f15 : BufTy.Contents (Elt Ideal) arg15.view.ty) (f16 : BufTy.Contents (Elt Ideal) arg16.view.ty) (f17 : BufTy.Contents (Elt Ideal) arg17.view.ty) :
    tripL_k0_t1 (F := Ideal) Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 k f15 f16 f17
    = (let p := pstep w3 sl w5 (View.readAt (Elt Ideal) arg14.view (Rect.unit (s := S1024x128) ![0, 0] S1024x128.size inb_S1024x128_S1024x128_0_0).toLoadRect X14) k (ins i arg11 arg12 arg18 X11 X12 X18 k)
        (View.readAt (Elt Ideal) arg15.view (Rect.unit (s := S1024x128) ![0, 0] S1024x128.size inb_S1024x128_S1024x128_0_0).toLoadRect f15, View.readAt (Elt Ideal) arg16.view (Rect.unit (s := S1024x128) ![0, 0] S1024x128.size inb_S1024x128_S1024x128_0_0).toLoadRect f16, View.readAt (Elt Ideal) arg17.view (Rect.unit (s := S1024x128) ![0, 0] S1024x128.size inb_S1024x128_S1024x128_0_0).toLoadRect f17)
       ([⟨Rect.unit (s := S1024x128) ![0, 0] S1024x128.size inb_S1024x128_S1024x128_0_0, p.1⟩], [⟨Rect.unit (s := S1024x128) ![0, 0] S1024x128.size inb_S1024x128_S1024x128_0_0, p.2.1⟩], [⟨Rect.unit (s := S1024x128) ![0, 0] S1024x128.size inb_S1024x128_S1024x128_0_0, p.2.2⟩])) := by
  unfold tripL_k0_t1 trip_k0_t1
  rfl

/-- The pieces after `n` trips. -/
abbrev pcs (n : ℕ) := pb_k0_t1 (F := Ideal) Variants.none c none i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 n

/-- The carried arrays as read after `n` trips. -/
abbrev st (n : ℕ) : St :=
  (arg15.view.read (Elt Ideal) (arg15.view.writes (Elt Ideal) G15 (pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 n).1),
   arg16.view.read (Elt Ideal) (arg16.view.writes (Elt Ideal) G16 (pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 n).2.1),
   arg17.view.read (Elt Ideal) (arg17.view.writes (Elt Ideal) G17 (pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 n).2.2))

/-- One trip of these memories. -/
abbrev nxt (k : Fin k0_t1_loop.trips) (s : St) : St := pstep w3 sl w5 (arg14.view.read (Elt Ideal) X14) k (ins i arg11 arg12 arg18 X11 X12 X18 k) s

/-- A trip's pieces, by the carried arrays before it. -/
theorem pcs_succ (k : Fin k0_t1_loop.trips) :
    pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 (k.val + 1)
      = (⟨full, (nxt i arg11 arg12 arg14 arg18 w3 sl w5 X11 X12 X14 X18 k (st c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 k.val)).1⟩ :: (pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 k.val).1,
         ⟨full, (nxt i arg11 arg12 arg14 arg18 w3 sl w5 X11 X12 X14 X18 k (st c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 k.val)).2.1⟩ :: (pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 k.val).2.1,
         ⟨full, (nxt i arg11 arg12 arg14 arg18 w3 sl w5 X11 X12 X14 X18 k (st c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 k.val)).2.2⟩ :: (pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 k.val).2.2) := by
  unfold pcs
  rw [pb_k0_t1_succ, trip_eq, whole_eq, whole_eq, whole_eq, whole_eq]
  rfl

/-- The carried arrays after a trip, under whatever was written before the loop. -/
theorem read_succ (k : Fin k0_t1_loop.trips) (f15 : BufTy.Contents (Elt Ideal) arg15.view.ty) (f16 : BufTy.Contents (Elt Ideal) arg16.view.ty)
    (f17 : BufTy.Contents (Elt Ideal) arg17.view.ty) (L15 L16 L17) :
    ((arg15.view.read (Elt Ideal) (arg15.view.writes (Elt Ideal) f15 ((pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 (k.val + 1)).1 ++ L15)),
      arg16.view.read (Elt Ideal) (arg16.view.writes (Elt Ideal) f16 ((pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 (k.val + 1)).2.1 ++ L16)),
      arg17.view.read (Elt Ideal) (arg17.view.writes (Elt Ideal) f17 ((pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 (k.val + 1)).2.2 ++ L17))) : St)
      = nxt i arg11 arg12 arg14 arg18 w3 sl w5 X11 X12 X14 X18 k (st c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 k.val) := by
  rw [pcs_succ]
  generalize nxt i arg11 arg12 arg14 arg18 w3 sl w5 X11 X12 X14 X18 k _ = w
  exact Prod.ext (read_head arg15 f15 w.1 _) (Prod.ext (read_head arg16 f16 w.2.1 _) (read_head arg17 f17 w.2.2 _))

/-- After `n` trips the carried arrays hold `n` steps from what they held. -/
theorem st_eq (n : ℕ) (hn : n ≤ k0_t1_loop.trips) :
    st c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 n
      = fold w3 sl w5 (arg14.view.read (Elt Ideal) X14) (ins i arg11 arg12 arg18 X11 X12 X18) (arg15.view.read (Elt Ideal) G15, arg16.view.read (Elt Ideal) G16, arg17.view.read (Elt Ideal) G17) n := by
  induction n with
  | zero => rfl
  | succ n ih =>
    have h := read_succ c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 ⟨n, hn⟩ G15 G16 G17 [] [] []
    simp only [List.append_nil] at h
    refine h.trans ?_
    rw [ih (Nat.le_of_succ_le hn)]
    exact (fold_succ w3 sl w5 _ _ _ n hn).symm

/-- The loop's four trips, under whatever was written before the loop. -/
theorem read_loop (f15 : BufTy.Contents (Elt Ideal) arg15.view.ty) (f16 : BufTy.Contents (Elt Ideal) arg16.view.ty)
    (f17 : BufTy.Contents (Elt Ideal) arg17.view.ty) (L15 L16 L17) :
    ((arg15.view.read (Elt Ideal) (arg15.view.writes (Elt Ideal) f15 ((pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 4).1 ++ L15)),
      arg16.view.read (Elt Ideal) (arg16.view.writes (Elt Ideal) f16 ((pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 4).2.1 ++ L16)),
      arg17.view.read (Elt Ideal) (arg17.view.writes (Elt Ideal) f17 ((pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 4).2.2 ++ L17))) : St)
      = fold w3 sl w5 (arg14.view.read (Elt Ideal) X14) (ins i arg11 arg12 arg18 X11 X12 X18) (arg15.view.read (Elt Ideal) G15, arg16.view.read (Elt Ideal) G16, arg17.view.read (Elt Ideal) G17) 4 := by
  have h3 : 3 < k0_t1_loop.trips := by rw [trips_eq]; decide
  have h := read_succ c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 ⟨3, h3⟩ f15 f16 f17 L15 L16 L17
  rw [st_eq (hn := h3.le)] at h
  exact h.trans (fold_succ w3 sl w5 _ _ _ 3 h3).symm

/-- The same with nothing written before. -/
theorem read_loop_nil (f15 : BufTy.Contents (Elt Ideal) arg15.view.ty) (f16 : BufTy.Contents (Elt Ideal) arg16.view.ty)
    (f17 : BufTy.Contents (Elt Ideal) arg17.view.ty) :
    ((arg15.view.read (Elt Ideal) (arg15.view.writes (Elt Ideal) f15 (pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 4).1),
      arg16.view.read (Elt Ideal) (arg16.view.writes (Elt Ideal) f16 (pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 4).2.1),
      arg17.view.read (Elt Ideal) (arg17.view.writes (Elt Ideal) f17 (pcs c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 4).2.2)) : St)
      = fold w3 sl w5 (arg14.view.read (Elt Ideal) X14) (ins i arg11 arg12 arg18 X11 X12 X18) (arg15.view.read (Elt Ideal) G15, arg16.view.read (Elt Ideal) G16, arg17.view.read (Elt Ideal) G17) 4 := by
  have h := read_loop c i arg4 harg4 arg5 harg5 arg6 harg6 arg7 harg7 arg8 harg8 arg9 harg9 arg10 harg10 arg11 harg11 arg12 harg12 arg13 harg13 arg14 harg14 arg15 harg15 arg16 harg16 arg17 harg17 arg18 harg18 w3 sl w5 X11 X12 X14 X18 G15 G16 G17 f15 f16 f17 [] [] []
  simp only [List.append_nil] at h
  exact h

end

end Cert.DiffIdeal.Trip
-- ==== Proof.DiffCases.lean ====
module

public import proofs.«01_k».proof.Proof.DiffFold

@[expose] public section

/-!
# What the carried arrays hold after each grid point

At the first point of a query block the masked queries and the biases are laid down, and the four trips start from the empty
state. Every other point keeps the queries and the biases and starts from what the point before left. The output block is
written at the last point.
-/

set_option maxRecDepth 16384

noncomputable section

open Idealize.ShloMosaic Idealize.ShloMosaic.TcCoe Idealize.SL.Sem

namespace Cert.DiffIdeal.Trip

open Cert.DiffIdeal Cert.DiffIdeal.Gen

variable (m : (ℓ : Loc nD τ sig) → Buf (Elt Ideal) ℓ) (c : Dev nD) (t : Fin cfg0.N)

/-- The point's key block, slope and first query. -/
abbrev w3 : BitVec 32 := BitVec.ofNat 32 (grid0.coords t 3).val
def slope : Elt Ideal .f32 :=
  View.readAt (Elt Ideal) (ms0_0 t).view (Rect.unit (s := S4) (k0_off1 (grid0.coords t)) S1.size (k0_off1_inb (grid0.coords t))).toLoadRect ((hs0_0 t).unread (iblk m c 0 t)) (Shape.Idx.first numel1_S1.symm.le)
abbrev w5 : BitVec 32 := Scalar.muli (BitVec.ofNat 32 (grid0.coords t 2).val) 512#32

/-- What the point's trips read, with the biases `X`. -/
abbrev inp (X : BufTy.Contents (Elt Ideal) scM0_4.view.ty) : Fin k0_t1_loop.trips → In :=
  ins (grid0.coords t) (ms0_7 t) (ms0_8 t) scM0_4 ((hs0_7 t).unread (iblk m c 7 t)) ((hs0_8 t).unread (iblk m c 8 t)) X

/-- The queries, the running state and the biases after a point. -/
abbrev qsA : FVec Ideal S1024x128 .bf16 := (outsAt0 m c t.val t.isLt).2.1
abbrev biA : FVec Ideal S3x1024x512 .f32 := (outsAt0 m c t.val t.isLt).2.2.2.2.2
def tri : St := ((outsAt0 m c t.val t.isLt).2.2.1, (outsAt0 m c t.val t.isLt).2.2.2.1, (outsAt0 m c t.val t.isLt).2.2.2.2.1)

/-- The point runs its four trips from `s`. -/
def Point (s : St) : Prop :=
  ∃ X, scM0_4.view.read (Elt Ideal) X = biA m c t ∧ tri m c t = fold (w3 t) (slope m c t) (w5 t) (qsA m c t) (inp m c t X) s 4

/-- The point before. -/
abbrev prev : Fin cfg0.N := ⟨t.val - 1, Nat.lt_of_le_of_lt (Nat.sub_le _ _) t.isLt⟩

theorem keeps_B (h0 : ¬ t.val % 8 = 0) (h1 : ¬ t.val % 8 = 7) : qsA m c t = qsA m c (prev t) ∧ biA m c t = biA m c (prev t) := by
  unfold qsA biA
  rw [outsAt0_B m c t h0 h1]
  exact ⟨rfl, rfl⟩

theorem case_B (h0 : ¬ t.val % 8 = 0) (h1 : ¬ t.val % 8 = 7) : Point m c t (tri m c (prev t)) := by
  refine ⟨(Memref.isWhole_whole cc0_scratch4).unread (biA m c (prev t)), ?_, ?_⟩
  · rw [(keeps_B m c t h0 h1).2]
    exact Memref.IsWhole.read_unread _ _
  rw [(keeps_B m c t h0 h1).1]
  unfold tri
  rw [outsAt0_B m c t h0 h1]
  dsimp only
  unfold sout0_B_1 sout0_B_2 sout0_B_3 kernelRun0_B
  dsimp only
  refine (read_loop_nil c (grid0.coords t) (ms0_0 t) _ (ms0_1 t) _ (ms0_2 t) _ (ms0_3 t) _ (ms0_4 t) _ (ms0_5 t) _ (ms0_6 t) _ (ms0_7 t) _ (ms0_8 t) _ (ms0_9 t) _ scM0_0 _ scM0_1 _ scM0_2 _ scM0_3 _ scM0_4 _ _ _ _ _ _ _ _ _ _ _ _ _ _).trans ?_
  refine congr (congr (congr (congrArg _ ?_) ?_) ?_) rfl
  · exact Memref.IsWhole.read_unread _ _
  · rfl
  · refine Prod.ext ?_ (Prod.ext ?_ ?_) <;>
    (dsimp only; exact Memref.IsWhole.read_unread _ _)

theorem keeps_C (h0 : ¬ t.val % 8 = 0) (h1 : t.val % 8 = 7) : qsA m c t = qsA m c (prev t) ∧ biA m c t = biA m c (prev t) := by
  unfold qsA biA
  rw [outsAt0_C m c t h0 h1]
  exact ⟨rfl, rfl⟩

theorem case_C (h0 : ¬ t.val % 8 = 0) (h1 : t.val % 8 = 7) : Point m c t (tri m c (prev t)) := by
  refine ⟨(Memref.isWhole_whole cc0_scratch4).unread (biA m c (prev t)), ?_, ?_⟩
  · rw [(keeps_C m c t h0 h1).2]
    exact Memref.IsWhole.read_unread _ _
  rw [(keeps_C m c t h0 h1).1]
  unfold tri
  rw [outsAt0_C m c t h0 h1]
  dsimp only
  unfold sout0_C_1 sout0_C_2 sout0_C_3 kernelRun0_C
  dsimp only
  refine (read_loop_nil c (grid0.coords t) (ms0_0 t) _ (ms0_1 t) _ (ms0_2 t) _ (ms0_3 t) _ (ms0_4 t) _ (ms0_5 t) _ (ms0_6 t) _ (ms0_7 t) _ (ms0_8 t) _ (ms0_9 t) _ scM0_0 _ scM0_1 _ scM0_2 _ scM0_3 _ scM0_4 _ _ _ _ _ _ _ _ _ _ _ _ _ _).trans ?_
  refine congr (congr (congr (congrArg _ ?_) ?_) ?_) rfl
  · exact Memref.IsWhole.read_unread _ _
  · rfl
  · refine Prod.ext ?_ (Prod.ext ?_ ?_) <;>
    (dsimp only; exact Memref.IsWhole.read_unread _ _)

/-- The masked queries and the biases that the first point lays down. -/
def qs0 : FVec Ideal S1024x128 .bf16 :=
  scM0_0.view.read (Elt Ideal) (scM0_0.view.writes (Elt Ideal) scM0_0.view.junk
    [⟨Rect.unit (s := S1024x128) ![512, 0] S512x128.size inb_S1024x128_S512x128_512_0, k0_pay13 (F := Ideal) (iblk m c 6 t)⟩,
     ⟨Rect.unit (s := S1024x128) ![0, 0] S512x128.size inb_S1024x128_S512x128_0_0, k0_pay12 (F := Ideal) (iblk m c 6 t)⟩])

def bi0 : FVec Ideal S3x1024x512 .f32 :=
  scM0_4.view.read (Elt Ideal) (scM0_4.view.writes (Elt Ideal) scM0_4.view.junk
    [⟨Rect.unit (s := S3x1024x512) ![2, 0, 0] S1x1024x512.size inb_S3x1024x512_S1x1024x512_2_0_0, k0_pay4 (F := Ideal) (slope m c t) k0_pay14⟩,
     ⟨Rect.unit (s := S3x1024x512) ![1, 0, 0] S1x1024x512.size inb_S3x1024x512_S1x1024x512_1_0_0, k0_pay3 (F := Ideal) (slope m c t) k0_pay14⟩,
     ⟨Rect.unit (s := S3x1024x512) ![0, 0, 0] S1x1024x512.size inb_S3x1024x512_S1x1024x512_0_0_0, k0_pay2 (F := Ideal) (slope m c t) k0_pay14⟩])

theorem q_read : View.readAt (Elt Ideal) (ms0_6 t).view (Rect.unit (s := S512x128) ![0, 0] S512x128.size inb_S512x128_S512x128_0_0).toLoadRect ((hs0_6 t).unread (iblk m c 6 t)) = (iblk m c 6 t : FVec Ideal S512x128 .bf16) :=
  (View.readAt_full (ms0_6 t).view _ _).trans ((hs0_6 t).read_unread _)

theorem lays (h0 : t.val % 8 = 0) (h1 : ¬ t.val % 8 = 7) : qsA m c t = qs0 m c t ∧ biA m c t = bi0 m c t := by
  unfold qsA biA
  rw [outsAt0_A m c t h0 h1]
  dsimp only
  unfold sout0_A_0 sout0_A_4 kernelRun0_A
  dsimp only
  unfold kernelRun0_A.sl.HS0_2 kernelRun0_A.sl.HS4_3
  rw [q_read]
  exact ⟨rfl, rfl⟩

theorem case_A (h0 : t.val % 8 = 0) (h1 : ¬ t.val % 8 = 7) : Point m c t (k0_pay9, k0_pay10, k0_pay11) := by
  refine ⟨_, (lays m c t h0 h1).2.symm, ?_⟩
  rw [(lays m c t h0 h1).1]
  unfold tri
  rw [outsAt0_A m c t h0 h1]
  dsimp only
  unfold sout0_A_1 sout0_A_2 sout0_A_3 kernelRun0_A
  dsimp only
  refine (read_loop c (grid0.coords t) (ms0_0 t) _ (ms0_1 t) _ (ms0_2 t) _ (ms0_3 t) _ (ms0_4 t) _ (ms0_5 t) _ (ms0_6 t) _ (ms0_7 t) _ (ms0_8 t) _ (ms0_9 t) _ scM0_0 _ scM0_1 _ scM0_2 _ scM0_3 _ scM0_4 _ _ _ _ _ _ _ _ _ _ _ _ _ _ _ _ _).trans ?_
  unfold kernelRun0_A.sl.HS0_2 kernelRun0_A.sl.HS4_3  kernelRun0_A.sl.HS1_1 kernelRun0_A.sl.HS2_1 kernelRun0_A.sl.HS3_1
  rw [q_read]
  refine congr (congr (congr (congrArg _ ?_) ?_) ?_) rfl
  · rfl
  · rfl
  · exact Prod.ext (read_head scM0_1 _ _ []) (Prod.ext (read_head scM0_2 _ _ []) (read_head scM0_3 _ _ []))

/-- The output block at the last point. -/
theorem out_C (h0 : ¬ t.val % 8 = 0) (h1 : t.val % 8 = 7) :
    (outsAt0 m c t.val t.isLt).1
      = k0_pay8 (F := Ideal) (k0_pay21 (tri m c t).2.2 (tri m c t).2.1 (iblk m c 1 t) (iblk m c 2 t) (iblk m c 3 t) (iblk m c 4 t)) (k0_pay22 (iblk m c 5 t)) := by
  unfold tri
  rw [outsAt0_C m c t h0 h1]
  dsimp only
  unfold out0_C_9 sout0_C_2 sout0_C_3 kernelRun0_C
  dsimp only
  refine (View.read_writes_full VO0_9 _ _ _ []).trans ?_
  unfold kernelRun0_C.sl.r_1 kernelRun0_C.sl.r_2 kernelRun0_C.sl.v10 kernelRun0_C.sl.v11
  refine congrArg₂ (k0_pay8 (F := Ideal)) ?_ ?_
  · have e1 := (View.readAt_full (ms0_1 t).view ((hs0_1 t).unread (iblk m c 1 t)) inb_S1x64_S1x64_0_0).trans ((hs0_1 t).read_unread _)
    have e2 := (View.readAt_full (ms0_2 t).view ((hs0_2 t).unread (iblk m c 2 t)) inb_S1x64_S1x64_0_0).trans ((hs0_2 t).read_unread _)
    have e3 := (View.readAt_full (ms0_3 t).view ((hs0_3 t).unread (iblk m c 3 t)) inb_S1x64_S1x64_0_0).trans ((hs0_3 t).read_unread _)
    have e4 := (View.readAt_full (ms0_4 t).view ((hs0_4 t).unread (iblk m c 4 t)) inb_S1x64_S1x64_0_0).trans ((hs0_4 t).read_unread _)
    refine congr (congr (congr (congr (congr (congrArg (k0_pay21 (F := Ideal)) ?_) ?_) e1) e2) e3) e4
    · refine (View.readAt_full (View.whole cc0_scratch3) _ _).trans ?_
      exact congrArg (fun s : St => s.2.2) ((read_loop_nil c (grid0.coords t) (ms0_0 t) _ (ms0_1 t) _ (ms0_2 t) _ (ms0_3 t) _ (ms0_4 t) _ (ms0_5 t) _ (ms0_6 t) _ (ms0_7 t) _ (ms0_8 t) _ (ms0_9 t) _ scM0_0 _ scM0_1 _ scM0_2 _ scM0_3 _ scM0_4 _ _ _ _ _ _ _ _ _ _ _ (VS0_1.junk) (VS0_2.junk) _).trans (read_loop_nil c (grid0.coords t) (ms0_0 t) _ (ms0_1 t) _ (ms0_2 t) _ (ms0_3 t) _ (ms0_4 t) _ (ms0_5 t) _ (ms0_6 t) _ (ms0_7 t) _ (ms0_8 t) _ (ms0_9 t) _ scM0_0 _ scM0_1 _ scM0_2 _ scM0_3 _ scM0_4 _ _ _ _ _ _ _ _ _ _ _ VS0_1.junk VS0_2.junk _).symm)
    · refine (View.readAt_full (View.whole cc0_scratch2) _ _).trans ?_
      exact congrArg (fun s : St => s.2.1) ((read_loop_nil c (grid0.coords t) (ms0_0 t) _ (ms0_1 t) _ (ms0_2 t) _ (ms0_3 t) _ (ms0_4 t) _ (ms0_5 t) _ (ms0_6 t) _ (ms0_7 t) _ (ms0_8 t) _ (ms0_9 t) _ scM0_0 _ scM0_1 _ scM0_2 _ scM0_3 _ scM0_4 _ _ _ _ _ _ _ _ _ _ _ (VS0_1.junk) _ (VS0_3.junk)).trans (read_loop_nil c (grid0.coords t) (ms0_0 t) _ (ms0_1 t) _ (ms0_2 t) _ (ms0_3 t) _ (ms0_4 t) _ (ms0_5 t) _ (ms0_6 t) _ (ms0_7 t) _ (ms0_8 t) _ (ms0_9 t) _ scM0_0 _ scM0_1 _ scM0_2 _ scM0_3 _ scM0_4 _ _ _ _ _ _ _ _ _ _ _ VS0_1.junk _ VS0_3.junk).symm)
  · exact congrArg (k0_pay22 (F := Ideal)) ((View.readAt_full (ms0_5 t).view ((hs0_5 t).unread (iblk m c 5 t)) inb_S1x128_S1x128_0_0).trans ((hs0_5 t).read_unread _))

end Cert.DiffIdeal.Trip
-- ==== Proof.DiffBlocks.lean ====
module

public import proofs.«01_k».proof.Proof.DiffCases
public import Idealize.ShloMosaic.Lib.WritesUnit

@[expose] public section

/-!
# The blocks of the differential attention at each grid point

Point `t` works on head `t / 512`, sequence `t / 256 % 2`, query block `t / 8 % 32` and key block `t % 8`.
-/

set_option maxRecDepth 16384

noncomputable section

open Idealize.ShloMosaic Idealize.ShloMosaic.TcCoe Idealize.SL.Sem

namespace Cert.DiffIdeal.Trip

open Cert.DiffIdeal Cert.DiffIdeal.Gen

/-- The blocks the windows are on at each grid point, and the point's coordinates. -/
theorem idx : ∀ t : Fin cfg0.N,
    win0_6.index t = ![t.val / 8 % 64, 12 + t.val / 512]
    ∧ win0_7.index t = ![t.val / 256 % 2 * 8 + t.val % 8, 16 + t.val / 512]
    ∧ win0_8.index t = ![t.val / 256 % 2 * 8 + t.val % 8, 20 + t.val / 512]
    ∧ win0_9.index t = ![t.val / 8 % 64, t.val / 512] :=
  (by decide +kernel : ∀ t : Fin grid0.N, _)

theorem idx0 : ∀ t : Fin cfg0.N,
    win0_0.index t = ![0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

theorem coords : ∀ t : Fin cfg0.N, (grid0.coords t 2).val = t.val / 8 % 32 ∧ (grid0.coords t 3).val = t.val % 8 ∧ k0_off1 (grid0.coords t) = ![t.val / 512] :=
  (by decide +kernel : ∀ t : Fin grid0.N, _)

theorem off2 : ∀ k : Fin k0_t1_loop.trips, k0_off2 k = ![512 * k.val, 0] := by decide +kernel

/-- Which plane of the biases a trip takes: whether its keys lie before, at or after the queries. -/
def which (qb kb : ℕ) : ℕ := if kb < qb then 0 else if kb = qb then 1 else 2

theorem which_lt (qb kb : ℕ) : which qb kb < 3 := by unfold which; split <;> [omega; (split <;> omega)]

theorem off3 : ∀ (t : Fin cfg0.N) (k : Fin k0_t1_loop.trips), k0_off3 (grid0.coords t) k = ![which (t.val / 8 % 32) (4 * (t.val % 8) + k.val), 0, 0] :=
  (by decide +kernel : ∀ (t : Fin grid0.N) (k : Fin k0_t1_loop.trips), _)

/-- The distance of the block of keys from the block of queries. -/
theorem gap : ∀ (a : Fin 32) (b : Fin 8) (k : Fin k0_t1_loop.trips),
    (Scalar.absi (Scalar.subi (Scalar.muli (BitVec.ofNat 32 a.val) 512#32) (Scalar.addi (Scalar.muli (BitVec.ofNat 32 b.val) 2048#32) (Scalar.muli (Scf.iv 0#32 1#32 k) 512#32)))).toInt
      = ((512 * (a.val : ℤ) - 512 * ((4 * b.val + k.val : ℕ) : ℤ)).natAbs : ℤ) := by decide +kernel

variable (m : (ℓ : Loc nD τ sig) → Buf (Elt Ideal) ℓ) (c : Dev nD) (t : Fin cfg0.N)

abbrev aZ : FVec Ideal S32768x3072 .bf16 := m ((c.tc : Thread nD τ).loc main_arg0)
abbrev aS : FVec Ideal S4 .f32 := m ((c.tc : Thread nD τ).loc main_arg1)
abbrev a1 : FVec Ideal S64 .f32 := m ((c.tc : Thread nD τ).loc main_arg2)
abbrev a2 : FVec Ideal S64 .f32 := m ((c.tc : Thread nD τ).loc main_arg3)
abbrev a3 : FVec Ideal S64 .f32 := m ((c.tc : Thread nD τ).loc main_arg4)
abbrev a4 : FVec Ideal S64 .f32 := m ((c.tc : Thread nD τ).loc main_arg5)
abbrev aG : FVec Ideal S128 .f32 := m ((c.tc : Thread nD τ).loc main_arg6)

theorem is_at (h : Fin 4) : (iblk m c 0 t : FVec Ideal S4 .f32) (ix1 h) = aS m c (ix1 h) := by
  blk_ext [iblk, V, idx0 t]

theorem i1_at (d : Fin 64) : (iblk m c 1 t : FVec Ideal S1x64 .f32) (ix2 0 d) = a1 m c (ix1 d) := by
  unfold iblk
  entry_read
  blk_simp [idx0 t]
  pointwise
  blk_ext [idx0 t]

theorem i2_at (d : Fin 64) : (iblk m c 2 t : FVec Ideal S1x64 .f32) (ix2 0 d) = a2 m c (ix1 d) := by
  unfold iblk
  entry_read
  blk_simp [idx0 t]
  pointwise
  blk_ext [idx0 t]

theorem i3_at (d : Fin 64) : (iblk m c 3 t : FVec Ideal S1x64 .f32) (ix2 0 d) = a3 m c (ix1 d) := by
  unfold iblk
  entry_read
  blk_simp [idx0 t]
  pointwise
  blk_ext [idx0 t]

theorem i4_at (d : Fin 64) : (iblk m c 4 t : FVec Ideal S1x64 .f32) (ix2 0 d) = a4 m c (ix1 d) := by
  unfold iblk
  entry_read
  blk_simp [idx0 t]
  pointwise
  blk_ext [idx0 t]

theorem i5_at (d : Fin 128) : (iblk m c 5 t : FVec Ideal S1x128 .f32) (ix2 0 d) = aG m c (ix1 d) := by
  unfold iblk
  entry_read
  blk_simp [idx0 t]
  pointwise
  blk_ext [idx0 t]

theorem iq_at (r : Fin 512) (d : Fin 128) :
    (iblk m c 6 t : FVec Ideal S512x128 .bf16) (ix2 r d)
      = aZ m c (ix2 ⟨t.val / 8 % 64 * 512 + r.val, by omega⟩ ⟨(12 + t.val / 512) * 128 + d.val, by have := lt_of_lt_of_eq t.isLt N_0; omega⟩) := by
  have ht := lt_of_lt_of_eq t.isLt N_0
  blk_ext [iblk, V, idx t]

theorem ik_at (n : Fin 2048) (d : Fin 128) :
    (iblk m c 7 t : FVec Ideal S2048x128 .bf16) (ix2 n d)
      = aZ m c (ix2 ⟨(t.val / 256 % 2 * 8 + t.val % 8) * 2048 + n.val, by omega⟩ ⟨(16 + t.val / 512) * 128 + d.val, by have := lt_of_lt_of_eq t.isLt N_0; omega⟩) := by
  have ht := lt_of_lt_of_eq t.isLt N_0
  blk_ext [iblk, V, idx t]

theorem iv_at (n : Fin 2048) (d : Fin 128) :
    (iblk m c 8 t : FVec Ideal S2048x128 .bf16) (ix2 n d)
      = aZ m c (ix2 ⟨(t.val / 256 % 2 * 8 + t.val % 8) * 2048 + n.val, by omega⟩ ⟨(20 + t.val / 512) * 128 + d.val, by have := lt_of_lt_of_eq t.isLt N_0; omega⟩) := by
  have ht := lt_of_lt_of_eq t.isLt N_0
  blk_ext [iblk, V, idx t]

variable (X : BufTy.Contents (Elt Ideal) scM0_4.view.ty) (k : Fin k0_t1_loop.trips)

/-- A trip's keys, values and biases. -/
theorem ink_at (n : Fin 512) (d : Fin 128) :
    (inp m c t X k).1 (ix2 n d) = (iblk m c 7 t : FVec Ideal S2048x128 .bf16) (ix2 ⟨512 * k.val + n.val, by have := lt_of_lt_of_eq k.isLt trips_eq; omega⟩ d) := by
  have hk := lt_of_lt_of_eq k.isLt trips_eq
  unfold inp ins
  dsimp only
  rw [View.readAt_unit (ms0_7 t).view _ _ (off2 k) (by rw [← off2 k]; exact k0_off2_inb k), Memref.IsWhole.read_unread]
  unfold VecWindow.window
  refine congrArg _ ?_
  idx_ext

theorem inv_at (n : Fin 512) (d : Fin 128) :
    (inp m c t X k).2.1 (ix2 n d) = (iblk m c 8 t : FVec Ideal S2048x128 .bf16) (ix2 ⟨512 * k.val + n.val, by have := lt_of_lt_of_eq k.isLt trips_eq; omega⟩ d) := by
  have hk := lt_of_lt_of_eq k.isLt trips_eq
  unfold inp ins
  dsimp only
  rw [View.readAt_unit (ms0_8 t).view _ _ (off2 k) (by rw [← off2 k]; exact k0_off2_inb k), Memref.IsWhole.read_unread]
  unfold VecWindow.window
  refine congrArg _ ?_
  idx_ext

theorem inb_at (r : Fin 1024) (n : Fin 512) :
    (inp m c t X k).2.2 (ix3 0 r n)
      = scM0_4.view.read (Elt Ideal) X (ix3 ⟨which (t.val / 8 % 32) (4 * (t.val % 8) + k.val), which_lt _ _⟩ r n) := by
  unfold inp ins
  dsimp only
  rw [View.readAt_unit scM0_4.view _ _ (off3 t k) (by rw [← off3 t k]; exact k0_off3_inb (grid0.coords t) k)]
  unfold VecWindow.window
  refine congrArg _ ?_
  idx_ext

/-- The head's slope. -/
theorem slope_at : slope m c t = aS m c (ix1 ⟨t.val / 512, by have := lt_of_lt_of_eq t.isLt N_0; omega⟩) := by
  have ht := lt_of_lt_of_eq t.isLt N_0
  unfold slope
  rw [View.readAt_unit (ms0_0 t).view _ _ (coords t).2.2 (by rw [← (coords t).2.2]; exact k0_off1_inb (grid0.coords t)), Memref.IsWhole.read_unread]
  refine Eq.trans ?_ (is_at m c t _)
  unfold VecWindow.window
  refine congrArg _ ?_
  idx_ext

end Cert.DiffIdeal.Trip
-- ==== Proof.DiffPay.lean ====
module

public import proofs.«01_k».proof.Proof.DiffFold
public import proofs.«01_k».proof.Proof.FlashMath

@[expose] public section

/-!
# The differential attention's payloads at one place
-/

set_option maxRecDepth 16384

noncomputable section

open Idealize.ShloMosaic Idealize.ShloMosaic.TcCoe Idealize.SL.Sem

namespace Cert.DiffIdeal.Trip

open Cert.DiffIdeal Cert.DiffIdeal.Gen

theorem pay9_at (r : Fin 1024) (d : Fin 128) : k0_pay9 (F := Ideal) (ix2 r d) = ⊥ := by
  pointwise [k0_pay9]
  exact IdealRules.named_const.ideal_named_scalar _ _ _ _ rfl

theorem pay10_at (r : Fin 1024) (d : Fin 128) : k0_pay10 (F := Ideal) (ix2 r d) = 0 := by
  pointwise [k0_pay10]

theorem pay11_at (r : Fin 1024) (d : Fin 128) : k0_pay11 (F := Ideal) (ix2 r d) = 0 := by
  pointwise [k0_pay11]

theorem neg_inf : Ideal.ofBits .f32 4286578688#32 = (⊥ : EReal) := by
  simp [Ideal.ofBits, Ideal.ieee]

theorem lane_lt : ∀ d : Fin 128, IntOp.cmpi .slt (BitVec.ofNat 32 d.val) 64#32 = if d.val < 64 then 1#1 else 0#1 := by decide +kernel
theorem lane_ge : ∀ d : Fin 128, IntOp.cmpi .sge (BitVec.ofNat 32 d.val) 64#32 = if d.val < 64 then 0#1 else 1#1 := by decide +kernel
theorem row_fold14 : ∀ r : Fin 1024, Scalar.select (IntOp.cmpi .sge (BitVec.ofNat 32 r.val) 512#32) (IntOp.subi (BitVec.ofNat 32 r.val) 512#32) (BitVec.ofNat 32 r.val)
    = BitVec.ofNat 32 (r.val % 512) := by decide +kernel

theorem pay12_at (x : FVec Ideal S512x128 .bf16) (r : Fin 512) (d : Fin 128) :
    k0_pay12 (F := Ideal) x (ix2 r d) = if d.val < 64 then x (ix2 r d) else 0 := by
  pointwise [k0_pay12]
  rw [lane_lt]
  split <;> rfl

theorem pay13_at (x : FVec Ideal S512x128 .bf16) (r : Fin 512) (d : Fin 128) :
    k0_pay13 (F := Ideal) x (ix2 r d) = if d.val < 64 then 0 else x (ix2 r d) := by
  pointwise [k0_pay13]
  rw [lane_ge]
  split <;> rfl

theorem pay14_at (r : Fin 1024) (n : Fin 512) : k0_pay14 (ix2 r n) = BitVec.ofNat 32 (r.val % 512) := by
  pointwise [k0_pay14]
  exact row_fold14 r

theorem pay1_at (v : IVec S1024x512 32) (r : Fin 1024) (n : Fin 512) :
    k0_pay1 (F := Ideal) v (ix2 r n) = FloatOps.sitofp (F := Ideal) .f32 (IntOp.subi (v (ix2 r n)) (BitVec.ofNat 32 n.val)) := by
  pointwise [k0_pay1]

theorem pay2_at (a : EReal) (v : IVec S1024x512 32) (r : Fin 1024) (n : Fin 512) :
    k0_pay2 (F := Ideal) a v (ix3 0 r n) = (0 - a) * k0_pay1 (F := Ideal) v (ix2 r n) := by
  pointwise [k0_pay2]

theorem pay3_at (a : EReal) (v : IVec S1024x512 32) (r : Fin 1024) (n : Fin 512) :
    k0_pay3 (F := Ideal) a v (ix3 0 r n) = (0 - a) * FloatOps.absf (F := Ideal) (φ := .f32) (k0_pay1 (F := Ideal) v (ix2 r n)) := by
  pointwise [k0_pay3]

theorem pay4_at (a : EReal) (v : IVec S1024x512 32) (r : Fin 1024) (n : Fin 512) :
    k0_pay4 (F := Ideal) a v (ix3 0 r n) = a * k0_pay1 (F := Ideal) v (ix2 r n) := by
  pointwise [k0_pay4]

theorem pay5_at (p : FVec Ideal S1024x512 .f32) (l : FVec Ideal S1024x128 .f32) (r : Fin 1024) (d : Fin 128) :
    k0_pay5 (F := Ideal) p l (ix2 r d) = l (ix2 r d) + ∑ n : Fin 512, p (ix2 r n) := by
  pointwise [k0_pay5]

theorem pay6_at (v : FVec Ideal S512x128 .bf16) (al : FVec Ideal S1024x128 .f32) (p : FVec Ideal S1024x512 .f32) (a : FVec Ideal S1024x128 .f32) (r : Fin 1024) (d : Fin 128) :
    k0_pay6 (F := Ideal) v al p a (ix2 r d) = al (ix2 r d) * a (ix2 r d) + ∑ n : Fin 512, p (ix2 r n) * v (ix2 n d) := by
  pointwise [k0_pay6]

theorem pay7_at (x : FVec Ideal S1024x128 .f32) (r : Fin 1024) (d : Fin 128) : k0_pay7 (F := Ideal) x (ix2 r d) = x (ix2 r d) := by
  pointwise [k0_pay7]

theorem pay8_at (x g : FVec Ideal S512x128 .f32) (r : Fin 512) (d : Fin 128) :
    k0_pay8 (F := Ideal) x g (ix2 r d) = x (ix2 r d) * g (ix2 r d) * Ideal.ofBits .f32 0x3F4CCCCD#32 := by
  pointwise [k0_pay8]

theorem pay22_at (g : FVec Ideal S1x128 .f32) (r : Fin 512) (d : Fin 128) : k0_pay22 (F := Ideal) g (ix2 r d) = g (ix2 0 d) := by
  pointwise [k0_pay22]

section
variable (w3 : BitVec 32) (a : EReal) (w5 : BitVec 32) (k : Fin k0_t1_loop.trips) (q : FVec Ideal S1024x128 .bf16) (K : FVec Ideal S512x128 .bf16)
  (B : FVec Ideal S1x1024x512 .f32) (m l acc : FVec Ideal S1024x128 .f32)

theorem pay15_at (r : Fin 1024) (n : Fin 512) :
    k0_pay15 (F := Ideal) q K B (ix2 r n) = (∑ d : Fin 128, q (ix2 r d) * K (ix2 n d)) + B (ix3 0 r n) := by
  pointwise [k0_pay15]

theorem pay16_at (d : Fin 128) :
    k0_pay16 (F := Ideal) w3 a w5 0#32 1#32 k (ix2 0 d)
      = (0 - a) * FloatOps.sitofp (F := Ideal) .f32 (Scalar.absi (Scalar.subi w5 (Scalar.addi (Scalar.muli w3 2048#32) (Scalar.muli (Scf.iv 0#32 1#32 k) 512#32)))) := by
  pointwise [k0_pay16]

theorem pay17_at (r : Fin 1024) (d : Fin 128) :
    k0_pay17 (F := Ideal) w3 a w5 0#32 1#32 k q K B m (ix2 r d)
      = max (m (ix2 r d)) ((Finset.univ : Finset (Fin 512)).fold max ⊥ (fun x => k0_pay15 (F := Ideal) q K B (ix2 r x)) + k0_pay16 (F := Ideal) w3 a w5 0#32 1#32 k (ix2 0 d)) := by
  pointwise [k0_pay17]
  rw [neg_inf]

theorem pay18_at (r : Fin 1024) (d : Fin 128) :
    k0_pay18 (F := Ideal) w3 a w5 0#32 1#32 k q K B m (ix2 r d)
      = Ideal.exp2 (m (ix2 r d) - k0_pay17 (F := Ideal) w3 a w5 0#32 1#32 k q K B m (ix2 r d)) := by
  pointwise [k0_pay18]
  rfl

/-- The exponentials, once the new maximum and the shift are the same in every lane. -/
theorem pay19_at (r : Fin 1024) (M S : EReal) (hM : ∀ d : Fin 128, k0_pay17 (F := Ideal) w3 a w5 0#32 1#32 k q K B m (ix2 r d) = M)
    (hS : ∀ d : Fin 128, k0_pay16 (F := Ideal) w3 a w5 0#32 1#32 k (ix2 0 d) = S) (n : Fin 512) :
    k0_pay19 (F := Ideal) w3 a w5 0#32 1#32 k q K B m (ix2 r n) = Ideal.exp2 (k0_pay15 (F := Ideal) q K B (ix2 r n) - (M - S)) := by
  pointwise [k0_pay19]
  simp only [hM, hS, dite_eq_ite, ite_self]
  try rfl

theorem pay20_at (r : Fin 1024) (d : Fin 128) :
    k0_pay20 (F := Ideal) w3 a w5 0#32 1#32 k q K B m l (ix2 r d)
      = k0_pay18 (F := Ideal) w3 a w5 0#32 1#32 k q K B m (ix2 r d) * l (ix2 r d) := by
  pointwise [k0_pay20]

end

/-- The second half's factor, as the kernel has it. -/
def klam (x1 x2 x3 x4 : FVec Ideal S1x64 .f32) : EReal :=
  Ideal.exp (∑ d : Fin 64, x1 (ix2 0 d) * x2 (ix2 0 d)) - Ideal.exp (∑ d : Fin 64, x3 (ix2 0 d) * x4 (ix2 0 d)) + Ideal.ofBits .f32 0x3E4CCCCD#32

/-- The difference of the two halves' results. -/
def dif (a l : FVec Ideal S1024x128 .f32) (lam : EReal) (r : Fin 512) (d : Fin 128) : EReal :=
  Ideal.div (a (ix2 ⟨r.val, by omega⟩ d)) (l (ix2 ⟨r.val, by omega⟩ d)) - lam * Ideal.div (a (ix2 ⟨512 + r.val, by omega⟩ d)) (l (ix2 ⟨512 + r.val, by omega⟩ d))

theorem pay21_at (a l : FVec Ideal S1024x128 .f32) (x1 x2 x3 x4 : FVec Ideal S1x64 .f32) (r : Fin 512) (d : Fin 128) :
    k0_pay21 (F := Ideal) a l x1 x2 x3 x4 (ix2 r d)
      = dif a l (klam x1 x2 x3 x4) r d * Ideal.rsqrt (Ideal.div (∑ e : Fin 128, dif a l (klam x1 x2 x3 x4) r e * dif a l (klam x1 x2 x3 x4) r e) (Ideal.ofBits .f32 0x43000000#32) + Ideal.ofBits .f32 0x358637BD#32) := by
  pointwise [k0_pay21]
  try simp only [dif, klam]

end Cert.DiffIdeal.Trip
-- ==== Proof.DiffRow.lean ====
module

public import proofs.«01_k».proof.Proof.DiffPay

@[expose] public section

/-!
# A trip of the differential attention at one row

Row `r` of the carried arrays holds the running state of `Flash.Inv` for its scores. A trip's scores come in two parts: what
is added to every key's product, and the shift that is the same for the whole block of keys.
-/

set_option maxRecDepth 16384

noncomputable section

open Idealize.ShloMosaic Idealize.ShloMosaic.TcCoe Idealize.SL.Sem

namespace Cert.DiffIdeal.Trip

open Cert.DiffIdeal Cert.DiffIdeal.Gen

/-- Adding a real to all adds it to the greatest. -/
theorem fold_add {n : ℕ} (f : Fin n → EReal) (S : ℝ) :
    (Finset.univ : Finset (Fin n)).fold max ⊥ f + (S : EReal) = (Finset.univ : Finset (Fin n)).fold max ⊥ (fun x => f x + (S : EReal)) := by
  have mono : Monotone fun x : EReal => x + (S : EReal) := fun x y h => add_le_add_left h _
  have h := Finset.fold_hom (op := max) (op' := max) (m := fun x : EReal => x + (S : EReal)) (b := ⊥) (s := (Finset.univ : Finset (Fin n))) (f := f)
    (fun x y => mono.map_max)
  rw [← h]
  simp

/-- A score less the shifted maximum is the shifted score less the maximum. -/
theorem sub_shift (s S : ℝ) (M : EReal) : (s : EReal) - (M - (S : EReal)) = ((s + S : ℝ) : EReal) - M := by
  induction M using EReal.rec with
  | bot => simp
  | coe M => rw [← EReal.coe_sub, ← EReal.coe_sub, ← EReal.coe_sub]; congr 1; ring
  | top => simp

/-- Row `r` of a carried state after `n` keys, for column `d` of the values: the maximum is the same in every lane, and the
three numbers are the running state. -/
def Row (σ : ℕ → ℝ) (w : ℕ → EReal) (n : ℕ) (s : St) (r : Fin 1024) (d : Fin 128) : Prop :=
  (∀ e : Fin 128, s.1 (ix2 r e) = s.1 (ix2 r d)) ∧ Flash.Inv σ w n (s.1 (ix2 r d)) (s.2.1 (ix2 r d)) (s.2.2 (ix2 r d))

variable {σ : ℕ → ℝ} {w : ℕ → EReal} {n : ℕ} {r : Fin 1024} {d : Fin 128}

theorem row_init : Row σ w 0 (k0_pay9, k0_pay10, k0_pay11) r d := by
  refine ⟨fun e => (pay9_at r e).trans (pay9_at r d).symm, ?_⟩
  show Flash.Inv σ w 0 (k0_pay9 (F := Ideal) (ix2 r d)) (k0_pay10 (F := Ideal) (ix2 r d)) (k0_pay11 (F := Ideal) (ix2 r d))
  rw [pay9_at, pay10_at, pay11_at]
  exact Flash.inv_zero

variable (w3 : BitVec 32) (a : EReal) (w5 : BitVec 32) (q : FVec Ideal S1024x128 .bf16)

/-- A trip over the next 512 keys. -/
theorem row_step (k : Fin k0_t1_loop.trips) (X : In) {s : St} (h : Row σ w n s r d) (S : ℝ)
    (hS : ∀ e : Fin 128, k0_pay16 (F := Ideal) w3 a w5 0#32 1#32 k (ix2 0 e) = (S : EReal))
    (hk : ∀ x : Fin 512, ∃ y : ℝ, k0_pay15 (F := Ideal) q X.1 X.2.2 (ix2 r x) = (y : EReal) ∧ y + S = σ (n + x.val))
    (hv : ∀ x : Fin 512, X.2.1 (ix2 x d) = w (n + x.val)) : Row σ w (n + 512) (pstep w3 a w5 q k X s) r d := by
  obtain ⟨hm, hI⟩ := h
  choose y hy hσ using hk
  have h17 : ∀ e : Fin 128, k0_pay17 (F := Ideal) w3 a w5 0#32 1#32 k q X.1 X.2.2 s.1 (ix2 r e)
      = max (s.1 (ix2 r d)) ((Finset.univ : Finset (Fin 512)).fold max ⊥ (fun x => ((σ (n + x.val) : ℝ) : EReal))) := fun e => by
    rw [pay17_at, hm e, hS, fold_add]
    simp only [hy, ← EReal.coe_add, hσ]
  have h19 : ∀ x : Fin 512, k0_pay19 (F := Ideal) w3 a w5 0#32 1#32 k q X.1 X.2.2 s.1 (ix2 r x)
      = Ideal.exp2 (((σ (n + x.val) : ℝ) : EReal) - k0_pay17 (F := Ideal) w3 a w5 0#32 1#32 k q X.1 X.2.2 s.1 (ix2 r d)) := fun x => by
    rw [pay19_at w3 a w5 k q X.1 X.2.2 s.1 r _ _ (fun e => (h17 e).trans (h17 d).symm) hS, hy, sub_shift, hσ]
  have step := hI.step (C := 512) (by decide) (fun x => ((σ (n + x.val) : ℝ) : EReal)) (fun x => X.2.1 (ix2 x d)) (fun x => rfl) hv (h17 d)
  refine ⟨fun e => ?_, ?_⟩
  · unfold pstep
    dsimp only
    rw [pay7_at, pay7_at, h17, h17]
  · unfold pstep
    dsimp only
    rw [pay7_at, pay5_at, pay6_at, pay20_at, pay18_at]
    simp only [h19]
    exact step

/-- Trips over further blocks of 512 keys. -/
theorem row_fold {s : St} (X : Fin k0_t1_loop.trips → In) (h : Row σ w n s r d) (S : Fin k0_t1_loop.trips → ℝ)
    (hS : ∀ (j : Fin k0_t1_loop.trips) (e : Fin 128), k0_pay16 (F := Ideal) w3 a w5 0#32 1#32 j (ix2 0 e) = (S j : EReal))
    (hk : ∀ (j : Fin k0_t1_loop.trips) (x : Fin 512), ∃ y : ℝ, k0_pay15 (F := Ideal) q (X j).1 (X j).2.2 (ix2 r x) = (y : EReal) ∧ y + S j = σ (n + 512 * j.val + x.val))
    (hv : ∀ (j : Fin k0_t1_loop.trips) (x : Fin 512), (X j).2.1 (ix2 x d) = w (n + 512 * j.val + x.val)) (j : ℕ) (hj : j ≤ k0_t1_loop.trips) :
    Row σ w (n + 512 * j) (fold w3 a w5 q X s j) r d := by
  induction j with
  | zero => exact h
  | succ j ih =>
    rw [fold_succ w3 a w5 q X s j hj, Nat.mul_succ, ← Nat.add_assoc]
    exact row_step w3 a w5 q ⟨j, hj⟩ _ (ih (Nat.le_of_succ_le hj)) (S ⟨j, hj⟩) (hS ⟨j, hj⟩) (hk ⟨j, hj⟩) (hv ⟨j, hj⟩)

end Cert.DiffIdeal.Trip
-- ==== Proof.DiffRefAt.lean ====
module

public import proofs.«01_k».proof.Proof.Gen.DiffRefIdeal.Run
public import proofs.«01_k».proof.Proof.MlaRefAt
public import Idealize.ShloMosaic.Lib.Pointwise

@[expose] public section

/-!
# The reference of the differential attention, place by place
-/

set_option maxRecDepth 16384

noncomputable section

open Idealize.ShloMosaic Idealize.ShloMosaic.TcCoe Idealize.SL.Sem

namespace Cert.DiffRefIdeal.RefAt

open Cert.DiffRefIdeal Cert.DiffRefIdeal.Gen

/-- One half of the heads' queries, or of their keys. -/
abbrev Half := FVec Ideal S2x16384x4x64 .f32
/-- Scores or weights: sequence, head, query, key. -/
abbrev Sc := FVec Ideal S2x4x16384x16384 .f32

variable (Z : FVec Ideal S32768x3072 .bf16) (A : FVec Ideal S4 .f32) (a b a' b' : FVec Ideal S64 .f32) (G : FVec Ideal S128 .f32)

/-- The projections that the differential attention uses. -/
def ZF : FVec Ideal S32768x1536 .f32 := extf .f32 (extractStridedSlice S32768x1536 ![0, 1536] Z slices_S32768x3072_S32768x1536_0_1536) bitsLt_bf16_f32
def ZQ : FVec Ideal S2x16384x4x2x64 .f32 := shapeCast _ (extractStridedSlice S32768x512 ![0, 0] (ZF Z) slices_S32768x1536_S32768x512_0_0) shapeCasts_S32768x512_S2x16384x4x2x64
def ZK : FVec Ideal S2x16384x4x2x64 .f32 := shapeCast _ (extractStridedSlice S32768x512 ![0, 512] (ZF Z) slices_S32768x1536_S32768x512_0_512) shapeCasts_S32768x512_S2x16384x4x2x64
/-- The first half of each head's 128 columns, and the second. -/
def lo (X : FVec Ideal S2x16384x4x2x64 .f32) : Half := shapeCast _ (extractStridedSlice S2x16384x4x1x64 ![0, 0, 0, 0, 0] X slices_S2x16384x4x2x64_S2x16384x4x1x64_0_0_0_0_0) shapeCasts_S2x16384x4x1x64_S2x16384x4x64
def hi (X : FVec Ideal S2x16384x4x2x64 .f32) : Half := shapeCast _ (extractStridedSlice S2x16384x4x1x64 ![0, 0, 0, 1, 0] X slices_S2x16384x4x2x64_S2x16384x4x1x64_0_0_0_1_0) shapeCasts_S2x16384x4x1x64_S2x16384x4x64
/-- The values. -/
def VV : FVec Ideal S2x16384x4x128 .f32 := shapeCast _ (extractStridedSlice S32768x512 ![0, 1024] (ZF Z) slices_S32768x1536_S32768x512_0_1024) shapeCasts_S32768x512_S2x16384x4x128

/-- Less the slope times the distance of query and key. -/
def BIAS : Sc := broadcastInDim S2x4x16384x16384 ![0, 1, 2, 3] bcast_S1x4x16384x16384_S2x4x16384x16384_0_1_2_3 (broadcastInDim S1x4x16384x16384 ![1, 2, 3] bcast_S4x16384x16384_S1x4x16384x16384_1_2_3 (mulf (broadcastInDim S4x16384x16384 ![0, 1, 2] bcast_S4x1x1_S4x16384x16384_0_1_2 (Host.negf (broadcastInDim S4x1x1 ![0] bcast_S4_S4x1x1_0 A))) (broadcastInDim S4x16384x16384 ![0, 1, 2] bcast_S1x16384x16384_S4x16384x16384_0_1_2 (broadcastInDim S1x16384x16384 ![1, 2] bcast_S16384x16384_S1x16384x16384_1_2 (sitofp .f32 (absi (subi (broadcastInDim S16384x16384 ![0, 1] bcast_S16384x1_S16384x16384_0_1 (broadcastInDim S16384x1 ![0] bcast_S16384_S16384x1_0 (iotaInDim S16384 32 0))) (broadcastInDim S16384x16384 ![0, 1] bcast_S1x16384_S16384x16384_0_1 (broadcastInDim S1x16384 ![1] bcast_S16384_S1x16384_1 (iotaInDim S16384 32 0))))))))))

/-- The scores of one half, in the exponential's own base. -/
def SC (q k : Half) : Sc :=
  mulf (addf (Host.dotGeneral dot_S2x16384x4x64_S2x16384x4x64_S2x4x16384x16384_3_3_1_1_02_02 none q k) (BIAS A)) (broadcastInDim S2x4x16384x16384 ![] bcast_S_S2x4x16384x16384 (Host.log (constant S_ .f32 0x40000000#32)))

/-- Each query's largest score. -/
def MX (S : Sc) : FVec Ideal S2x4x16384 .f32 :=
  Cert.MlaRefIdeal.RefAt.rowMax S reducesTo_S2x4x16384x16384_S2x4x16384_d3 bcast_S_S2x4x16384

/-- The exponentials of the scores less the largest. -/
def EX (S : Sc) : Sc :=
  Host.exp (subf S (broadcastInDim S2x4x16384x16384 ![0, 1, 2, 3] bcast_S2x4x16384x1_S2x4x16384x16384_0_1_2_3 (broadcastInDim S2x4x16384x1 ![0, 1, 2] bcast_S2x4x16384_S2x4x16384x1_0_1_2 (MX S))))

/-- The weights of one half. -/
def WT (S : Sc) : Sc :=
  Host.divf (EX S) (broadcastInDim S2x4x16384x16384 ![0, 1, 2, 3] bcast_S2x4x16384x1_S2x4x16384x16384_0_1_2_3 (broadcastInDim S2x4x16384x1 ![0, 1, 2] bcast_S2x4x16384_S2x4x16384x1_0_1_2 (Host.reduceAdd (EX S) (constant S_ .f32 0x00000000#32) reducesTo_S2x4x16384x16384_S2x4x16384_d3 h_S_)))

/-- The second half's factor. -/
def LAM : FVec Ideal S_ .f32 :=
  addf (subf (Host.exp (Host.reduceAdd (mulf a b) (constant S_ .f32 0x00000000#32) reducesTo_S64_S_d0 h_S_)) (Host.exp (Host.reduceAdd (mulf a' b') (constant S_ .f32 0x00000000#32) reducesTo_S64_S_d0 h_S_))) (constant S_ .f32 0x3E4CCCCD#32)

/-- The values weighted by the difference of the two halves' weights. -/
def OUT (W W' : Sc) (l : FVec Ideal S_ .f32) : FVec Ideal S2x16384x4x128 .f32 :=
  transpose S2x16384x4x128 [0, 3, 1, 2] (Host.dotGeneral dot_S2x16384x4x128_S2x4x16384x16384_S2x4x128x16384_1_3_3_2_02_01 none (VV Z) (subf W (mulf (broadcastInDim S2x4x16384x16384 ![] bcast_S_S2x4x16384x16384 l) W'))) transposes_S2x4x128x16384_S2x16384x4x128_0_3_1_2

/-- Each head's result over its root mean square, times the gain and the constant. -/
def RMS (O : FVec Ideal S2x16384x4x128 .f32) : FVec Ideal S2x16384x4x128 .f32 :=
  mulf (mulf (mulf O (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf O O) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 G))) (broadcastInDim S2x16384x4x128 ![] bcast_S_S2x16384x4x128 (constant S_ .f32 0x3F4CCCCD#32))

/-- The two halves' scores. -/
def SL : Sc := SC A (lo (ZQ Z)) (lo (ZK Z))
def SH : Sc := SC A (hi (ZQ Z)) (hi (ZK Z))

/-- The reference's result. -/
def REF : FVec Ideal S32768x512 .bf16 :=
  truncf .bf16 (shapeCast _ (RMS G (OUT Z (WT (SL Z A)) (WT (SH Z A)) (LAM a b a' b'))) shapeCasts_S2x16384x4x128_S32768x512) bitsLt_bf16_f32

/-- The reference's run: its result array ends at `REF` of its arguments, which it leaves as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95)
        = REF (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run (F := Ideal) m ρ

theorem ZF_at (i : Fin 32768) (d : Fin 1536) : ZF Z (ix2 i d) = Z (ix2 i ⟨1536 + d.val, by omega⟩) := by
  pointwise [ZF]

theorem ZQ_at (s : Fin 2) (i : Fin 16384) (h : Fin 4) (e : Fin 2) (d : Fin 64) :
    ZQ Z (ix5 s i h e d) = ZF Z (ix2 ⟨s.val * 16384 + i.val, by omega⟩ ⟨h.val * 128 + e.val * 64 + d.val, by omega⟩) := by
  pointwise [ZQ]

theorem ZK_at (s : Fin 2) (i : Fin 16384) (h : Fin 4) (e : Fin 2) (d : Fin 64) :
    ZK Z (ix5 s i h e d) = ZF Z (ix2 ⟨s.val * 16384 + i.val, by omega⟩ ⟨512 + (h.val * 128 + e.val * 64 + d.val), by omega⟩) := by
  pointwise [ZK]

theorem lo_at (X : FVec Ideal S2x16384x4x2x64 .f32) (s : Fin 2) (i : Fin 16384) (h : Fin 4) (d : Fin 64) :
    lo X (ix4 s i h d) = X (ix5 s i h 0 d) := by
  pointwise [lo]

theorem hi_at (X : FVec Ideal S2x16384x4x2x64 .f32) (s : Fin 2) (i : Fin 16384) (h : Fin 4) (d : Fin 64) :
    hi X (ix4 s i h d) = X (ix5 s i h 1 d) := by
  pointwise [hi]

theorem VV_at (s : Fin 2) (i : Fin 16384) (h : Fin 4) (d : Fin 128) :
    VV Z (ix4 s i h d) = ZF Z (ix2 ⟨s.val * 16384 + i.val, by omega⟩ ⟨1024 + (h.val * 128 + d.val), by omega⟩) := by
  pointwise [VV]

theorem BIAS_at (s : Fin 2) (h : Fin 4) (i j : Fin 16384) :
    BIAS A (ix4 s h i j) = -(A (ix1 h)) * FloatOps.sitofp (F := Ideal) .f32 (IntOp.absi (IntOp.subi (BitVec.ofNat 32 i.val) (BitVec.ofNat 32 j.val))) := by
  pointwise [BIAS]

theorem SC_at (q k : Half) (s : Fin 2) (h : Fin 4) (i j : Fin 16384) :
    SC A q k (ix4 s h i j) = ((∑ d : Fin 64, q (ix4 s i h d) * k (ix4 s j h d)) + BIAS A (ix4 s h i j)) * Ideal.log (Ideal.ofBits .f32 1073741824#32) := by
  pointwise [SC]

theorem MX_at (S : Sc) (s : Fin 2) (h : Fin 4) (i : Fin 16384) :
    MX S (ix3 s h i) = max (Ideal.ofBits .f32 4286578688#32)
      ((Finset.univ : Finset (Fin 16384)).fold max (Ideal.ofBits .f32 4286578688#32) (fun j => S (ix4 s h i j))) := by
  rw [MX, Cert.MlaRefIdeal.RefAt.rowMax_at]

theorem EX_at (S : Sc) (s : Fin 2) (h : Fin 4) (i j : Fin 16384) :
    EX S (ix4 s h i j) = Ideal.exp (S (ix4 s h i j) - MX S (ix3 s h i)) := by
  pointwise [EX]

theorem WT_at (S : Sc) (s : Fin 2) (h : Fin 4) (i j : Fin 16384) :
    WT S (ix4 s h i j) = Ideal.div (EX S (ix4 s h i j)) (∑ l, EX S (ix4 s h i l)) := by
  pointwise [WT]

theorem LAM_at (x : S_.Idx) :
    LAM a b a' b' x = Ideal.exp (∑ d : Fin 64, a (ix1 d) * b (ix1 d)) - Ideal.exp (∑ d : Fin 64, a' (ix1 d) * b' (ix1 d)) + Ideal.ofBits .f32 0x3E4CCCCD#32 := by
  pointwise [LAM]

theorem OUT_at (W W' : Sc) (l : FVec Ideal S_ .f32) (s : Fin 2) (i : Fin 16384) (h : Fin 4) (d : Fin 128) :
    OUT Z W W' l (ix4 s i h d) = ∑ j : Fin 16384, VV Z (ix4 s j h d) * (W (ix4 s h i j) - l ix0 * W' (ix4 s h i j)) := by
  pointwise [OUT]

theorem RMS_at (O : FVec Ideal S2x16384x4x128 .f32) (s : Fin 2) (i : Fin 16384) (h : Fin 4) (d : Fin 128) :
    RMS G O (ix4 s i h d)
      = O (ix4 s i h d) * Ideal.rsqrt (Ideal.div (∑ e : Fin 128, O (ix4 s i h e) * O (ix4 s i h e)) (Ideal.ofBits .f32 0x43000000#32) + Ideal.ofBits .f32 0x358637BD#32)
        * G (ix1 d) * Ideal.ofBits .f32 0x3F4CCCCD#32 := by
  pointwise [RMS]

theorem REF_at (i : Fin 32768) (d : Fin 512) :
    REF Z A a b a' b' G (ix2 i d)
      = RMS G (OUT Z (WT (SL Z A)) (WT (SH Z A)) (LAM a b a' b')) (ix4 ⟨i.val / 16384, by omega⟩ ⟨i.val % 16384, by omega⟩ ⟨d.val / 128, by omega⟩ ⟨d.val % 128, by omega⟩) := by
  pointwise [REF]

end Cert.DiffRefIdeal.RefAt
-- ==== Proof.DiffSoftmax.lean ====
module

public import proofs.«01_k».proof.Proof.DiffRefAt
public import proofs.«01_k».proof.Proof.FlashMath
public import proofs.«01_k».proof.Proof.MlaSoftmax

@[expose] public section

/-!
# The differential reference's result for finite arguments

With finite projections, slopes and factors, each half's attention is the average of the column of values by the weights
`Flash.weight` of its scores: the product of query and key less the slope times their distance.
-/

set_option maxRecDepth 16384

noncomputable section

open Idealize.ShloMosaic Idealize.ShloMosaic.TcCoe Idealize.SL.Sem

namespace Cert.DiffRefIdeal.RefAt

open Cert.DiffRefIdeal Cert.DiffRefIdeal.Gen

/-- The words of two small numbers: their difference and its magnitude. -/
theorem sub_toInt (i j : ℕ) (hi : i < 16384) (hj : j < 16384) :
    (IntOp.subi (BitVec.ofNat 32 i) (BitVec.ofNat 32 j)).toInt = (i : ℤ) - j := by
  show (BitVec.ofNat 32 i - BitVec.ofNat 32 j).toInt = _
  rw [BitVec.toInt_sub, BitVec.toInt_ofNat', BitVec.toInt_ofNat']
  simp only [Int.bmod]
  omega

theorem abs_toInt (i j : ℕ) (hi : i < 16384) (hj : j < 16384) :
    (IntOp.absi (IntOp.subi (BitVec.ofNat 32 i) (BitVec.ofNat 32 j))).toInt = |(i : ℤ) - j| := by
  have h := sub_toInt i j hi hj
  unfold IntOp.absi
  rw [BitVec.msb_eq_toInt, h]
  by_cases c : (i : ℤ) - j < 0
  · rw [decide_eq_true c, if_pos rfl, abs_of_neg c, BitVec.toInt_neg, h]
    simp only [Int.bmod]
    omega
  · rw [decide_eq_false c, if_neg (by decide), h, abs_of_nonneg (not_lt.1 c)]

variable (Z : FVec Ideal S32768x3072 .bf16) (A : FVec Ideal S4 .f32)

/-- The projections that the differential attention uses are real numbers, and so are the slopes. -/
def RealZ : Prop := ∀ (i : Fin 32768) (d : Fin 1536), ∃ r : ℝ, ZF Z (ix2 i d) = (r : EReal)
def RealA : Prop := ∀ h : Fin 4, ∃ r : ℝ, A (ix1 h) = (r : EReal)

/-- One of the two halves of a head: the product of a query and a key over its 64 columns. -/
def prod (e : Fin 2) (s : Fin 2) (h : Fin 4) (i j : Fin 16384) : EReal :=
  ∑ d : Fin 64, ZF Z (ix2 ⟨s.val * 16384 + i.val, by omega⟩ ⟨h.val * 128 + e.val * 64 + d.val, by omega⟩)
    * ZF Z (ix2 ⟨s.val * 16384 + j.val, by omega⟩ ⟨512 + (h.val * 128 + e.val * 64 + d.val), by omega⟩)

/-- The score of query `i` of sequence `s` and head `h` with key `j` in half `e`, as a real number. -/
def score (e : Fin 2) (s : Fin 2) (h : Fin 4) (i : Fin 16384) (j : ℕ) : ℝ :=
  if hj : j < 16384 then (prod Z e s h i ⟨j, hj⟩).toReal - (A (ix1 h)).toReal * ((|(i.val : ℤ) - (j : ℤ)| : ℤ) : ℝ) else 0

/-- The values. -/
def val (s : Fin 2) (h : Fin 4) (d : Fin 128) (j : ℕ) : EReal := if hj : j < 16384 then VV Z (ix4 s ⟨j, hj⟩ h d) else 0

/-- The scores of half `e`, as the reference has them. -/
def SE (e : Fin 2) : Sc := if e = 0 then SL Z A else SH Z A

variable {Z A}

theorem prod_real (hZ : RealZ Z) (e : Fin 2) (s : Fin 2) (h : Fin 4) (i j : Fin 16384) : prod Z e s h i j = ((prod Z e s h i j).toReal : EReal) := by
  unfold RealZ at hZ
  choose z hz using hZ
  unfold prod
  simp only [hz, ← EReal.coe_mul, Flash.coe_sum, EReal.toReal_coe]

theorem SC_coe (q k : Half) (e : Fin 2) (hZ : RealZ Z) (hA : RealA A) (s : Fin 2) (h : Fin 4) (i j : Fin 16384)
    (hp : (∑ d : Fin 64, q (ix4 s i h d) * k (ix4 s j h d)) = prod Z e s h i j) :
    SC A q k (ix4 s h i j) = ((score Z A e s h i j.val * Real.log 2 : ℝ) : EReal) := by
  obtain ⟨α, hα⟩ := hA h
  have hd : FloatOps.sitofp (F := Ideal) .f32 (IntOp.absi (IntOp.subi (BitVec.ofNat 32 i.val) (BitVec.ofNat 32 j.val)))
      = (((|(i.val : ℤ) - (j.val : ℤ)| : ℤ) : ℝ) : EReal) := by
    rw [← abs_toInt i.val j.val i.isLt j.isLt]
    rfl
  rw [SC_at, hp, prod_real hZ, BIAS_at, hd, hα, score, dif_pos j.isLt, hα, EReal.toReal_coe, Cert.MlaRefIdeal.RefAt.two_f32, Ideal.log_coe,
    if_neg (by norm_num), ← EReal.coe_neg, ← EReal.coe_mul, ← EReal.coe_add, EReal.coe_mul]
  refine congrArg (fun x : ℝ => (x : EReal) * _) ?_
  ring

theorem SE_coe (hZ : RealZ Z) (hA : RealA A) (e : Fin 2) (s : Fin 2) (h : Fin 4) (i j : Fin 16384) :
    SE Z A e (ix4 s h i j) = ((score Z A e s h i j.val * Real.log 2 : ℝ) : EReal) := by
  unfold SE
  by_cases he : e = 0
  · subst he
    rw [if_pos rfl]
    refine SC_coe _ _ 0 hZ hA s h i j (Finset.sum_congr rfl fun d _ => ?_)
    rw [lo_at, lo_at, ZQ_at, ZK_at]
  · obtain rfl : e = 1 := by omega
    rw [if_neg he]
    refine SC_coe _ _ 1 hZ hA s h i j (Finset.sum_congr rfl fun d _ => ?_)
    rw [hi_at, hi_at, ZQ_at, ZK_at]

theorem WT_eq (hZ : RealZ Z) (hA : RealA A) (e : Fin 2) (s : Fin 2) (h : Fin 4) (i j : Fin 16384) :
    WT (SE Z A e) (ix4 s h i j) = ((Flash.weight (score Z A e s h i) 16384 j.val : ℝ) : EReal) := by
  obtain ⟨M, hM⟩ := Flash.fold_max_coe (C := 16384) (by decide) (fun j => SE Z A e (ix4 s h i j)) _ (SE_coe hZ hA e s h i)
  have hX : MX (SE Z A e) (ix3 s h i) = (M : EReal) := by
    rw [MX_at, Cert.MlaRefIdeal.RefAt.neg_inf_f32, hM]
    exact max_eq_right bot_le
  rw [WT_at]
  simp only [EX_at, hX]
  exact Flash.softmax_at (fun j => SE Z A e (ix4 s h i j)) (SE_coe hZ hA e s h i) M j

/-- Half `e`'s attention. -/
def ATT (Z : FVec Ideal S32768x3072 .bf16) (A : FVec Ideal S4 .f32) (e : Fin 2) (s : Fin 2) (h : Fin 4) (i : Fin 16384) (d : Fin 128) : EReal :=
  ∑ k ∈ Finset.range 16384, ((Flash.weight (score Z A e s h i) 16384 k : ℝ) : EReal) * val Z s h d k

/-- The difference of the halves' attentions is the attention by the difference of the weights. -/
theorem OUT_eq (hZ : RealZ Z) (hA : RealA A) (l : FVec Ideal S_ .f32) (lam : ℝ) (hl : l ix0 = (lam : EReal)) (s : Fin 2) (i : Fin 16384) (h : Fin 4) (d : Fin 128) :
    OUT Z (WT (SL Z A)) (WT (SH Z A)) l (ix4 s i h d) = ATT Z A 0 s h i d - (lam : EReal) * ATT Z A 1 s h i d := by
  have hv : ∀ j : Fin 16384, ∃ r : ℝ, VV Z (ix4 s j h d) = (r : EReal) := fun j => by rw [VV_at]; exact hZ _ _
  choose v hv using hv
  have w0 : ∀ j, WT (SL Z A) (ix4 s h i j) = ((Flash.weight (score Z A 0 s h i) 16384 j.val : ℝ) : EReal) := WT_eq hZ hA 0 s h i
  have w1 : ∀ j, WT (SH Z A) (ix4 s h i j) = ((Flash.weight (score Z A 1 s h i) 16384 j.val : ℝ) : EReal) := WT_eq hZ hA 1 s h i
  have hr : ∀ j : Fin 16384, val Z s h d j.val = (v j : EReal) := fun j => by rw [val, dif_pos j.isLt]; exact hv j
  rw [OUT_at]
  unfold ATT
  simp only [Finset.sum_range, hr, hv, w0, w1, hl, ← EReal.coe_mul, ← EReal.coe_sub, Flash.coe_sum]
  rw [Finset.mul_sum, ← Finset.sum_sub_distrib]
  refine congrArg _ (Finset.sum_congr rfl fun j _ => ?_)
  ring

end Cert.DiffRefIdeal.RefAt
-- ==== Proof.DiffState.lean ====
module

public import proofs.«01_k».proof.Proof.DiffBlocks
public import proofs.«01_k».proof.Proof.DiffRow
public import proofs.«01_k».proof.Proof.DiffSoftmax

@[expose] public section

/-!
# The masked queries and the biases

Rows 0 to 511 of the kept queries hold the queries with the second half of their columns zero, rows 512 to 1023 the same
queries with the first half zero, so that one product over 128 columns gives one half's score. The three kept biases are
the slope's multiples of a key's place less the query's, for a key block before, at and after the query block; the shift
of a trip completes them to the distance of query and key.
-/

set_option maxRecDepth 16384

noncomputable section

open Idealize.ShloMosaic Idealize.ShloMosaic.TcCoe Idealize.SL.Sem

namespace Cert.DiffIdeal.Trip

open Cert.DiffIdeal Cert.DiffIdeal.Gen Cert.DiffRefIdeal.RefAt

variable (m : (ℓ : Loc nD τ sig) → Buf (Elt Ideal) ℓ) (c : Dev nD) (t : Fin cfg0.N)

/-- The queries laid down. -/
theorem qs0_at (r : Fin 1024) (d : Fin 128) :
    qs0 m c t (ix2 r d) = if d.val / 64 = r.val / 512
      then aZ m c (ix2 ⟨t.val / 8 % 64 * 512 + r.val % 512, by omega⟩ ⟨(12 + t.val / 512) * 128 + d.val, by have := lt_of_lt_of_eq t.isLt N_0; omega⟩) else 0 := by
  unfold qs0
  by_cases h : 512 ≤ r.val
  · refine (View.read_writes_cons_unit_of_mem scM0_0.view _ _ _ _ (ix2 r d) (ix2 (⟨r.val - 512, by omega⟩ : Fin 512) d) rfl ?_).trans ?_
    · intro a
      fin_cases a
      · show r.val = 512 + (r.val - 512)
        omega
      · show d.val = 0 + d.val
        omega
    rw [pay13_at, iq_at]
    by_cases hd : d.val < 64
    · rw [if_pos hd, if_neg (by omega)]
    · rw [if_neg hd, if_pos (by omega)]
      refine congrArg _ (congrArg₂ ix2 (Fin.ext ?_) rfl)
      show t.val / 8 % 64 * 512 + (r.val - 512) = t.val / 8 % 64 * 512 + r.val % 512
      omega
  · refine (View.read_writes_cons_unit_of_not_mem scM0_0.view _ _ _ _ (ix2 r d) rfl 0 (Or.inl (not_le.1 h))).trans ?_
    refine (View.read_writes_cons_unit_of_mem scM0_0.view _ _ _ _ (ix2 r d) (ix2 (⟨r.val, by omega⟩ : Fin 512) d) rfl ?_).trans ?_
    · intro a
      fin_cases a
      · show r.val = 0 + r.val
        omega
      · show d.val = 0 + d.val
        omega
    rw [pay12_at, iq_at]
    by_cases hd : d.val < 64
    · rw [if_pos hd, if_pos (by omega)]
      refine congrArg _ (congrArg₂ ix2 (Fin.ext ?_) rfl)
      show t.val / 8 % 64 * 512 + r.val = t.val / 8 % 64 * 512 + r.val % 512
      omega
    · rw [if_neg hd, if_neg (by omega)]

/-- A query's place in its block less a key's place in its block. -/
theorem dist_at (r : Fin 1024) (n : Fin 512) :
    k0_pay1 (F := Ideal) k0_pay14 (ix2 r n) = (((((r.val % 512 : ℕ) : ℤ) - (n.val : ℤ) : ℤ) : ℝ) : EReal) := by
  rw [pay1_at, pay14_at, ← sub_toInt (r.val % 512) n.val (by omega) (by omega)]
  rfl

/-- The three biases for a slope and a difference of places. -/
def plane (α : ℝ) (w : ℕ) (D : ℤ) : ℝ := if w = 0 then -α * (D : ℝ) else if w = 1 then -α * ((|D| : ℤ) : ℝ) else α * (D : ℝ)

/-- The biases laid down. -/
theorem bi0_at (α : ℝ) (hα : slope m c t = (α : EReal)) (w : Fin 3) (r : Fin 1024) (n : Fin 512) :
    bi0 m c t (ix3 w r n) = ((plane α w.val (((r.val % 512 : ℕ) : ℤ) - (n.val : ℤ)) : ℝ) : EReal) := by
  unfold bi0
  have tail : ∀ (o : ℕ) (a : Fin 3) (hw : w.val = o), ((ix3 w r n : S3x1024x512.Idx) a).val = (![o, 0, 0] : Fin 3 → ℕ) a + ((ix3 (0 : Fin 1) r n : S1x1024x512.Idx) a).val := by
    intro o a hw
    fin_cases a
    · show w.val = o + 0
      omega
    · show r.val = 0 + r.val
      omega
    · show n.val = 0 + n.val
      omega
  have hz : (0 : EReal) - (α : EReal) = ((-α : ℝ) : EReal) := by rw [zero_sub, EReal.coe_neg]
  by_cases h2 : w.val = 2
  · refine (View.read_writes_cons_unit_of_mem scM0_4.view _ _ _ _ (ix3 w r n) (ix3 (0 : Fin 1) r n) rfl fun a => tail 2 a h2).trans ?_
    rw [pay4_at, dist_at, hα, ← EReal.coe_mul, plane, if_neg (by omega), if_neg (by omega)]
  refine (View.read_writes_cons_unit_of_not_mem scM0_4.view _ _ _ _ (ix3 w r n) rfl 0 (Or.inl (show w.val < 2 by omega))).trans ?_
  by_cases h1 : w.val = 1
  · refine (View.read_writes_cons_unit_of_mem scM0_4.view _ _ _ _ (ix3 w r n) (ix3 (0 : Fin 1) r n) rfl fun a => tail 1 a h1).trans ?_
    have ha : ∀ D : ℤ, FloatOps.absf (F := Ideal) (φ := .f32) (((D : ℝ) : EReal)) = (((|D| : ℤ) : ℝ) : EReal) := fun D => by
      show max (((D : ℝ) : EReal)) (-((D : ℝ) : EReal)) = _
      rw [← EReal.coe_neg, ← EReal.coe_strictMono.monotone.map_max, Int.cast_abs]
      rfl
    rw [pay3_at, dist_at, hα, hz, ha, ← EReal.coe_mul, plane, if_neg (by omega), if_pos h1]
  refine (View.read_writes_cons_unit_of_not_mem scM0_4.view _ _ _ _ (ix3 w r n) rfl 0 (Or.inl (show w.val < 1 by omega))).trans ?_
  refine (View.read_writes_cons_unit_of_mem scM0_4.view _ _ _ _ (ix3 w r n) (ix3 (0 : Fin 1) r n) rfl fun a => tail 0 a (by omega)).trans ?_
  rw [pay2_at, dist_at, hα, hz, ← EReal.coe_mul, plane, if_pos (by omega)]

/-- The first point of the query block. -/
abbrev start : Fin cfg0.N := ⟨t.val / 8 * 8, Nat.lt_of_le_of_lt (Nat.div_mul_le_self _ _) t.isLt⟩

/-- Every point holds what the first point of its query block laid down. -/
theorem kept (n : ℕ) : ∀ hn : n < cfg0.N, qsA m c ⟨n, hn⟩ = qs0 m c (start ⟨n, hn⟩) ∧ biA m c ⟨n, hn⟩ = bi0 m c (start ⟨n, hn⟩) := by
  induction n with
  | zero =>
    intro hn
    have e : start ⟨0, hn⟩ = ⟨0, hn⟩ := Fin.ext (show 0 / 8 * 8 = 0 by omega)
    rw [e]
    exact lays m c ⟨0, hn⟩ (Nat.zero_mod 8) (by show ¬ 0 % 8 = 7; decide)
  | succ n ih =>
    intro hn
    by_cases h0 : (n + 1) % 8 = 0
    · have e : start ⟨n + 1, hn⟩ = ⟨n + 1, hn⟩ := Fin.ext (show (n + 1) / 8 * 8 = n + 1 by omega)
      rw [e]
      exact lays m c ⟨n + 1, hn⟩ h0 (by show ¬ (n + 1) % 8 = 7; omega)
    · have e : start ⟨n + 1, hn⟩ = start ⟨n, Nat.lt_of_succ_lt hn⟩ := Fin.ext (show (n + 1) / 8 * 8 = n / 8 * 8 by omega)
      rw [e]
      have hp := ih (Nat.lt_of_succ_lt hn)
      by_cases h1 : (n + 1) % 8 = 7
      · have hk := keeps_C m c ⟨n + 1, hn⟩ h0 h1
        exact ⟨hk.1.trans hp.1, hk.2.trans hp.2⟩
      · have hk := keeps_B m c ⟨n + 1, hn⟩ h0 h1
        exact ⟨hk.1.trans hp.1, hk.2.trans hp.2⟩

theorem qs_at (r : Fin 1024) (d : Fin 128) :
    qsA m c t (ix2 r d) = if d.val / 64 = r.val / 512
      then aZ m c (ix2 ⟨t.val / 8 % 64 * 512 + r.val % 512, by omega⟩ ⟨(12 + t.val / 512) * 128 + d.val, by have := lt_of_lt_of_eq t.isLt N_0; omega⟩) else 0 := by
  rw [(kept m c t.val t.isLt).1, qs0_at]
  refine if_congr Iff.rfl (congrArg _ (congrArg₂ ix2 (Fin.ext ?_) (Fin.ext ?_))) rfl
  · show t.val / 8 * 8 / 8 % 64 * 512 + r.val % 512 = t.val / 8 % 64 * 512 + r.val % 512
    omega
  · show (12 + t.val / 8 * 8 / 512) * 128 + d.val = (12 + t.val / 512) * 128 + d.val
    omega

theorem bi_at (α : ℝ) (hα : slope m c t = (α : EReal)) (w : Fin 3) (r : Fin 1024) (n : Fin 512) :
    biA m c t (ix3 w r n) = ((plane α w.val (((r.val % 512 : ℕ) : ℤ) - (n.val : ℤ)) : ℝ) : EReal) := by
  rw [(kept m c t.val t.isLt).2]
  refine bi0_at m c _ α ?_ w r n
  rw [← hα, slope_at, slope_at]
  refine congrArg _ (congrArg ix1 (Fin.ext ?_))
  show t.val / 8 * 8 / 512 = t.val / 512
  omega

/-- A trip's shift: the slope times the distance of the query block and the key block. -/
def shift (α : ℝ) (k : ℕ) : ℝ := -α * (((512 * ((t.val / 8 % 32 : ℕ) : ℤ) - 512 * ((4 * (t.val % 8) + k : ℕ) : ℤ)).natAbs : ℤ) : ℝ)

theorem shift_at (α : ℝ) (hα : slope m c t = (α : EReal)) (k : Fin k0_t1_loop.trips) (d : Fin 128) :
    k0_pay16 (F := Ideal) (w3 t) (slope m c t) (w5 t) 0#32 1#32 k (ix2 0 d) = ((shift t α k.val : ℝ) : EReal) := by
  have g := gap ⟨t.val / 8 % 32, by omega⟩ ⟨t.val % 8, by omega⟩ k
  rw [pay16_at, hα, zero_sub, ← EReal.coe_neg]
  unfold w3 w5
  rw [(coords t).1, (coords t).2.1]
  unfold shift
  rw [EReal.coe_mul, ← g]
  rfl

/-- A kept bias and the shift make the slope times the distance. -/
theorem bias_add (α : ℝ) (qb kb ρ n : ℕ) (hρ : ρ < 512) (hn : n < 512) :
    plane α (which qb kb) ((ρ : ℤ) - (n : ℤ)) + -α * (((512 * (qb : ℤ) - 512 * (kb : ℤ)).natAbs : ℤ) : ℝ)
      = -(α * ((|((512 * qb + ρ : ℕ) : ℤ) - ((512 * kb + n : ℕ) : ℤ)| : ℤ) : ℝ)) := by
  unfold which plane
  by_cases h : kb < qb
  · rw [if_pos h, if_pos rfl, abs_of_nonneg (by omega), Int.natAbs_of_nonneg (by omega)]
    push_cast
    ring
  by_cases h' : kb = qb
  · subst h'
    rw [if_neg h, if_pos rfl, if_neg (by decide), if_pos rfl]
    have e : ((512 * kb + ρ : ℕ) : ℤ) - ((512 * kb + n : ℕ) : ℤ) = (ρ : ℤ) - (n : ℤ) := by push_cast; ring
    rw [e, sub_self]
    simp
  · rw [if_neg h, if_neg h', if_neg (by decide), if_neg (by decide), abs_of_neg (by omega)]
    have e : ((512 * (qb : ℤ) - 512 * (kb : ℤ)).natAbs : ℤ) = -(512 * (qb : ℤ) - 512 * (kb : ℤ)) := by omega
    rw [e]
    push_cast
    ring

/-- A product masked to one half is the sum over that half. -/
theorem mask_sum (e : Fin 2) (f : Fin 128 → EReal) :
    (∑ d : Fin 128, if d.val / 64 = e.val then f d else 0) = ∑ d : Fin 64, f ⟨e.val * 64 + d.val, by omega⟩ := by
  refine (Fin.sum_univ_add (a := 64) (b := 64) (fun d : Fin 128 => if d.val / 64 = e.val then f d else 0)).trans ?_
  by_cases he : e = 0
  · subst he
    have z : (∑ i : Fin 64, if (Fin.natAdd 64 i).val / 64 = (0 : Fin 2).val then f (Fin.natAdd 64 i) else 0) = 0 :=
      Finset.sum_eq_zero fun i _ => if_neg (by rw [Fin.val_natAdd]; show ¬ (64 + i.val) / 64 = 0; omega)
    refine (congrArg₂ (· + ·) (Finset.sum_congr rfl fun i _ => ?_) z).trans (add_zero _)
    refine (if_pos (by rw [Fin.val_castAdd]; show i.val / 64 = 0; omega)).trans (congrArg f (Fin.ext ?_))
    show i.val = 0 * 64 + i.val
    omega
  · obtain rfl : e = 1 := by omega
    have z : (∑ i : Fin 64, if (Fin.castAdd 64 i).val / 64 = (1 : Fin 2).val then f (Fin.castAdd 64 i) else 0) = 0 :=
      Finset.sum_eq_zero fun i _ => if_neg (by rw [Fin.val_castAdd]; show ¬ i.val / 64 = 1; omega)
    refine (congrArg₂ (· + ·) z (Finset.sum_congr rfl fun i _ => ?_)).trans (zero_add _)
    refine (if_pos (by rw [Fin.val_natAdd]; show (64 + i.val) / 64 = 1; omega)).trans (congrArg f (Fin.ext ?_))
    show 64 + i.val = 1 * 64 + i.val
    omega

end Cert.DiffIdeal.Trip
-- ==== Proof.DiffValue.lean ====
module

public import proofs.«01_k».proof.Proof.DiffState

@[expose] public section

/-!
# The differential attention kernel's result

After every grid point the carried arrays hold, for both halves of a head, the running state of the keys met so far; at a
query block's last point all 16384 keys are met, and the normalized difference of the halves is the reference's result.
-/

set_option maxRecDepth 16384

noncomputable section

open Idealize.ShloMosaic Idealize.ShloMosaic.TcCoe Idealize.SL.Sem

namespace Cert.DiffIdeal.Trip

open Cert.DiffIdeal Cert.DiffIdeal.Gen Cert.DiffRefIdeal.RefAt

variable (m : (ℓ : Loc nD τ sig) → Buf (Elt Ideal) ℓ) (c : Dev nD)

/-- A point's sequence, head and query row, and the half that a carried row belongs to. -/
def bat (t : Fin cfg0.N) : Fin 2 := ⟨t.val / 256 % 2, by omega⟩
def head (t : Fin cfg0.N) : Fin 4 := ⟨t.val / 512, by have := lt_of_lt_of_eq t.isLt N_0; omega⟩
def row (t : Fin cfg0.N) (r : ℕ) : Fin 16384 := ⟨t.val / 8 % 32 * 512 + r % 512, by omega⟩
def half (r : Fin 1024) : Fin 2 := ⟨r.val / 512, by omega⟩

/-- A row's scores and a column's values at a point. -/
abbrev sc (t : Fin cfg0.N) (r : Fin 1024) : ℕ → ℝ := score (aZ m c) (aS m c) (half r) (bat t) (head t) (row t r.val)
abbrev vl (t : Fin cfg0.N) (d : Fin 128) : ℕ → EReal := val (aZ m c) (bat t) (head t) d

variable {m c}

/-- A masked product of a query and a key is the product over the row's half. -/
theorem prod_at (t : Fin cfg0.N) (X : BufTy.Contents (Elt Ideal) scM0_4.view.ty) (k : Fin k0_t1_loop.trips) (r : Fin 1024) (x : Fin 512)
    (j : Fin 16384) (hj : j.val = t.val % 8 * 2048 + 512 * k.val + x.val) :
    (∑ d : Fin 128, qsA m c t (ix2 r d) * (inp m c t X k).1 (ix2 x d)) = prod (aZ m c) (half r) (bat t) (head t) (row t r.val) j := by
  have ht := lt_of_lt_of_eq t.isLt N_0
  have hk := lt_of_lt_of_eq k.isLt trips_eq
  have hr := r.isLt
  refine (Finset.sum_congr rfl fun d _ => ?_).trans ((mask_sum (half r) fun d =>
    aZ m c (ix2 ⟨t.val / 8 % 64 * 512 + r.val % 512, by omega⟩ ⟨(12 + t.val / 512) * 128 + d.val, by omega⟩)
      * aZ m c (ix2 ⟨(t.val / 256 % 2 * 8 + t.val % 8) * 2048 + (512 * k.val + x.val), by omega⟩ ⟨(16 + t.val / 512) * 128 + d.val, by omega⟩)).trans ?_)
  · rw [qs_at, ink_at, ik_at, ite_mul, zero_mul]
    rfl
  · unfold prod
    refine Finset.sum_congr rfl fun d _ => ?_
    rw [ZF_at, ZF_at]
    refine congrArg₂ (· * ·) (congrArg _ (congrArg₂ ix2 (Fin.ext ?_) (Fin.ext ?_))) (congrArg _ (congrArg₂ ix2 (Fin.ext ?_) (Fin.ext ?_)))
    · show t.val / 8 % 64 * 512 + r.val % 512 = t.val / 256 % 2 * 16384 + (t.val / 8 % 32 * 512 + r.val % 512)
      omega
    · show (12 + t.val / 512) * 128 + (r.val / 512 * 64 + d.val) = 1536 + (t.val / 512 * 128 + r.val / 512 * 64 + d.val)
      omega
    · show (t.val / 256 % 2 * 8 + t.val % 8) * 2048 + (512 * k.val + x.val) = t.val / 256 % 2 * 16384 + j.val
      omega
    · show (16 + t.val / 512) * 128 + (r.val / 512 * 64 + d.val) = 1536 + (512 + (t.val / 512 * 128 + r.val / 512 * 64 + d.val))
      omega

/-- The four trips of a point, from the state before it. -/
theorem row_point (hZ : RealZ (aZ m c)) (hA : RealA (aS m c)) (t : Fin cfg0.N) (r : Fin 1024) (d : Fin 128) {s : St} (hp : Point m c t s)
    (h : Row (sc m c t r) (vl m c t d) (t.val % 8 * 2048) s r d) : Row (sc m c t r) (vl m c t d) ((t.val % 8 + 1) * 2048) (tri m c t) r d := by
  have ht := lt_of_lt_of_eq t.isLt N_0
  have e : (t.val % 8 + 1) * 2048 = t.val % 8 * 2048 + 512 * 4 := by omega
  obtain ⟨X, hX, he⟩ := hp
  obtain ⟨α, hα⟩ := hA (head t)
  have hs : slope m c t = (α : EReal) := (slope_at m c t).trans hα
  rw [e, he]
  refine row_fold (w3 t) (slope m c t) (w5 t) (qsA m c t) (inp m c t X) h (fun j => shift t α j.val) (fun j e => shift_at m c t α hs j e) ?_ ?_ 4 trips_eq.ge
  · intro j x
    have hj := lt_of_lt_of_eq j.isLt trips_eq
    have hn : t.val % 8 * 2048 + 512 * j.val + x.val < 16384 := by omega
    refine ⟨(prod (aZ m c) (half r) (bat t) (head t) (row t r.val) ⟨_, hn⟩).toReal
      + plane α (which (t.val / 8 % 32) (4 * (t.val % 8) + j.val)) (((r.val % 512 : ℕ) : ℤ) - (x.val : ℤ)), ?_, ?_⟩
    · rw [pay15_at, inb_at, hX, bi_at m c t α hs, prod_at t X j r x ⟨_, hn⟩ rfl, EReal.coe_add, ← prod_real hZ]
    · have e1 : (row t r.val).val = 512 * (t.val / 8 % 32) + r.val % 512 := by
        show t.val / 8 % 32 * 512 + r.val % 512 = _
        omega
      have e2 : t.val % 8 * 2048 + 512 * j.val + x.val = 512 * (4 * (t.val % 8) + j.val) + x.val := by omega
      have hb := bias_add α (t.val / 8 % 32) (4 * (t.val % 8) + j.val) (r.val % 512) x.val (by omega) x.isLt
      rw [← e1, ← e2] at hb
      unfold sc score
      rw [dif_pos hn, hα, EReal.toReal_coe, add_assoc, sub_eq_add_neg]
      exact congrArg _ hb
  · intro j x
    have hj := lt_of_lt_of_eq j.isLt trips_eq
    have hn : t.val % 8 * 2048 + 512 * j.val + x.val < 16384 := by omega
    unfold vl val
    rw [dif_pos hn, inv_at, iv_at, VV_at, ZF_at]
    refine congrArg _ (congrArg₂ ix2 (Fin.ext ?_) (Fin.ext ?_))
    · show (t.val / 256 % 2 * 8 + t.val % 8) * 2048 + (512 * j.val + x.val) = t.val / 256 % 2 * 16384 + (t.val % 8 * 2048 + 512 * j.val + x.val)
      omega
    · show (20 + t.val / 512) * 128 + d.val = 1536 + (1024 + (t.val / 512 * 128 + d.val))
      omega

/-- The first point of a query block. -/
theorem row_first (hZ : RealZ (aZ m c)) (hA : RealA (aS m c)) (t : Fin cfg0.N) (h0 : t.val % 8 = 0) (r : Fin 1024) (d : Fin 128) :
    Row (sc m c t r) (vl m c t d) ((t.val % 8 + 1) * 2048) (tri m c t) r d := by
  refine row_point hZ hA t r d (case_A m c t h0 (by omega)) ?_
  rw [h0]
  exact row_init

/-- Every point: the state of the keys met so far. -/
theorem row_upto (hZ : RealZ (aZ m c)) (hA : RealA (aS m c)) (r : Fin 1024) (d : Fin 128) (n : ℕ) : ∀ hn : n < cfg0.N,
    Row (sc m c ⟨n, hn⟩ r) (vl m c ⟨n, hn⟩ d) ((n % 8 + 1) * 2048) (tri m c ⟨n, hn⟩) r d := by
  induction n with
  | zero => exact fun hn => row_first hZ hA ⟨0, hn⟩ (Nat.zero_mod 8) r d
  | succ n ih =>
    intro hn
    by_cases h0 : (n + 1) % 8 = 0
    · exact row_first hZ hA ⟨n + 1, hn⟩ h0 r d
    · have hp := ih (Nat.lt_of_succ_lt hn)
      have e1 : bat ⟨n, Nat.lt_of_succ_lt hn⟩ = bat ⟨n + 1, hn⟩ := Fin.ext (by simp only [bat]; omega)
      have e2 : head ⟨n, Nat.lt_of_succ_lt hn⟩ = head ⟨n + 1, hn⟩ := Fin.ext (by simp only [head]; omega)
      have e3 : row ⟨n, Nat.lt_of_succ_lt hn⟩ r.val = row ⟨n + 1, hn⟩ r.val := Fin.ext (by simp only [row]; omega)
      have e5 : n % 8 + 1 = (n + 1) % 8 := by omega
      unfold sc vl at hp
      rw [e1, e2, e3, e5] at hp
      by_cases h1 : (n + 1) % 8 = 7
      · exact row_point hZ hA ⟨n + 1, hn⟩ r d (case_C m c ⟨n + 1, hn⟩ h0 h1) hp
      · exact row_point hZ hA ⟨n + 1, hn⟩ r d (case_B m c ⟨n + 1, hn⟩ h0 h1) hp

/-- A half's quotient at the last point is the half's attention. -/
theorem quot_at (hZ : RealZ (aZ m c)) (hA : RealA (aS m c)) (t : Fin cfg0.N) (h7 : t.val % 8 = 7) (r : Fin 1024) (d : Fin 128) :
    Ideal.div ((tri m c t).2.2 (ix2 r d)) ((tri m c t).2.1 (ix2 r d)) = ATT (aZ m c) (aS m c) (half r) (bat t) (head t) (row t r.val) d := by
  have hr := (row_upto hZ hA r d t.val t.isLt).2
  have e8 : (t.val % 8 + 1) * 2048 = 16384 := by omega
  rw [e8] at hr
  exact hr.final (by omega)

/-- The difference of the halves. -/
theorem dif_at (hZ : RealZ (aZ m c)) (hA : RealA (aS m c)) (l : FVec Ideal Cert.DiffRefIdeal.S_ .f32) (lam : ℝ) (hl : l ix0 = (lam : EReal))
    (t : Fin cfg0.N) (h7 : t.val % 8 = 7) (r : Fin 512) (d : Fin 128) :
    dif (tri m c t).2.2 (tri m c t).2.1 (l ix0) r d = OUT (aZ m c) (WT (SL (aZ m c) (aS m c))) (WT (SH (aZ m c) (aS m c))) l (ix4 (bat t) (row t r.val) (head t) d) := by
  rw [OUT_eq hZ hA l lam hl, hl]
  unfold dif
  rw [quot_at hZ hA t h7, quot_at hZ hA t h7]
  have e0 : half ⟨r.val, by omega⟩ = 0 := Fin.ext (show r.val / 512 = 0 by omega)
  have e1 : half ⟨512 + r.val, by omega⟩ = 1 := Fin.ext (show (512 + r.val) / 512 = 1 by omega)
  have e2 : row t (512 + r.val) = row t r.val := Fin.ext (show t.val / 8 % 32 * 512 + (512 + r.val) % 512 = t.val / 8 % 32 * 512 + r.val % 512 by omega)
  rw [e0, e1]
  show _ - _ * ATT _ _ _ _ _ (row t (512 + r.val)) _ = _
  rw [e2]

/-- The second half's factor is the reference's. -/
theorem klam_at (t : Fin cfg0.N) :
    klam (iblk m c 1 t) (iblk m c 2 t) (iblk m c 3 t) (iblk m c 4 t) = LAM (a1 m c) (a2 m c) (a3 m c) (a4 m c) ix0 := by
  rw [LAM_at]
  unfold klam
  simp only [i1_at, i2_at, i3_at, i4_at]

/-- The result array after the run is the reference's result. -/
theorem arr_eq (hZ : RealZ (aZ m c)) (hA : RealA (aS m c)) (lam : ℝ) (hl : LAM (a1 m c) (a2 m c) (a3 m c) (a4 m c) ix0 = (lam : EReal)) :
    (dats m 0 c).arrAt 9 cfg0.N = REF (aZ m c) (aS m c) (a1 m c) (a2 m c) (a3 m c) (a4 m c) (aG m c) := by
  refine (dats m 0 c).arrAt_eq_of_covers 9 _ (by decide +kernel) fun t hf y => ?_
  have ht := lt_of_lt_of_eq t.isLt N_0
  have h7 : t.val % 8 = 7 := (flush0_9 t).mp hf
  blk_simp [idx t]
  rw [after0_9]
  obtain ⟨r, d, rfl⟩ : ∃ (r : Fin 512) (d : Fin 128), y = ix2 r d := ⟨y 0, y 1, eq_ix2 y⟩
  have e : (win0_9.blk t).view.emb (ix2 r d) = ix2 (⟨t.val / 8 % 64 * 512 + r.val, by omega⟩ : Fin 32768) (⟨t.val / 512 * 128 + d.val, by omega⟩ : Fin 512) := by
    blk_ext [idx t]
  have e4 : (ix4 ⟨(t.val / 8 % 64 * 512 + r.val) / 16384, by omega⟩ ⟨(t.val / 8 % 64 * 512 + r.val) % 16384, by omega⟩
      ⟨(t.val / 512 * 128 + d.val) / 128, by omega⟩ ⟨(t.val / 512 * 128 + d.val) % 128, by omega⟩ : Cert.DiffRefIdeal.S2x16384x4x128.Idx)
      = ix4 (bat t) (row t r.val) (head t) d := by
    refine congr (congr (congr (congrArg ix4 (Fin.ext ?_)) (Fin.ext ?_)) (Fin.ext ?_)) (Fin.ext ?_)
    · show (t.val / 8 % 64 * 512 + r.val) / 16384 = t.val / 256 % 2
      omega
    · show (t.val / 8 % 64 * 512 + r.val) % 16384 = t.val / 8 % 32 * 512 + r.val % 512
      omega
    · show (t.val / 512 * 128 + d.val) / 128 = t.val / 512
      omega
    · show (t.val / 512 * 128 + d.val) % 128 = d.val
      omega
  rw [e, REF_at, e4, RMS_at, out_C m c t (by omega) h7, pay8_at, pay21_at, pay22_at, i5_at, klam_at]
  simp only [dif_at hZ hA _ lam hl t h7]

end Cert.DiffIdeal.Trip
-- ==== Proof.DiffClaim.lean ====
module

public import proofs.«01_k».proof.Defs
public import proofs.«01_k».proof.Proof.Gen.Diff.Frame
public import proofs.«01_k».proof.Proof.MlaClaim
public import proofs.«01_k».proof.Proof.DiffValue
public import Idealize.ShloMosaic.Lib.ReduceAll
public import Idealize.ShloMosaic.Lib.Claim

@[expose] public section

/-!
# The differential attention's claims

Under the precondition that the projections it reads, the slopes and the factors' vectors are finite, the kernel's array is
the reference's result.
-/

set_option maxRecDepth 16384

noncomputable section

open Idealize.ShloMosaic Idealize.SL.Sem

namespace Cert.DiffClaim

instance facts : Cert.Pre_finite_diff.Facts where
  slices_S32768x3072_S32768x1536_0_1536 := by decide
  bitsLt_bf16_f32 := by decide
  bcast_S_S32768x1536 := by decide
  reducesTo_S32768x1536_S_d0_1 := by decide
  h_S_ := by decide
  bcast_S_S4 := by decide
  reducesTo_S4_S_d0 := by decide
  bcast_S_S64 := by decide
  reducesTo_S64_S_d0 := by decide

theorem frame_P : Cert.quiescent_Diff := fun m g _ => Cert.Diff.Gen.frame m g

theorem frame_PI : Cert.quiescent_DiffIdeal := fun m g _ => Cert.DiffIdeal.Gen.frame m g

theorem frame_PI' : Cert.quiescent_DiffIdeal_pre_finite_diff := fun m g _ => Cert.DiffIdeal.Gen.frame m g

theorem frame_RI : Cert.quiescent_DiffRefIdeal := fun m g _ =>
  (θ_run Cert.DiffRefIdeal.defs _ _).mono (fun r h => ⟨fun c => (h c).2, sem_eq_zero_of_no_sems (by decide) r.2⟩)
    (Cert.DiffRefIdeal.Value.run m g)

theorem frame_RI' : Cert.quiescent_DiffRefIdeal_pre_finite_diff := fun m g _ => frame_RI m g trivial

/-- The named mask is the least extended real. -/
theorem preserves : Cert.preserves_Diff_DiffIdeal :=
  IdealRules.named_const.statement Cert.DiffIdeal.κ "mask" .f32 0xF149F2CA#32 ⊥ rfl

instance : Subsingleton Cert.Pre_finite_diff.S_.Idx := ⟨fun a b => funext fun i => i.elim0⟩

/-- The bits of the kernel's first factor are a real number's. -/
theorem init_real : ∃ r : ℝ, Ideal.ofBits .f32 0x3E4CCCCD#32 = (r : EReal) := ⟨_, by
  simp only [Ideal.ofBits, Ideal.ieee]
  rfl⟩

/-- A product of two real vectors is real. -/
theorem dot_real (a b : FVec Ideal Cert.Pre_finite_diff.S64 .f32) (ha : ∀ x, ∃ r : ℝ, a x = (r : EReal)) (hb : ∀ x, ∃ r : ℝ, b x = (r : EReal)) :
    ∃ r : ℝ, (∑ d : Fin 64, a (ix1 d) * b (ix1 d)) = (r : EReal) := by
  choose f hf using ha
  choose g hg using hb
  refine ⟨∑ d : Fin 64, f (ix1 d) * g (ix1 d), ?_⟩
  simp only [hf, hg, ← EReal.coe_mul, Flash.coe_sum]

open Cert.DiffRefIdeal.RefAt in
/-- The precondition says that the projections, the slopes and the second half's factor are real numbers. -/
theorem finite (Z : FVec Ideal Cert.Pre_finite_diff.S32768x3072 .bf16) (A : FVec Ideal Cert.Pre_finite_diff.S4 .f32)
    (a b a' b' : FVec Ideal Cert.Pre_finite_diff.S64 .f32) (G : FVec Ideal Cert.Pre_finite_diff.S128 .f32)
    (h : Cert.Pre_finite_diff.fn (F := Ideal) Z A a b a' b' G = fun _ => 1#1) :
    RealZ Z ∧ RealA A ∧ ∃ lam : ℝ, LAM a b a' b' ix0 = (lam : EReal) := by
  have h0 : Cert.Pre_finite_diff.fn (F := Ideal) Z A a b a' b' G (Shape.Idx.first (by decide)) = 1#1 := congrFun h _
  dsimp only [Cert.Pre_finite_diff.fn, Cert.Pre_finite_diff.fn_part1] at h0
  obtain ⟨h0, k4⟩ := IntOp.andi_eq_one.1 h0
  obtain ⟨h0, k3⟩ := IntOp.andi_eq_one.1 h0
  obtain ⟨h0, k2⟩ := IntOp.andi_eq_one.1 h0
  obtain ⟨h0, k1⟩ := IntOp.andi_eq_one.1 h0
  obtain ⟨kZ, kA⟩ := IntOp.andi_eq_one.1 h0
  have r1 : ∀ x, ∃ r : ℝ, a x = (r : EReal) := fun x => MlaClaim.real_of_abs_lt (Host.reduce_andi_all _ _ _ _ _ k1 x)
  have r2 : ∀ x, ∃ r : ℝ, b x = (r : EReal) := fun x => MlaClaim.real_of_abs_lt (Host.reduce_andi_all _ _ _ _ _ k2 x)
  have r3 : ∀ x, ∃ r : ℝ, a' x = (r : EReal) := fun x => MlaClaim.real_of_abs_lt (Host.reduce_andi_all _ _ _ _ _ k3 x)
  have r4 : ∀ x, ∃ r : ℝ, b' x = (r : EReal) := fun x => MlaClaim.real_of_abs_lt (Host.reduce_andi_all _ _ _ _ _ k4 x)
  refine ⟨fun i d => ?_, fun x => MlaClaim.real_of_abs_lt (Host.reduce_andi_all _ _ _ _ _ kA (ix1 x)), ?_⟩
  · exact MlaClaim.real_of_abs_lt (Host.reduce_andi_all _ _ _ _ _ kZ (ix2 i d))
  · obtain ⟨x, hx⟩ := dot_real a b r1 r2
    obtain ⟨y, hy⟩ := dot_real a' b' r3 r4
    obtain ⟨z, hz⟩ := init_real
    refine ⟨Real.exp x - Real.exp y + z, ?_⟩
    rw [LAM_at, hx, hy, hz, Ideal.exp_coe, Ideal.exp_coe, ← EReal.coe_sub, ← EReal.coe_add]

/-- The kernel's array is the reference's result on the same arguments. -/
theorem algebraic : Cert.algebraic_DiffIdeal_DiffRefIdeal_pre_finite_diff := by
  pair_intro
  · run_from Cert.DiffIdeal.Gen.run_main m g
  · refine θ_run_mono (Cert.DiffRefIdeal.RefAt.run m' g') fun r hr c => ?_
    obtain ⟨hc, ha0, ha1, ha2, ha3, ha4, ha5, ha6⟩ := hr c
    obtain ⟨h0, h1, h2, h3, h4, h5, h6⟩ := hagree c
    rw [h0, h1, h2, h3, h4, h5, h6] at hc
    obtain ⟨hZ, hA, lam, hl⟩ := finite _ _ _ _ _ _ _ (hpre c)
    exact ⟨hc.trans (Cert.DiffIdeal.Trip.arr_eq hZ hA lam hl).symm, ha0, ha1, ha2, ha3, ha4, ha5, ha6⟩

end Cert.DiffClaim
-- ==== Proof.lean ====
module

public import proofs.«01_k».proof.Defs
public import proofs.«01_k».proof.Proof.Gen.MlaIdeal.Value
public import proofs.«01_k».proof.Proof.Gen.MlaRefIdeal.Run
public import proofs.«01_k».proof.Proof.Gen.FfnIdeal.Value
public import proofs.«01_k».proof.Proof.Gen.FfnRefIdeal.Run
public import proofs.«01_k».proof.Proof.Gen.InIdeal.Value
public import proofs.«01_k».proof.Proof.Gen.InRefIdeal.Run
public import proofs.«01_k».proof.Proof.Gen.OutIdeal.Value
public import proofs.«01_k».proof.Proof.Gen.OutRefIdeal.Run
public import proofs.«01_k».proof.Proof.Gen.PleIdeal.Value
public import proofs.«01_k».proof.Proof.Gen.PleRefIdeal.Run
public import proofs.«01_k».proof.Proof.Gen.InfIdeal.Value
public import proofs.«01_k».proof.Proof.Gen.InfRefIdeal.Run
public import proofs.«01_k».proof.Proof.Gen.FinsIdeal.Value
public import proofs.«01_k».proof.Proof.Gen.FinsRefIdeal.Run
public import proofs.«01_k».proof.Proof.Gen.DiffIdeal.Value
public import proofs.«01_k».proof.Proof.Gen.DiffRefIdeal.Run
public import proofs.«01_k».proof.Proof.Gen.FinIdeal.Value
public import proofs.«01_k».proof.Proof.Gen.FinRefIdeal.Run
public import proofs.«01_k».proof.Proof.MlaFrames
public import proofs.«01_k».proof.Proof.MlaClaim
public import proofs.«01_k».proof.Proof.FfnClaim
public import proofs.«01_k».proof.Proof.InClaim
public import proofs.«01_k».proof.Proof.OutClaim
public import proofs.«01_k».proof.Proof.PleClaim
public import proofs.«01_k».proof.Proof.FinClaim
public import proofs.«01_k».proof.Proof.InfClaim
public import proofs.«01_k».proof.Proof.FinsClaim
public import proofs.«01_k».proof.Proof.DiffClaim
public import Idealize.ShloMosaic.Adequacy
public import Idealize.ShloMosaic.Init

@[expose] public section

/-! The certificate, assembled from the claims of each call. -/

noncomputable section

namespace Cert.Proof

open Idealize.ShloMosaic Idealize.SL.Sem

theorem claim : Cert.Claim :=
  ⟨Cert.Mla.Gen.facts, Cert.MlaIdeal.Gen.facts, Cert.MlaRefIdeal.Gen.facts, Cert.Ffn.Gen.facts, Cert.FfnIdeal.Gen.facts,
    Cert.FfnRefIdeal.Gen.facts,
    Cert.In.Gen.facts, Cert.InIdeal.Gen.facts, Cert.InRefIdeal.Gen.facts,
    Cert.Out.Gen.facts, Cert.OutIdeal.Gen.facts, Cert.OutRefIdeal.Gen.facts,
    Cert.Ple.Gen.facts, Cert.PleIdeal.Gen.facts, Cert.PleRefIdeal.Gen.facts,
    Cert.Fin.Gen.facts, Cert.FinIdeal.Gen.facts, Cert.FinRefIdeal.Gen.facts,
    Cert.Inf.Gen.facts, Cert.InfIdeal.Gen.facts, Cert.InfRefIdeal.Gen.facts,
    Cert.Fins.Gen.facts, Cert.FinsIdeal.Gen.facts, Cert.FinsRefIdeal.Gen.facts,
    Cert.Diff.Gen.facts, Cert.DiffIdeal.Gen.facts, Cert.DiffRefIdeal.Gen.facts,
    MlaClaim.facts, DiffClaim.facts,
    MlaFrames.frame_P, MlaFrames.frame_PI, MlaClaim.frame_PI, MlaFrames.frame_RI, MlaClaim.frame_RI,
    FfnClaim.frame_P, FfnClaim.frame_PI, FfnClaim.frame_RI,
    InClaim.frame_P, InClaim.frame_PI, InClaim.frame_RI,
    OutClaim.frame_P, OutClaim.frame_PI, OutClaim.frame_RI,
    PleClaim.frame_P, PleClaim.frame_PI, PleClaim.frame_RI,
    FinClaim.frame_P, FinClaim.frame_PI, FinClaim.frame_RI,
    InfClaim.frame_P, InfClaim.frame_PI, InfClaim.frame_RI,
    FinsClaim.frame_P, FinsClaim.frame_PI, FinsClaim.frame_RI,
    DiffClaim.frame_P, DiffClaim.frame_PI, DiffClaim.frame_PI', DiffClaim.frame_RI, DiffClaim.frame_RI',
    MlaFrames.preserves, MlaClaim.algebraic, trivial, FfnClaim.algebraic,
    trivial, InClaim.algebraic, trivial, OutClaim.algebraic, trivial, PleClaim.algebraic, trivial, FinClaim.algebraic, trivial, InfClaim.algebraic,
    trivial, FinsClaim.algebraic, DiffClaim.preserves, DiffClaim.algebraic⟩

end Cert.Proof

end
